-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "scale2" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v38_0)) (v1 : (c : Dev Cert.Kernel4Ideal.nD) → Buf (Elt Ideal) ((c.tc : Thread Cert.Kernel4Ideal.nD Cert.Kernel4Ideal.τ).loc Cert.Kernel4Ideal.main_v38_1)) (v2 : (c : Dev Cert.Kernel4Ideal.nD) → Buf (Elt Ideal) ((c.tc : Thread Cert.Kernel4Ideal.nD Cert.Kernel4Ideal.τ).loc Cert.Kernel4Ideal.main_v38_2)) (v3 : (c : Dev Cert.Kernel4Ideal.nD) → Buf (Elt Ideal) ((c.tc : Thread Cert.Kernel4Ideal.nD Cert.Kernel4Ideal.τ).loc Cert.Kernel4Ideal.main_v38_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v38_0) = v0 c
          ∧ r.2.mem ((c.tc : Thread Cert.Kernel4Ideal.nD Cert.Kernel4Ideal.τ).loc Cert.Kernel4Ideal.main_v38_1) = v1 c
          ∧ r.2.mem ((c.tc : Thread Cert.Kernel4Ideal.nD Cert.Kernel4Ideal.τ).loc Cert.Kernel4Ideal.main_v38_2) = v2 c
          ∧ r.2.mem ((c.tc : Thread Cert.Kernel4Ideal.nD Cert.Kernel4Ideal.τ).loc Cert.Kernel4Ideal.main_v38_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v66) = v2 c
          ∧ r.2.mem ((c.tc : Thread Cert.Reference4Ideal.nD Cert.Reference4Ideal.τ).loc Cert.Reference4Ideal.main_v68) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S2x8192x16x64 : Shape := ⟨4, ![2, 8192, 16, 64]⟩
abbrev S_ : Shape := ⟨0, ![]⟩

class Facts : Prop where
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  h_S_ : 0 < S_.numel

variable [Facts]

def fn {F : FTy → Type} [FloatOps F] (main_arg0 : FVec F S2x8192x16x64 .f32) (main_arg1 : FVec F S2x8192x16x64 .f32) (main_arg2 : FVec F S2x8192x16x64 .f32) : IVec S_ 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_c : IVec S_ 1 := constantI S_ 1 1#1
  let main_v3 : IVec S_ 1 := (fun x v => Host.reduce IntOp.andi x v reducesTo_S2x8192x16x64_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  main_v8
-- ==== Kernel.lean ====
abbrev S2x8192x16x64 : Shape := ⟨4, ![2, 8192, 16, 64]⟩
abbrev S2x8192x1024 : Shape := ⟨3, ![2, 8192, 1024]⟩
abbrev S2x1024x8192 : Shape := ⟨3, ![2, 1024, 8192]⟩
abbrev S2x32x256x1024 : Shape := ⟨4, ![2, 32, 256, 1024]⟩
abbrev S2x32x1024x256 : Shape := ⟨4, ![2, 32, 1024, 256]⟩
abbrev S_ : Shape := ⟨0, ![]⟩
abbrev S2x32x1024 : Shape := ⟨3, ![2, 32, 1024]⟩
abbrev S1x256x256 : Shape := ⟨3, ![1, 256, 256]⟩
abbrev S1x8192x256 : Shape := ⟨3, ![1, 8192, 256]⟩
abbrev S1x32x256x256 : Shape := ⟨4, ![1, 32, 256, 256]⟩
abbrev S1x32x256 : Shape := ⟨3, ![1, 32, 256]⟩
abbrev S4x128x256 : Shape := ⟨3, ![4, 128, 256]⟩
abbrev S4x32x256 : Shape := ⟨3, ![4, 32, 256]⟩
abbrev S4x1x256 : Shape := ⟨3, ![4, 1, 256]⟩
abbrev S4x64x256 : Shape := ⟨3, ![4, 64, 256]⟩
abbrev S4x256x256 : Shape := ⟨3, ![4, 256, 256]⟩
abbrev S4x512x256 : Shape := ⟨3, ![4, 512, 256]⟩
abbrev S128x256 : Shape := ⟨2, ![128, 256]⟩
abbrev S1x128x256 : Shape := ⟨3, ![1, 128, 256]⟩
abbrev S1x32x128 : Shape := ⟨3, ![1, 32, 128]⟩
abbrev S32x128 : Shape := ⟨2, ![32, 128]⟩
abbrev S64x128 : Shape := ⟨2, ![64, 128]⟩
abbrev S64x256 : Shape := ⟨2, ![64, 256]⟩
abbrev S32x256 : Shape := ⟨2, ![32, 256]⟩
abbrev S256 : Shape := ⟨1, ![256]⟩
abbrev S1x256 : Shape := ⟨2, ![1, 256]⟩
abbrev S1x1x256 : Shape := ⟨3, ![1, 1, 256]⟩
abbrev S1x64x256 : Shape := ⟨3, ![1, 64, 256]⟩
abbrev S256x256 : Shape := ⟨2, ![256, 256]⟩
abbrev S256x128 : Shape := ⟨2, ![256, 128]⟩
abbrev S1x512x256 : Shape := ⟨3, ![1, 512, 256]⟩
abbrev S512x256 : Shape := ⟨2, ![512, 256]⟩
abbrev S512x128 : Shape := ⟨2, ![512, 128]⟩
abbrev S1x1x256x256 : Shape := ⟨4, ![1, 1, 256, 256]⟩

abbrev nBuf : Space → Nat
  | .hbm => 17
  | .vmem => 18
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S2x8192x1024, .f32⟩
  | .hbm, ⟨4, _⟩ => ⟨S2x1024x8192, .f32⟩
  | .hbm, ⟨5, _⟩ => ⟨S2x8192x1024, .f32⟩
  | .hbm, ⟨6, _⟩ => ⟨S2x8192x1024, .bf16⟩
  | .hbm, ⟨7, _⟩ => ⟨S2x32x256x1024, .f32⟩
  | .hbm, ⟨8, _⟩ => ⟨S2x32x1024x256, .f32⟩
  | .hbm, ⟨9, _⟩ => ⟨S2x32x1024x256, .bf16⟩
  | .hbm, ⟨10, _⟩ => ⟨S2x32x256x1024, .f32⟩
  | .hbm, ⟨11, _⟩ => ⟨S_, .f32⟩
  | .hbm, ⟨12, _⟩ => ⟨S2x32x1024, .f32⟩
  | .hbm, ⟨13, _⟩ => ⟨S_, .f32⟩
  | .hbm, ⟨14, _⟩ => ⟨S2x32x1024, .f32⟩
  | .hbm, ⟨15, _⟩ => ⟨S2x32x1024, .f32⟩
  | .hbm, ⟨16, _⟩ => ⟨S2x8192x1024, .f32⟩
  | .local _ .vmem, ⟨0, _⟩ => ⟨S1x256x256, .f32⟩
  | .local _ .vmem, ⟨1, _⟩ => ⟨S1x256x256, .f32⟩
  | .local _ .vmem, ⟨2, _⟩ => ⟨S1x8192x256, .bf16⟩
  | .local _ .vmem, ⟨3, _⟩ => ⟨S1x8192x256, .bf16⟩
  | .local _ .vmem, ⟨4, _⟩ => ⟨S1x32x256x256, .bf16⟩
  | .local _ .vmem, ⟨5, _⟩ => ⟨S1x32x256x256, .bf16⟩
  | .local _ .vmem, ⟨6, _⟩ => ⟨S1x32x256, .f32⟩
  | .local _ .vmem, ⟨7, _⟩ => ⟨S1x32x256, .f32⟩
  | .local _ .vmem, ⟨8, _⟩ => ⟨S1x256x256, .f32⟩
  | .local _ .vmem, ⟨9, _⟩ => ⟨S1x256x256, .f32⟩
  | .local _ .vmem, ⟨10, _⟩ => ⟨S4x128x256, .bf16⟩
  | .local _ .vmem, ⟨11, _⟩ => ⟨S4x32x256, .f32⟩
  | .local _ .vmem, ⟨12, _⟩ => ⟨S4x1x256, .f32⟩
  | .local _ .vmem, ⟨13, _⟩ => ⟨S4x1x256, .f32⟩
  | .local _ .vmem, ⟨14, _⟩ => ⟨S4x64x256, .f32⟩
  | .local _ .vmem, ⟨15, _⟩ => ⟨S4x256x256, .f32⟩
  | .local _ .vmem, ⟨16, _⟩ => ⟨S4x512x256, .f32⟩
  | .local _ .vmem, ⟨17, _⟩ => ⟨S4x512x256, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 32], ![false, false, false]⟩

def k0_mult1 (i : grid0.Coords) : BitVec 32 :=
  let arg2 : BitVec 32 := BitVec.ofNat 32 (i 2).val
  let c31_i32 : BitVec 32 := 31#32
  let v473 : BitVec 32 := Scalar.minsi arg2 c31_i32
  let c256_i32 : BitVec 32 := 256#32
  let v474 : BitVec 32 := Scalar.muli v473 c256_i32
  v474
def k0_off1 (i : grid0.Coords) : Fin 3 → Nat :=
  let c0_186 : Index := 0#32
  let arg2 : BitVec 32 := BitVec.ofNat 32 (i 2).val
  let c31_i32 : BitVec 32 := 31#32
  let v473 : BitVec 32 := Scalar.minsi arg2 c31_i32
  let c256_i32 : BitVec 32 := 256#32
  let v474 : BitVec 32 := Scalar.muli v473 c256_i32
  let v475 : BitVec 32 := v474
  let v476 : Index := Scalar.indexCast v475
  let c0_187 : Index := 0#32
  ![0, v476.toNat, 0]
def k0_mult2 : BitVec 32 :=
  let c0_i32_216 : BitVec 32 := 0#32
  let c30_i32 : BitVec 32 := 30#32
  let v507 : BitVec 32 := Scalar.minsi c0_i32_216 c30_i32
  let c256_i32_217 : BitVec 32 := 256#32
  let v508 : BitVec 32 := Scalar.muli v507 c256_i32_217
  v508
def k0_off2 : Fin 3 → Nat :=
  let c0_218 : Index := 0#32
  let c0_i32_216 : BitVec 32 := 0#32
  let c30_i32 : BitVec 32 := 30#32
  let v507 : BitVec 32 := Scalar.minsi c0_i32_216 c30_i32
  let c256_i32_217 : BitVec 32 := 256#32
  let v508 : BitVec 32 := Scalar.muli v507 c256_i32_217
  let v509 : BitVec 32 := v508
  let v510 : Index := Scalar.indexCast v509
  let c0_219 : Index := 0#32
  ![0, v510.toNat, 0]
def k0_off3 (i : grid0.Coords) : Fin 4 → Nat :=
  let c0_249 : Index := 0#32
  let arg2 : BitVec 32 := BitVec.ofNat 32 (i 2).val
  let c31_i32_248 : BitVec 32 := 31#32
  let v541 : BitVec 32 := Scalar.minsi arg2 c31_i32_248
  let v542 : Index := Scalar.indexCast v541
  let c0_250 : Index := 0#32
  let c0_251 : Index := 0#32
  ![0, v542.toNat, 0, 0]
@[reducible] def k0_t1_loop (i : grid0.Coords) : Scf.Loop 32 :=
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_373 : BitVec 32 := 1#32
  ⟨c0_i32_371, v759, c1_i32_373⟩
def k0_cond1 (i : grid0.Coords) (k0_t1 : Fin (k0_t1_loop i).trips) : BitVec 1 :=
  let c0_i32_371 : BitVec 32 := 0#32
  let c1_i32_373 : BitVec 32 := 1#32
  let arg16 : BitVec 32 := Scf.iv c0_i32_371 c1_i32_373 k0_t1
  let c2_i32_402 : BitVec 32 := 2#32
  let c0_i32_403 : BitVec 32 := 0#32
  let v789 : BitVec 1 := Scalar.cmpi .eq c2_i32_402 c0_i32_403
  let c1_i32_404 : BitVec 32 := 1#32
  let v790 : BitVec 32 := Scalar.select v789 c1_i32_404 c2_i32_402
  let v791 : BitVec 32 := Scalar.remsi arg16 v790
  let c0_i32_406 : BitVec 32 := 0#32
  let v793 : BitVec 1 := Scalar.cmpi .slt v791 c0_i32_406
  let c0_i32_407 : BitVec 32 := 0#32
  let v794 : BitVec 1 := Scalar.cmpi .slt v790 c0_i32_407
  let v795 : BitVec 1 := Scalar.xori v793 v794
  let c0_i32_405 : BitVec 32 := 0#32
  let v792 : BitVec 1 := Scalar.cmpi .ne v791 c0_i32_405
  let v796 : BitVec 1 := Scalar.andi v795 v792
  let v797 : BitVec 32 := Scalar.addi v791 v790
  let v798 : BitVec 32 := Scalar.select v796 v797 v791
  let c0_i32_408 : BitVec 32 := 0#32
  let v799 : BitVec 1 := Scalar.cmpi .eq v798 c0_i32_408
  let v800 : BitVec 32 := Scalar.extui v799
  let c0_i32_409 : BitVec 32 := 0#32
  let v801 : BitVec 1 := Scalar.cmpi .ne v800 c0_i32_409
  v801

def k0_mult3 (i : grid0.Coords) (k0_t1 : Fin (k0_t1_loop i).trips) : BitVec 32 :=
  let c2_i32_410 : BitVec 32 := 2#32
  let c0_i32_371 : BitVec 32 := 0#32
  let c1_i32_373 : BitVec 32 := 1#32
  let arg16 : BitVec 32 := Scf.iv c0_i32_371 c1_i32_373 k0_t1
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  v805
def k0_off4 (i : grid0.Coords) (k0_t1 : Fin (k0_t1_loop i).trips) : Fin 3 → Nat :=
  let c0_414 : Index := 0#32
  let c2_i32_410 : BitVec 32 := 2#32
  let c0_i32_371 : BitVec 32 := 0#32
  let c1_i32_373 : BitVec 32 := 1#32
  let arg16 : BitVec 32 := Scf.iv c0_i32_371 c1_i32_373 k0_t1
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  let v806 : BitVec 32 := v805
  let v807 : Index := Scalar.indexCast v806
  let c0_415 : Index := 0#32
  ![0, v807.toNat, 0]
def k0_off5 (i : grid0.Coords) (k0_t1 : Fin (k0_t1_loop i).trips) : Fin 4 → Nat :=
  let c0_446 : Index := 0#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v840 : Index := Scalar.indexCast v839
  let c0_447 : Index := 0#32
  let c0_448 : Index := 0#32
  ![0, v840.toNat, 0, 0]
def k0_off6 (i : grid0.Coords) (k0_t1 : Fin (k0_t1_loop i).trips) : Fin 3 → Nat :=
  let c0_452 : Index := 0#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v845 : Index := Scalar.indexCast v839
  let c0_453 : Index := 0#32
  ![0, v845.toNat, 0]
def k0_off7 (i : grid0.Coords) (k0_t1 : Fin (k0_t1_loop i).trips) : Fin 3 → Nat :=
  let c1_473 : Index := 1#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v881 : Index := Scalar.indexCast v839
  let c0_474 : Index := 0#32
  ![1, v881.toNat, 0]
def k0_off8 (i : grid0.Coords) (k0_t1 : Fin (k0_t1_loop i).trips) : Fin 3 → Nat :=
  let c2_494 : Index := 2#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v917 : Index := Scalar.indexCast v839
  let c0_495 : Index := 0#32
  ![2, v917.toNat, 0]
def k0_off9 (i : grid0.Coords) (k0_t1 : Fin (k0_t1_loop i).trips) : Fin 3 → Nat :=
  let c3_515 : Index := 3#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v953 : Index := Scalar.indexCast v839
  let c0_516 : Index := 0#32
  ![3, v953.toNat, 0]
def k0_off10 (i : grid0.Coords) (k0_t1 : Fin (k0_t1_loop i).trips) : Fin 4 → Nat :=
  let c0_568 : Index := 0#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1046 : Index := Scalar.indexCast v1045
  let c0_569 : Index := 0#32
  let c0_570 : Index := 0#32
  ![0, v1046.toNat, 0, 0]
def k0_off11 (i : grid0.Coords) (k0_t1 : Fin (k0_t1_loop i).trips) : Fin 3 → Nat :=
  let c0_573 : Index := 0#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1051 : Index := Scalar.indexCast v1045
  let c0_574 : Index := 0#32
  ![0, v1051.toNat, 0]
def k0_off12 (i : grid0.Coords) (k0_t1 : Fin (k0_t1_loop i).trips) : Fin 3 → Nat :=
  let c1_594 : Index := 1#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1087 : Index := Scalar.indexCast v1045
  let c0_595 : Index := 0#32
  ![1, v1087.toNat, 0]
def k0_off13 (i : grid0.Coords) (k0_t1 : Fin (k0_t1_loop i).trips) : Fin 3 → Nat :=
  let c2_615 : Index := 2#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1123 : Index := Scalar.indexCast v1045
  let c0_616 : Index := 0#32
  ![2, v1123.toNat, 0]
def k0_off14 (i : grid0.Coords) (k0_t1 : Fin (k0_t1_loop i).trips) : Fin 3 → Nat :=
  let c3_636 : Index := 3#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1159 : Index := Scalar.indexCast v1045
  let c0_637 : Index := 0#32
  ![3, v1159.toNat, 0]
def k0_mult4 (i : grid0.Coords) (k0_t1 : Fin (k0_t1_loop i).trips) : BitVec 32 :=
  let c2_i32_410 : BitVec 32 := 2#32
  let c0_i32_371 : BitVec 32 := 0#32
  let c1_i32_373 : BitVec 32 := 1#32
  let arg16 : BitVec 32 := Scf.iv c0_i32_371 c1_i32_373 k0_t1
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  v805
def k0_off15 (i : grid0.Coords) (k0_t1 : Fin (k0_t1_loop i).trips) : Fin 3 → Nat :=
  let c0_414 : Index := 0#32
  let c2_i32_410 : BitVec 32 := 2#32
  let c0_i32_371 : BitVec 32 := 0#32
  let c1_i32_373 : BitVec 32 := 1#32
  let arg16 : BitVec 32 := Scf.iv c0_i32_371 c1_i32_373 k0_t1
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  let v806 : BitVec 32 := v805
  let v807 : Index := Scalar.indexCast v806
  let c0_415 : Index := 0#32
  ![0, v807.toNat, 0]
def k0_off16 (i : grid0.Coords) (k0_t1 : Fin (k0_t1_loop i).trips) : Fin 4 → Nat :=
  let c0_446 : Index := 0#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v840 : Index := Scalar.indexCast v839
  let c0_447 : Index := 0#32
  let c0_448 : Index := 0#32
  ![0, v840.toNat, 0, 0]
def k0_off17 (i : grid0.Coords) (k0_t1 : Fin (k0_t1_loop i).trips) : Fin 3 → Nat :=
  let c0_452 : Index := 0#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v845 : Index := Scalar.indexCast v839
  let c0_453 : Index := 0#32
  ![0, v845.toNat, 0]
def k0_off18 (i : grid0.Coords) (k0_t1 : Fin (k0_t1_loop i).trips) : Fin 3 → Nat :=
  let c1_473 : Index := 1#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v881 : Index := Scalar.indexCast v839
  let c0_474 : Index := 0#32
  ![1, v881.toNat, 0]
def k0_off19 (i : grid0.Coords) (k0_t1 : Fin (k0_t1_loop i).trips) : Fin 3 → Nat :=
  let c2_494 : Index := 2#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v917 : Index := Scalar.indexCast v839
  let c0_495 : Index := 0#32
  ![2, v917.toNat, 0]
def k0_off20 (i : grid0.Coords) (k0_t1 : Fin (k0_t1_loop i).trips) : Fin 3 → Nat :=
  let c3_515 : Index := 3#32
  let c2_i32_444 : BitVec 32 := 2#32
  let c0_i32_371 : BitVec 32 := 0#32
  let c1_i32_373 : BitVec 32 := 1#32
  let arg16 : BitVec 32 := Scf.iv c0_i32_371 c1_i32_373 k0_t1
  let v838 : BitVec 32 := Scalar.muli c2_i32_444 arg16
  let c31_i32_445 : BitVec 32 := 31#32
  let v839 : BitVec 32 := Scalar.minsi v838 c31_i32_445
  let v953 : Index := Scalar.indexCast v839
  let c0_516 : Index := 0#32
  ![3, v953.toNat, 0]
def k0_off21 (i : grid0.Coords) (k0_t1 : Fin (k0_t1_loop i).trips) : Fin 4 → Nat :=
  let c0_568 : Index := 0#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1046 : Index := Scalar.indexCast v1045
  let c0_569 : Index := 0#32
  let c0_570 : Index := 0#32
  ![0, v1046.toNat, 0, 0]
def k0_off22 (i : grid0.Coords) (k0_t1 : Fin (k0_t1_loop i).trips) : Fin 3 → Nat :=
  let c0_573 : Index := 0#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1051 : Index := Scalar.indexCast v1045
  let c0_574 : Index := 0#32
  ![0, v1051.toNat, 0]
def k0_off23 (i : grid0.Coords) (k0_t1 : Fin (k0_t1_loop i).trips) : Fin 3 → Nat :=
  let c1_594 : Index := 1#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1087 : Index := Scalar.indexCast v1045
  let c0_595 : Index := 0#32
  ![1, v1087.toNat, 0]
def k0_off24 (i : grid0.Coords) (k0_t1 : Fin (k0_t1_loop i).trips) : Fin 3 → Nat :=
  let c2_615 : Index := 2#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1123 : Index := Scalar.indexCast v1045
  let c0_616 : Index := 0#32
  ![2, v1123.toNat, 0]
def k0_off25 (i : grid0.Coords) (k0_t1 : Fin (k0_t1_loop i).trips) : Fin 3 → Nat :=
  let c3_636 : Index := 3#32
  let c2_i32_565 : BitVec 32 := 2#32
  let c0_i32_371 : BitVec 32 := 0#32
  let c1_i32_373 : BitVec 32 := 1#32
  let arg16 : BitVec 32 := Scf.iv c0_i32_371 c1_i32_373 k0_t1
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1159 : Index := Scalar.indexCast v1045
  let c0_637 : Index := 0#32
  ![3, v1159.toNat, 0]
@[reducible] def k0_t2_loop (i : grid0.Coords) : Scf.Loop 32 :=
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let v756 : BitVec 32 := Scalar.addi c0_i32_371 v755
  let c1_i32_374 : BitVec 32 := 1#32
  ⟨v759, v756, c1_i32_374⟩
def k0_cond2 (i : grid0.Coords) (k0_t2 : Fin (k0_t2_loop i).trips) : BitVec 1 :=
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let c2_i32_402 : BitVec 32 := 2#32
  let c0_i32_403 : BitVec 32 := 0#32
  let v789 : BitVec 1 := Scalar.cmpi .eq c2_i32_402 c0_i32_403
  let c1_i32_404 : BitVec 32 := 1#32
  let v790 : BitVec 32 := Scalar.select v789 c1_i32_404 c2_i32_402
  let v791 : BitVec 32 := Scalar.remsi arg16 v790
  let c0_i32_406 : BitVec 32 := 0#32
  let v793 : BitVec 1 := Scalar.cmpi .slt v791 c0_i32_406
  let c0_i32_407 : BitVec 32 := 0#32
  let v794 : BitVec 1 := Scalar.cmpi .slt v790 c0_i32_407
  let v795 : BitVec 1 := Scalar.xori v793 v794
  let c0_i32_405 : BitVec 32 := 0#32
  let v792 : BitVec 1 := Scalar.cmpi .ne v791 c0_i32_405
  let v796 : BitVec 1 := Scalar.andi v795 v792
  let v797 : BitVec 32 := Scalar.addi v791 v790
  let v798 : BitVec 32 := Scalar.select v796 v797 v791
  let c0_i32_408 : BitVec 32 := 0#32
  let v799 : BitVec 1 := Scalar.cmpi .eq v798 c0_i32_408
  let v800 : BitVec 32 := Scalar.extui v799
  let c0_i32_409 : BitVec 32 := 0#32
  let v801 : BitVec 1 := Scalar.cmpi .ne v800 c0_i32_409
  v801

def k0_mult5 (i : grid0.Coords) (k0_t2 : Fin (k0_t2_loop i).trips) : BitVec 32 :=
  let c2_i32_410 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  v805
def k0_off26 (i : grid0.Coords) (k0_t2 : Fin (k0_t2_loop i).trips) : Fin 3 → Nat :=
  let c0_414 : Index := 0#32
  let c2_i32_410 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  let v806 : BitVec 32 := v805
  let v807 : Index := Scalar.indexCast v806
  let c0_415 : Index := 0#32
  ![0, v807.toNat, 0]
def k0_off27 (i : grid0.Coords) (k0_t2 : Fin (k0_t2_loop i).trips) : Fin 4 → Nat :=
  let c0_446 : Index := 0#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v840 : Index := Scalar.indexCast v839
  let c0_447 : Index := 0#32
  let c0_448 : Index := 0#32
  ![0, v840.toNat, 0, 0]
def k0_off28 (i : grid0.Coords) (k0_t2 : Fin (k0_t2_loop i).trips) : Fin 3 → Nat :=
  let c0_452 : Index := 0#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v845 : Index := Scalar.indexCast v839
  let c0_453 : Index := 0#32
  ![0, v845.toNat, 0]
def k0_off29 (i : grid0.Coords) (k0_t2 : Fin (k0_t2_loop i).trips) : Fin 3 → Nat :=
  let c1_473 : Index := 1#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v881 : Index := Scalar.indexCast v839
  let c0_474 : Index := 0#32
  ![1, v881.toNat, 0]
def k0_off30 (i : grid0.Coords) (k0_t2 : Fin (k0_t2_loop i).trips) : Fin 3 → Nat :=
  let c2_494 : Index := 2#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v917 : Index := Scalar.indexCast v839
  let c0_495 : Index := 0#32
  ![2, v917.toNat, 0]
def k0_off31 (i : grid0.Coords) (k0_t2 : Fin (k0_t2_loop i).trips) : Fin 3 → Nat :=
  let c3_515 : Index := 3#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v953 : Index := Scalar.indexCast v839
  let c0_516 : Index := 0#32
  ![3, v953.toNat, 0]
def k0_off32 (i : grid0.Coords) (k0_t2 : Fin (k0_t2_loop i).trips) : Fin 4 → Nat :=
  let c0_568 : Index := 0#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1046 : Index := Scalar.indexCast v1045
  let c0_569 : Index := 0#32
  let c0_570 : Index := 0#32
  ![0, v1046.toNat, 0, 0]
def k0_off33 (i : grid0.Coords) (k0_t2 : Fin (k0_t2_loop i).trips) : Fin 3 → Nat :=
  let c0_573 : Index := 0#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1051 : Index := Scalar.indexCast v1045
  let c0_574 : Index := 0#32
  ![0, v1051.toNat, 0]
def k0_off34 (i : grid0.Coords) (k0_t2 : Fin (k0_t2_loop i).trips) : Fin 3 → Nat :=
  let c1_594 : Index := 1#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1087 : Index := Scalar.indexCast v1045
  let c0_595 : Index := 0#32
  ![1, v1087.toNat, 0]
def k0_off35 (i : grid0.Coords) (k0_t2 : Fin (k0_t2_loop i).trips) : Fin 3 → Nat :=
  let c2_615 : Index := 2#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1123 : Index := Scalar.indexCast v1045
  let c0_616 : Index := 0#32
  ![2, v1123.toNat, 0]
def k0_off36 (i : grid0.Coords) (k0_t2 : Fin (k0_t2_loop i).trips) : Fin 3 → Nat :=
  let c3_636 : Index := 3#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1159 : Index := Scalar.indexCast v1045
  let c0_637 : Index := 0#32
  ![3, v1159.toNat, 0]
def k0_mult6 (i : grid0.Coords) (k0_t2 : Fin (k0_t2_loop i).trips) : BitVec 32 :=
  let c2_i32_410 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  v805
def k0_off37 (i : grid0.Coords) (k0_t2 : Fin (k0_t2_loop i).trips) : Fin 3 → Nat :=
  let c0_414 : Index := 0#32
  let c2_i32_410 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v802 : BitVec 32 := Scalar.muli c2_i32_410 arg16
  let c2_i32_411 : BitVec 32 := 2#32
  let v803 : BitVec 32 := Scalar.addi v802 c2_i32_411
  let c30_i32_412 : BitVec 32 := 30#32
  let v804 : BitVec 32 := Scalar.minsi v803 c30_i32_412
  let c256_i32_413 : BitVec 32 := 256#32
  let v805 : BitVec 32 := Scalar.muli v804 c256_i32_413
  let v806 : BitVec 32 := v805
  let v807 : Index := Scalar.indexCast v806
  let c0_415 : Index := 0#32
  ![0, v807.toNat, 0]
def k0_off38 (i : grid0.Coords) (k0_t2 : Fin (k0_t2_loop i).trips) : Fin 4 → Nat :=
  let c0_446 : Index := 0#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v840 : Index := Scalar.indexCast v839
  let c0_447 : Index := 0#32
  let c0_448 : Index := 0#32
  ![0, v840.toNat, 0, 0]
def k0_off39 (i : grid0.Coords) (k0_t2 : Fin (k0_t2_loop i).trips) : Fin 3 → Nat :=
  let c0_452 : Index := 0#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v845 : Index := Scalar.indexCast v839
  let c0_453 : Index := 0#32
  ![0, v845.toNat, 0]
def k0_off40 (i : grid0.Coords) (k0_t2 : Fin (k0_t2_loop i).trips) : Fin 3 → Nat :=
  let c1_473 : Index := 1#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v881 : Index := Scalar.indexCast v839
  let c0_474 : Index := 0#32
  ![1, v881.toNat, 0]
def k0_off41 (i : grid0.Coords) (k0_t2 : Fin (k0_t2_loop i).trips) : Fin 3 → Nat :=
  let c2_494 : Index := 2#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v917 : Index := Scalar.indexCast v839
  let c0_495 : Index := 0#32
  ![2, v917.toNat, 0]
def k0_off42 (i : grid0.Coords) (k0_t2 : Fin (k0_t2_loop i).trips) : Fin 3 → Nat :=
  let c3_515 : Index := 3#32
  let c2_i32_444 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v838 : BitVec 32 := Scalar.muli c2_i32_444 arg16
  let c31_i32_445 : BitVec 32 := 31#32
  let v839 : BitVec 32 := Scalar.minsi v838 c31_i32_445
  let v953 : Index := Scalar.indexCast v839
  let c0_516 : Index := 0#32
  ![3, v953.toNat, 0]
def k0_off43 (i : grid0.Coords) (k0_t2 : Fin (k0_t2_loop i).trips) : Fin 4 → Nat :=
  let c0_568 : Index := 0#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1046 : Index := Scalar.indexCast v1045
  let c0_569 : Index := 0#32
  let c0_570 : Index := 0#32
  ![0, v1046.toNat, 0, 0]
def k0_off44 (i : grid0.Coords) (k0_t2 : Fin (k0_t2_loop i).trips) : Fin 3 → Nat :=
  let c0_573 : Index := 0#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1051 : Index := Scalar.indexCast v1045
  let c0_574 : Index := 0#32
  ![0, v1051.toNat, 0]
def k0_off45 (i : grid0.Coords) (k0_t2 : Fin (k0_t2_loop i).trips) : Fin 3 → Nat :=
  let c1_594 : Index := 1#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1087 : Index := Scalar.indexCast v1045
  let c0_595 : Index := 0#32
  ![1, v1087.toNat, 0]
def k0_off46 (i : grid0.Coords) (k0_t2 : Fin (k0_t2_loop i).trips) : Fin 3 → Nat :=
  let c2_615 : Index := 2#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1123 : Index := Scalar.indexCast v1045
  let c0_616 : Index := 0#32
  ![2, v1123.toNat, 0]
def k0_off47 (i : grid0.Coords) (k0_t2 : Fin (k0_t2_loop i).trips) : Fin 3 → Nat :=
  let c3_636 : Index := 3#32
  let c2_i32_565 : BitVec 32 := 2#32
  let c0_i32_371 : BitVec 32 := 0#32
  let arg2 : BitVec 32 := BitVec.ofNat 32 (i 2).val
  let c1_i32_363 : BitVec 32 := 1#32
  let v737 : BitVec 32 := Scalar.addi arg2 c1_i32_363
  let c0_i32_364 : BitVec 32 := 0#32
  let v739 : BitVec 1 := Scalar.cmpi .sgt v737 c0_i32_364
  let v740 : BitVec 32 := Scalar.extui v739
  let c0_i32_365 : BitVec 32 := 0#32
  let v741 : BitVec 1 := Scalar.cmpi .slt v737 c0_i32_365
  let v742 : BitVec 32 := Scalar.extui v741
  let v743 : BitVec 32 := Scalar.subi v740 v742
  let c2_i32 : BitVec 32 := 2#32
  let c0_i32_366 : BitVec 32 := 0#32
  let v744 : BitVec 1 := Scalar.cmpi .sgt c2_i32 c0_i32_366
  let v745 : BitVec 32 := Scalar.extui v744
  let c0_i32_367 : BitVec 32 := 0#32
  let v746 : BitVec 1 := Scalar.cmpi .slt c2_i32 c0_i32_367
  let v747 : BitVec 32 := Scalar.extui v746
  let v748 : BitVec 32 := Scalar.subi v745 v747
  let v749 : BitVec 1 := Scalar.cmpi .ne v743 v748
  let v750 : BitVec 32 := Scalar.remsi v737 c2_i32
  let c0_i32_368 : BitVec 32 := 0#32
  let v751 : BitVec 1 := Scalar.cmpi .ne v750 c0_i32_368
  let v752 : BitVec 1 := Scalar.andi v749 v751
  let v738 : BitVec 32 := Scalar.divsi v737 c2_i32
  let c1_i32_369 : BitVec 32 := 1#32
  let v753 : BitVec 32 := Scalar.subi v738 c1_i32_369
  let v754 : BitVec 32 := Scalar.select v752 v753 v738
  let v755 : BitVec 32 := Scalar.subi v754 c0_i32_371
  let c1_i32_372 : BitVec 32 := 1#32
  let v757 : BitVec 32 := Scalar.divsi v755 c1_i32_372
  let v758 : BitVec 32 := Scalar.muli v757 c1_i32_372
  let v759 : BitVec 32 := Scalar.addi c0_i32_371 v758
  let c1_i32_374 : BitVec 32 := 1#32
  let arg16 : BitVec 32 := Scf.iv v759 c1_i32_374 k0_t2
  let v1043 : BitVec 32 := Scalar.muli c2_i32_565 arg16
  let c1_i32_566 : BitVec 32 := 1#32
  let v1044 : BitVec 32 := Scalar.addi v1043 c1_i32_566
  let c31_i32_567 : BitVec 32 := 31#32
  let v1045 : BitVec 32 := Scalar.minsi v1044 c31_i32_567
  let v1159 : Index := Scalar.indexCast v1045
  let c0_637 : Index := 0#32
  ![3, v1159.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | "scale2" => some (((1 / 8) * (Real.log 2)⁻¹ : ℝ) : EReal)
  | _ => none
-- ==== ReferenceIdeal.lean ====
abbrev S2x8192x16x64 : Shape := ⟨4, ![2, 8192, 16, 64]⟩
abbrev S2x32x256x16x64 : Shape := ⟨5, ![2, 32, 256, 16, 64]⟩
abbrev S2x16x32x256x64 : Shape := ⟨5, ![2, 16, 32, 256, 64]⟩
abbrev S_ : Shape := ⟨0, ![]⟩
abbrev S2x16x32x64 : Shape := ⟨4, ![2, 16, 32, 64]⟩
abbrev S2 : Shape := ⟨1, ![2]⟩
abbrev S2x1x1x1 : Shape := ⟨4, ![2, 1, 1, 1]⟩
abbrev S16 : Shape := ⟨1, ![16]⟩
abbrev S1x1x16x1 : Shape := ⟨4, ![1, 1, 16, 1]⟩
abbrev S32 : Shape := ⟨1, ![32]⟩
abbrev S256 : Shape := ⟨1, ![256]⟩
abbrev S8192 : Shape := ⟨1, ![8192]⟩
abbrev S2x16x32x8192 : Shape := ⟨4, ![2, 16, 32, 8192]⟩
abbrev S2x8192x16x32 : Shape := ⟨4, ![2, 8192, 16, 32]⟩
abbrev S1x32 : Shape := ⟨2, ![1, 32]⟩
abbrev S8192x1 : Shape := ⟨2, ![8192, 1]⟩
abbrev S8192x32 : Shape := ⟨2, ![8192, 32]⟩
abbrev S1x8192x1x32 : Shape := ⟨4, ![1, 8192, 1, 32]⟩
abbrev S2x8192x16x3 : Shape := ⟨4, ![2, 8192, 16, 3]⟩
abbrev S3 : Shape := ⟨1, ![3]⟩
abbrev S1x3 : Shape := ⟨2, ![1, 3]⟩
abbrev S8192x3 : Shape := ⟨2, ![8192, 3]⟩
abbrev S1x8192x1x1 : Shape := ⟨4, ![1, 8192, 1, 1]⟩
abbrev S2x8192x16x1 : Shape := ⟨4, ![2, 8192, 16, 1]⟩
abbrev S2x8192x16x4 : Shape := ⟨4, ![2, 8192, 16, 4]⟩
abbrev S8192x4 : Shape := ⟨2, ![8192, 4]⟩
abbrev S2x8192x16x4x1 : Shape := ⟨5, ![2, 8192, 16, 4, 1]⟩
abbrev S2x8192x16x4x3 : Shape := ⟨5, ![2, 8192, 16, 4, 3]⟩
abbrev S2x8192x16x4x256x64 : Shape := ⟨6, ![2, 8192, 16, 4, 256, 64]⟩
abbrev S1x1x1x1x256 : Shape := ⟨5, ![1, 1, 1, 1, 256]⟩
abbrev S2x8192x16x4x256 : Shape := ⟨5, ![2, 8192, 16, 4, 256]⟩
abbrev S1x8192x1x4x1 : Shape := ⟨5, ![1, 8192, 1, 4, 1]⟩
abbrev S1x8192x1x1x1 : Shape := ⟨5, ![1, 8192, 1, 1, 1]⟩
abbrev S2x8192x16x1024 : Shape := ⟨4, ![2, 8192, 16, 1024]⟩
abbrev S2x8192x16 : Shape := ⟨3, ![2, 8192, 16]⟩
abbrev S2x8192x1024 : Shape := ⟨3, ![2, 8192, 1024]⟩

abbrev nBuf : Space → Nat
  | .hbm => 160
  | .vmem => 0
  | .smem => 0
  | _ => 0

abbrev hbmTy0_0 (i : Nat) : BufTy := match i % 128 with
  | 0 => ⟨S2x8192x16x64, .f32⟩
  | 1 => ⟨S2x8192x16x64, .f32⟩
  | 2 => ⟨S2x8192x16x64, .f32⟩
  | 3 => ⟨S2x32x256x16x64, .f32⟩
  | 4 => ⟨S2x16x32x256x64, .f32⟩
  | 5 => ⟨S2x32x256x16x64, .f32⟩
  | 6 => ⟨S2x16x32x256x64, .f32⟩
  | 7 => ⟨S_, .f32⟩
  | 8 => ⟨S2x16x32x64, .f32⟩
  | 9 => ⟨S_, .f32⟩
  | 10 => ⟨S2x16x32x64, .f32⟩
  | 11 => ⟨S2x16x32x64, .f32⟩
  | 12 => ⟨S2, .i32⟩
  | 13 => ⟨S2x1x1x1, .i32⟩
  | 14 => ⟨S16, .i32⟩
  | 15 => ⟨S1x1x16x1, .i32⟩
  | 16 => ⟨S32, .i32⟩
  | 17 => ⟨S256, .i32⟩
  | 18 => ⟨S8192, .i32⟩
  | 19 => ⟨S_, .i32⟩
  | 20 => ⟨S_, .i32⟩
  | 21 => ⟨S8192, .i32⟩
  | 22 => ⟨S8192, .i32⟩
  | 23 => ⟨S8192, .i32⟩
  | 24 => ⟨S_, .i32⟩
  | 25 => ⟨S8192, .i32⟩
  | 26 => ⟨S8192, .i1⟩
  | 27 => ⟨S8192, .i32⟩
  | 28 => ⟨S8192, .i32⟩
  | 29 => ⟨S_, .i32⟩
  | 30 => ⟨S8192, .i32⟩
  | 31 => ⟨S8192, .i1⟩
  | 32 => ⟨S8192, .i1⟩
  | 33 => ⟨S_, .i32⟩
  | 34 => ⟨S8192, .i32⟩
  | 35 => ⟨S8192, .i32⟩
  | 36 => ⟨S8192, .i32⟩
  | 37 => ⟨S2x16x32x8192, .f32⟩
  | 38 => ⟨S2x8192x16x32, .f32⟩
  | 39 => ⟨S1x32, .i32⟩
  | 40 => ⟨S8192x1, .i32⟩
  | 41 => ⟨S8192x32, .i32⟩
  | 42 => ⟨S8192x32, .i32⟩
  | 43 => ⟨S8192x32, .i1⟩
  | 44 => ⟨S1x8192x1x32, .i1⟩
  | 45 => ⟨S_, .f32⟩
  | 46 => ⟨S_, .f32⟩
  | 47 => ⟨S2x8192x16x32, .i1⟩
  | 48 => ⟨S2x8192x16x32, .f32⟩
  | 49 => ⟨S2x8192x16x32, .f32⟩
  | 50 => ⟨S2x8192x16x3, .f32⟩
  | 51 => ⟨S2x8192x16x3, .i32⟩
  | 52 => ⟨S3, .i32⟩
  | 53 => ⟨S1x3, .i32⟩
  | 54 => ⟨S8192x1, .i32⟩
  | 55 => ⟨S8192x3, .i32⟩
  | 56 => ⟨S8192x3, .i32⟩
  | 57 => ⟨S8192x3, .i1⟩
  | 58 => ⟨S1x8192x1x1, .i32⟩
  | 59 => ⟨S2x8192x16x1, .i32⟩
  | 60 => ⟨S2x8192x16x4, .i32⟩
  | 61 => ⟨S_, .i1⟩
  | 62 => ⟨S8192x1, .i1⟩
  | 63 => ⟨S8192x4, .i1⟩
  | 64 => ⟨S_, .i32⟩
  | 65 => ⟨S2x1x1x1, .i32⟩
  | 66 => ⟨S2x1x1x1, .i1⟩
  | 67 => ⟨S_, .i32⟩
  | 68 => ⟨S2x1x1x1, .i32⟩
  | 69 => ⟨S2x1x1x1, .i32⟩
  | 70 => ⟨S2x1x1x1, .i32⟩
  | 71 => ⟨S_, .i32⟩
  | 72 => ⟨S1x1x16x1, .i32⟩
  | 73 => ⟨S1x1x16x1, .i1⟩
  | 74 => ⟨S_, .i32⟩
  | 75 => ⟨S1x1x16x1, .i32⟩
  | 76 => ⟨S1x1x16x1, .i32⟩
  | 77 => ⟨S1x1x16x1, .i32⟩
  | 78 => ⟨S_, .i32⟩
  | 79 => ⟨S2x8192x16x4, .i32⟩
  | 80 => ⟨S2x8192x16x4, .i1⟩
  | 81 => ⟨S_, .i32⟩
  | 82 => ⟨S2x8192x16x4, .i32⟩
  | 83 => ⟨S2x8192x16x4, .i32⟩
  | 84 => ⟨S2x8192x16x4, .i32⟩
  | 85 => ⟨S2x8192x16x4, .i32⟩
  | 86 => ⟨S2x8192x16x4, .i32⟩
  | 87 => ⟨S2x8192x16x4x1, .i32⟩
  | 88 => ⟨S2x8192x16x4x1, .i32⟩
  | 89 => ⟨S2x8192x16x4x1, .i32⟩
  | 90 => ⟨S2x8192x16x4x3, .i32⟩
  | 91 => ⟨S2x8192x16x4x256x64, .f32⟩
  | 92 => ⟨S_, .i32⟩
  | 93 => ⟨S2x1x1x1, .i32⟩
  | 94 => ⟨S2x1x1x1, .i1⟩
  | 95 => ⟨S_, .i32⟩
  | 96 => ⟨S2x1x1x1, .i32⟩
  | 97 => ⟨S2x1x1x1, .i32⟩
  | 98 => ⟨S2x1x1x1, .i32⟩
  | 99 => ⟨S_, .i32⟩
  | 100 => ⟨S1x1x16x1, .i32⟩
  | 101 => ⟨S1x1x16x1, .i1⟩
  | 102 => ⟨S_, .i32⟩
  | 103 => ⟨S1x1x16x1, .i32⟩
  | 104 => ⟨S1x1x16x1, .i32⟩
  | 105 => ⟨S1x1x16x1, .i32⟩
  | 106 => ⟨S_, .i32⟩
  | 107 => ⟨S2x8192x16x4, .i32⟩
  | 108 => ⟨S2x8192x16x4, .i1⟩
  | 109 => ⟨S_, .i32⟩
  | 110 => ⟨S2x8192x16x4, .i32⟩
  | 111 => ⟨S2x8192x16x4, .i32⟩
  | 112 => ⟨S2x8192x16x4, .i32⟩
  | 113 => ⟨S2x8192x16x4, .i32⟩
  | 114 => ⟨S2x8192x16x4, .i32⟩
  | 115 => ⟨S2x8192x16x4x1, .i32⟩
  | 116 => ⟨S2x8192x16x4x1, .i32⟩
  | 117 => ⟨S2x8192x16x4x1, .i32⟩
  | 118 => ⟨S2x8192x16x4x3, .i32⟩
  | 119 => ⟨S2x8192x16x4x256x64, .f32⟩
  | 120 => ⟨S2x8192x16x4x1, .i32⟩
  | 121 => ⟨S_, .i32⟩
  | 122 => ⟨S2x8192x16x4x1, .i32⟩
  | 123 => ⟨S2x8192x16x4x1, .i32⟩
  | 124 => ⟨S1x1x1x1x256, .i32⟩
  | 125 => ⟨S2x8192x16x4x256, .i32⟩
  | 126 => ⟨S2x8192x16x4x256, .i32⟩
  | 127 => ⟨S2x8192x16x4x256, .i32⟩
  | _ => ⟨S2x8192x16x64, .f32⟩

abbrev hbmTy0_1 (i : Nat) : BufTy := match i % 128 with
  | 0 => ⟨S1x8192x1x4x1, .i1⟩
  | 1 => ⟨S1x8192x1x1x1, .i32⟩
  | 2 => ⟨S2x8192x16x4x256, .i32⟩
  | 3 => ⟨S2x8192x16x4x256, .i1⟩
  | 4 => ⟨S2x8192x16x4x256, .i1⟩
  | 5 => ⟨S2x8192x16x4x256, .i1⟩
  | 6 => ⟨S2x8192x16x4x256, .f32⟩
  | 7 => ⟨S_, .f32⟩
  | 8 => ⟨S2x8192x16x4x256, .f32⟩
  | 9 => ⟨S2x8192x16x4x256, .f32⟩
  | 10 => ⟨S_, .f32⟩
  | 11 => ⟨S_, .f32⟩
  | 12 => ⟨S2x8192x16x4x256, .f32⟩
  | 13 => ⟨S2x8192x16x4x256, .f32⟩
  | 14 => ⟨S2x8192x16x1024, .f32⟩
  | 15 => ⟨S_, .f32⟩
  | 16 => ⟨S2x8192x16, .f32⟩
  | 17 => ⟨S_, .f32⟩
  | 18 => ⟨S2x8192x16, .f32⟩
  | 19 => ⟨S2x8192x16, .f32⟩
  | 20 => ⟨S2x8192x16x1, .f32⟩
  | 21 => ⟨S2x8192x16x1024, .f32⟩
  | 22 => ⟨S2x8192x16x1024, .f32⟩
  | 23 => ⟨S2x8192x16x1024, .f32⟩
  | 24 => ⟨S_, .f32⟩
  | 25 => ⟨S2x8192x16, .f32⟩
  | 26 => ⟨S2x8192x16x1, .f32⟩
  | 27 => ⟨S2x8192x16x1024, .f32⟩
  | 28 => ⟨S2x8192x16x1024, .f32⟩
  | 29 => ⟨S2x8192x16x4x256, .f32⟩
  | 30 => ⟨S2x8192x16x64, .f32⟩
  | 31 => ⟨S2x8192x1024, .f32⟩
  | _ => ⟨S2x8192x16x64, .f32⟩

abbrev hbmTy (i : Nat) : BufTy := match i / 128 with
  | 0 => hbmTy0_0 i
  | 1 => hbmTy0_1 i
  | _ => ⟨S2x8192x16x64, .f32⟩

abbrev bufTy : (tb : Table) → Fin (tcTables nBuf tb) → BufTy
  | .hbm, ⟨i, _⟩ => hbmTy i
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_values : Ref sig .tc := ⟨.hbm, 50, rfl⟩
abbrev main_indices : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_2 : Ref sig .tc := ⟨.hbm, 61, rfl⟩
abbrev main_v33 : Ref sig .tc := ⟨.hbm, 62, rfl⟩
abbrev main_v34 : Ref sig .tc := ⟨.hbm, 63, rfl⟩
abbrev main_c_3 : Ref sig .tc := ⟨.hbm, 64, rfl⟩
abbrev main_v35 : Ref sig .tc := ⟨.hbm, 65, rfl⟩
abbrev main_v36 : Ref sig .tc := ⟨.hbm, 66, rfl⟩
abbrev main_c_4 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_c_5 : Ref sig .tc := ⟨.hbm, 71, rfl⟩
abbrev main_v40 : Ref sig .tc := ⟨.hbm, 72, rfl⟩
abbrev main_v41 : Ref sig .tc := ⟨.hbm, 73, rfl⟩
abbrev main_c_6 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_c_7 : Ref sig .tc := ⟨.hbm, 78, rfl⟩
abbrev main_v45 : Ref sig .tc := ⟨.hbm, 79, rfl⟩
abbrev main_v46 : Ref sig .tc := ⟨.hbm, 80, rfl⟩
abbrev main_c_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_v57 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_11 : Ref sig .tc := ⟨.hbm, 99, rfl⟩
abbrev main_v62 : Ref sig .tc := ⟨.hbm, 100, rfl⟩
abbrev main_v63 : Ref sig .tc := ⟨.hbm, 101, rfl⟩
abbrev main_c_12 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_13 : Ref sig .tc := ⟨.hbm, 106, rfl⟩
abbrev main_v67 : Ref sig .tc := ⟨.hbm, 107, rfl⟩
abbrev main_v68 : Ref sig .tc := ⟨.hbm, 108, rfl⟩
abbrev main_c_14 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_c_15 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_16 : Ref sig .tc := ⟨.hbm, 135, rfl⟩
abbrev main_v93 : Ref sig .tc := ⟨.hbm, 136, rfl⟩
abbrev main_v94 : Ref sig .tc := ⟨.hbm, 137, rfl⟩
abbrev main_cst_17 : Ref sig .tc := ⟨.hbm, 138, rfl⟩
abbrev main_call2_v0 : Ref sig .tc := ⟨.hbm, 139, rfl⟩
abbrev main_call2_v1 : Ref sig .tc := ⟨.hbm, 140, rfl⟩
abbrev main_v95 : Ref sig .tc := ⟨.hbm, 141, rfl⟩
abbrev main_v96 : Ref sig .tc := ⟨.hbm, 142, rfl⟩
abbrev main_cst_18 : Ref sig .tc := ⟨.hbm, 143, rfl⟩
abbrev main_v97 : Ref sig .tc := ⟨.hbm, 144, rfl⟩
abbrev main_cst_19 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_20 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x9216 : Shape := ⟨2, ![2, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S16384x1024 : Shape := ⟨2, ![16384, 1024]⟩
abbrev S2x1x9216 : Shape := ⟨3, ![2, 1, 9216]⟩
abbrev S1x1x1024 : Shape := ⟨3, ![1, 1, 1024]⟩
abbrev S1024 : Shape := ⟨1, ![1024]⟩
abbrev S1x1024 : Shape := ⟨2, ![1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S1x1x2816x512 : Shape := ⟨4, ![1, 1, 2816, 512]⟩
abbrev S2816x512 : Shape := ⟨2, ![2816, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 15
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S16384x1024, .f32⟩
  | .hbm, ⟨7, _⟩ => ⟨S2x1x9216, .f32⟩
  | .hbm, ⟨8, _⟩ => ⟨S1x1x1024, .f32⟩
  | .hbm, ⟨9, _⟩ => ⟨S1024, .f32⟩
  | .hbm, ⟨10, _⟩ => ⟨S2x2x1024x2816, .bf16⟩
  | .hbm, ⟨11, _⟩ => ⟨S2x2x1024x2816, .bf16⟩
  | .hbm, ⟨12, _⟩ => ⟨S2x2x2816x1024, .bf16⟩
  | .hbm, ⟨13, _⟩ => ⟨S1x1024, .f32⟩
  | .hbm, ⟨14, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x8192x1024 : Shape := ⟨3, ![2, 8192, 1024]⟩
abbrev S2x9216 : Shape := ⟨2, ![2, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S2x3x3x1024 : Shape := ⟨4, ![2, 3, 3, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024 : Shape := ⟨1, ![1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024x2816 : Shape := ⟨4, ![1, 1, 1024, 2816]⟩
abbrev S1024x2816 : Shape := ⟨2, ![1024, 2816]⟩
abbrev S2x8192x2816 : Shape := ⟨3, ![2, 8192, 2816]⟩
abbrev S1x1x2816x1024 : Shape := ⟨4, ![1, 1, 2816, 1024]⟩
abbrev S2816x1024 : Shape := ⟨2, ![2816, 1024]⟩
abbrev S16384x1024 : Shape := ⟨2, ![16384, 1024]⟩

abbrev nBuf : Space → Nat
  | .hbm => 67
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S2x3x3x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x1x1x1024, .f32⟩
  | .hbm, ⟨26, _⟩ => ⟨S2x1024, .f32⟩
  | .hbm, ⟨27, _⟩ => ⟨S2x1x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x8192x1024, .f32⟩
  | .hbm, ⟨32, _⟩ => ⟨S2x8192x1024, .f32⟩
  | .hbm, ⟨33, _⟩ => ⟨S2x1x1x1024, .f32⟩
  | .hbm, ⟨34, _⟩ => ⟨S2x1024, .f32⟩
  | .hbm, ⟨35, _⟩ => ⟨S2x1x1024, .f32⟩
  | .hbm, ⟨36, _⟩ => ⟨S2x8192x1024, .f32⟩
  | .hbm, ⟨37, _⟩ => ⟨S2x8192x1024, .f32⟩
  | .hbm, ⟨38, _⟩ => ⟨S1x1x1024x2816, .f32⟩
  | .hbm, ⟨39, _⟩ => ⟨S1024x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S1x1x1024x2816, .f32⟩
  | .hbm, ⟨51, _⟩ => ⟨S1024x2816, .f32⟩
  | .hbm, ⟨52, _⟩ => ⟨S2x8192x2816, .f32⟩
  | .hbm, ⟨53, _⟩ => ⟨S2x8192x2816, .f32⟩
  | .hbm, ⟨54, _⟩ => ⟨S1x1x2816x1024, .f32⟩
  | .hbm, ⟨55, _⟩ => ⟨S2816x1024, .f32⟩
  | .hbm, ⟨56, _⟩ => ⟨S2x8192x1024, .f32⟩
  | .hbm, ⟨57, _⟩ => ⟨S2x1x1x1024, .f32⟩
  | .hbm, ⟨58, _⟩ => ⟨S2x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S2x8192x1024, .f32⟩
  | .hbm, ⟨64, _⟩ => ⟨S2x8192x1024, .f32⟩
  | .hbm, ⟨65, _⟩ => ⟨S2x8192x1024, .f32⟩
  | .hbm, ⟨66, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x9216 : Shape := ⟨2, ![2, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S16384x1024 : Shape := ⟨2, ![16384, 1024]⟩
abbrev S2x1x9216 : Shape := ⟨3, ![2, 1, 9216]⟩
abbrev S1x1x1024 : Shape := ⟨3, ![1, 1, 1024]⟩
abbrev S1x1024 : Shape := ⟨2, ![1, 1024]⟩
abbrev S1024x1024 : Shape := ⟨2, ![1024, 1024]⟩
abbrev S1x1x1024x2816 : Shape := ⟨4, ![1, 1, 1024, 2816]⟩
abbrev S1x1x2816x1024 : Shape := ⟨4, ![1, 1, 2816, 1024]⟩
abbrev S1024x2816 : Shape := ⟨2, ![1024, 2816]⟩
abbrev S1024x1 : Shape := ⟨2, ![1024, 1]⟩
abbrev S1x1x1024x256 : Shape := ⟨4, ![1, 1, 1024, 256]⟩
abbrev S1024x256 : Shape := ⟨2, ![1024, 256]⟩
abbrev S1x1x2816x512 : Shape := ⟨4, ![1, 1, 2816, 512]⟩
abbrev S2816x512 : Shape := ⟨2, ![2816, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 17
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1024, .f32⟩
  | .hbm, ⟨7, _⟩ => ⟨S16384x1024, .f32⟩
  | .hbm, ⟨8, _⟩ => ⟨S2x1x9216, .f32⟩
  | .hbm, ⟨9, _⟩ => ⟨S1x1x1024, .f32⟩
  | .hbm, ⟨10, _⟩ => ⟨S1024, .f32⟩
  | .hbm, ⟨11, _⟩ => ⟨S2x2x1024x2816, .bf16⟩
  | .hbm, ⟨12, _⟩ => ⟨S2x2x1024x2816, .bf16⟩
  | .hbm, ⟨13, _⟩ => ⟨S2x2x2816x1024, .bf16⟩
  | .hbm, ⟨14, _⟩ => ⟨S1x1024, .f32⟩
  | .hbm, ⟨15, _⟩ => ⟨S1x1024, .f32⟩
  | .hbm, ⟨16, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024x2816, .bf16⟩
  | .local _ .vmem, ⟨10, _⟩ => ⟨S1x1x1024x2816, .bf16⟩
  | .local _ .vmem, ⟨11, _⟩ => ⟨S1x1x2816x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c6_i32 : BitVec 32 := 6#32
  let c0_i32_5 : BitVec 32 := 0#32
  ![v16.toNat, c0_i32_4.toNat, c6_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c7_i32 : BitVec 32 := 7#32
  let c0_i32_5 : BitVec 32 := 0#32
  ![v16.toNat, c0_i32_4.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c8_i32_5 : BitVec 32 := 8#32
  let c0_i32_6 : BitVec 32 := 0#32
  ![v16.toNat, c0_i32_4.toNat, c8_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_7 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S2x8192x1024 : Shape := ⟨3, ![2, 8192, 1024]⟩
abbrev S2x9216 : Shape := ⟨2, ![2, 9216]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S2x3x3x1024 : Shape := ⟨4, ![2, 3, 3, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024x2816 : Shape := ⟨4, ![1, 1, 1024, 2816]⟩
abbrev S1024x2816 : Shape := ⟨2, ![1024, 2816]⟩
abbrev S2x8192x2816 : Shape := ⟨3, ![2, 8192, 2816]⟩
abbrev S1x1x2816x1024 : Shape := ⟨4, ![1, 1, 2816, 1024]⟩
abbrev S2816x1024 : Shape := ⟨2, ![2816, 1024]⟩
abbrev S16384x1024 : Shape := ⟨2, ![16384, 1024]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x9216, .f32⟩
  | .hbm, ⟨2, _⟩ => ⟨S2x3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1024, .f32⟩
  | .hbm, ⟨7, _⟩ => ⟨S2x3x3x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S1024, .f32⟩
  | .hbm, ⟨23, _⟩ => ⟨S1x1x1024, .f32⟩
  | .hbm, ⟨24, _⟩ => ⟨S2x8192x1024, .f32⟩
  | .hbm, ⟨25, _⟩ => ⟨S2x8192x1024, .f32⟩
  | .hbm, ⟨26, _⟩ => ⟨S2x1x1x1024, .f32⟩
  | .hbm, ⟨27, _⟩ => ⟨S2x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x1x1x1024, .f32⟩
  | .hbm, ⟨35, _⟩ => ⟨S2x1024, .f32⟩
  | .hbm, ⟨36, _⟩ => ⟨S2x1x1024, .f32⟩
  | .hbm, ⟨37, _⟩ => ⟨S2x8192x1024, .f32⟩
  | .hbm, ⟨38, _⟩ => ⟨S2x8192x1024, .f32⟩
  | .hbm, ⟨39, _⟩ => ⟨S1x1x1024x2816, .f32⟩
  | .hbm, ⟨40, _⟩ => ⟨S1024x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S_, .f32⟩
  | .hbm, ⟨45, _⟩ => ⟨S2x8192x2816, .f32⟩
  | .hbm, ⟨46, _⟩ => ⟨S2x8192x2816, .f32⟩
  | .hbm, ⟨47, _⟩ => ⟨S_, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S1x1x1024x2816, .f32⟩
  | .hbm, ⟨52, _⟩ => ⟨S1024x2816, .f32⟩
  | .hbm, ⟨53, _⟩ => ⟨S2x8192x2816, .f32⟩
  | .hbm, ⟨54, _⟩ => ⟨S2x8192x2816, .f32⟩
  | .hbm, ⟨55, _⟩ => ⟨S1x1x2816x1024, .f32⟩
  | .hbm, ⟨56, _⟩ => ⟨S2816x1024, .f32⟩
  | .hbm, ⟨57, _⟩ => ⟨S2x8192x1024, .f32⟩
  | .hbm, ⟨58, _⟩ => ⟨S2x1x1x1024, .f32⟩
  | .hbm, ⟨59, _⟩ => ⟨S2x1024, .f32⟩
  | .hbm, ⟨60, _⟩ => ⟨S2x1x1024, .f32⟩
  | .hbm, ⟨61, _⟩ => ⟨S_, .f32⟩
  | .hbm, ⟨62, _⟩ => ⟨S2x1x1024, .f32⟩
  | .hbm, ⟨63, _⟩ => ⟨S2x1x1024, .f32⟩
  | .hbm, ⟨64, _⟩ => ⟨S2x8192x1024, .f32⟩
  | .hbm, ⟨65, _⟩ => ⟨S2x8192x1024, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192, .f32⟩
  | .hbm, ⟨70, _⟩ => ⟨S2x8192x1, .f32⟩
  | .hbm, ⟨71, _⟩ => ⟨S_, .f32⟩
  | .hbm, ⟨72, _⟩ => ⟨S2x8192x1, .f32⟩
  | .hbm, ⟨73, _⟩ => ⟨S2x8192x1, .f32⟩
  | .hbm, ⟨74, _⟩ => ⟨S_, .f32⟩
  | .hbm, ⟨75, _⟩ => ⟨S2x8192x1, .f32⟩
  | .hbm, ⟨76, _⟩ => ⟨S2x8192x1, .f32⟩
  | .hbm, ⟨77, _⟩ => ⟨S2x8192x1, .f32⟩
  | .hbm, ⟨78, _⟩ => ⟨S2x8192x1024, .f32⟩
  | .hbm, ⟨79, _⟩ => ⟨S2x8192x1024, .f32⟩
  | .hbm, ⟨80, _⟩ => ⟨S1x1x1024, .f32⟩
  | .hbm, ⟨81, _⟩ => ⟨S2x8192x1024, .f32⟩
  | .hbm, ⟨82, _⟩ => ⟨S2x8192x1024, .f32⟩
  | .hbm, ⟨83, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_cst_6 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]
-- ==== Kernel4.lean ====
abbrev S2x8192x1024 : Shape := ⟨3, ![2, 8192, 1024]⟩
abbrev S2x2048 : Shape := ⟨2, ![2, 2048]⟩
abbrev S1024 : Shape := ⟨1, ![1024]⟩
abbrev S1024x1024 : Shape := ⟨2, ![1024, 1024]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x56 : Shape := ⟨2, ![8192, 56]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8x8192 : Shape := ⟨2, ![8, 8192]⟩
abbrev S16384x1024 : Shape := ⟨2, ![16384, 1024]⟩
abbrev S2x1x2048 : Shape := ⟨3, ![2, 1, 2048]⟩
abbrev S1x1024 : Shape := ⟨2, ![1, 1024]⟩
abbrev S16384x512 : Shape := ⟨2, ![16384, 512]⟩
abbrev S2x512x8192 : Shape := ⟨3, ![2, 512, 8192]⟩
abbrev S512x1024 : Shape := ⟨2, ![512, 1024]⟩
abbrev S1x1x1024 : Shape := ⟨3, ![1, 1, 1024]⟩
abbrev S512x128 : Shape := ⟨2, ![512, 128]⟩
abbrev S8x512 : Shape := ⟨2, ![8, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1024x512 : Shape := ⟨2, ![1024, 512]⟩
abbrev S48x512 : Shape := ⟨2, ![48, 512]⟩

abbrev nBuf : Space → Nat
  | .hbm => 52
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x2048, .f32⟩
  | .hbm, ⟨2, _⟩ => ⟨S1024, .f32⟩
  | .hbm, ⟨3, _⟩ => ⟨S1024x1024, .f32⟩
  | .hbm, ⟨4, _⟩ => ⟨S8192, .i32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8192, .f32⟩
  | .hbm, ⟨14, _⟩ => ⟨S8192x1, .f32⟩
  | .hbm, ⟨15, _⟩ => ⟨S1x8, .f32⟩
  | .hbm, ⟨16, _⟩ => ⟨S8192x8, .f32⟩
  | .hbm, ⟨17, _⟩ => ⟨S8192x8, .f32⟩
  | .hbm, ⟨18, _⟩ => ⟨S8192x8, .f32⟩
  | .hbm, ⟨19, _⟩ => ⟨S8192x8, .f32⟩
  | .hbm, ⟨20, _⟩ => ⟨S8192x8, .f32⟩
  | .hbm, ⟨21, _⟩ => ⟨S_, .f32⟩
  | .hbm, ⟨22, _⟩ => ⟨S8192x48, .f32⟩
  | .hbm, ⟨23, _⟩ => ⟨S8192x64, .f32⟩
  | .hbm, ⟨24, _⟩ => ⟨S8192x8, .f32⟩
  | .hbm, ⟨25, _⟩ => ⟨S_, .f32⟩
  | .hbm, ⟨26, _⟩ => ⟨S8192x56, .f32⟩
  | .hbm, ⟨27, _⟩ => ⟨S8192x64, .f32⟩
  | .hbm, ⟨28, _⟩ => ⟨S_, .f32⟩
  | .hbm, ⟨29, _⟩ => ⟨S8192x8, .f32⟩
  | .hbm, ⟨30, _⟩ => ⟨S_, .f32⟩
  | .hbm, ⟨31, _⟩ => ⟨S8192x48, .f32⟩
  | .hbm, ⟨32, _⟩ => ⟨S8192x64, .f32⟩
  | .hbm, ⟨33, _⟩ => ⟨S1x8192x1x64, .f32⟩
  | .hbm, ⟨34, _⟩ => ⟨S1x8192x2x64, .f32⟩
  | .hbm, ⟨35, _⟩ => ⟨S8192x128, .f32⟩
  | .hbm, ⟨36, _⟩ => ⟨S1x8192x1x64, .f32⟩
  | .hbm, ⟨37, _⟩ => ⟨S1x8192x2x64, .f32⟩
  | .hbm, ⟨38, _⟩ => ⟨S8192x128, .f32⟩
  | .hbm, ⟨39, _⟩ => ⟨S1x8192x1x64, .f32⟩
  | .hbm, ⟨40, _⟩ => ⟨S1x8192x2x64, .f32⟩
  | .hbm, ⟨41, _⟩ => ⟨S8192x128, .f32⟩
  | .hbm, ⟨42, _⟩ => ⟨S8x8192, .f32⟩
  | .hbm, ⟨43, _⟩ => ⟨S8x8192, .f32⟩
  | .hbm, ⟨44, _⟩ => ⟨S16384x1024, .f32⟩
  | .hbm, ⟨45, _⟩ => ⟨S2x1x2048, .f32⟩
  | .hbm, ⟨46, _⟩ => ⟨S1024x1024, .bf16⟩
  | .hbm, ⟨47, _⟩ => ⟨S1x1024, .f32⟩
  | .hbm, ⟨48, _⟩ => ⟨S16384x512, .f32⟩
  | .hbm, ⟨49, _⟩ => ⟨S2x512x8192, .f32⟩
  | .hbm, ⟨50, _⟩ => ⟨S16384x512, .f32⟩
  | .hbm, ⟨51, _⟩ => ⟨S2x512x8192, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S8x512, .f32⟩
  | .local _ .vmem, ⟨15, _⟩ => ⟨S8x512, .f32⟩
  | .local _ .vmem, ⟨16, _⟩ => ⟨S8x512, .f32⟩
  | .local _ .vmem, ⟨17, _⟩ => ⟨S8x512, .f32⟩
  | .local _ .vmem, ⟨18, _⟩ => ⟨S512x512, .f32⟩
  | .local _ .vmem, ⟨19, _⟩ => ⟨S512x512, .f32⟩
  | .local _ .vmem, ⟨20, _⟩ => ⟨S1x512x512, .f32⟩
  | .local _ .vmem, ⟨21, _⟩ => ⟨S1x512x512, .f32⟩
  | .local _ .vmem, ⟨22, _⟩ => ⟨S512x512, .f32⟩
  | .local _ .vmem, ⟨23, _⟩ => ⟨S512x512, .f32⟩
  | .local _ .vmem, ⟨24, _⟩ => ⟨S1x512x512, .f32⟩
  | .local _ .vmem, ⟨25, _⟩ => ⟨S1x512x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38_0 : Ref sig .tc := ⟨.hbm, 48, rfl⟩
abbrev main_v38_1 : Ref sig .tc := ⟨.hbm, 49, rfl⟩
abbrev main_v38_2 : Ref sig .tc := ⟨.hbm, 50, rfl⟩
abbrev main_v38_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S2x8192x1024 : Shape := ⟨3, ![2, 8192, 1024]⟩
abbrev S2x2048 : Shape := ⟨2, ![2, 2048]⟩
abbrev S1024 : Shape := ⟨1, ![1024]⟩
abbrev S1024x1024 : Shape := ⟨2, ![1024, 1024]⟩
abbrev S2x2x1024 : Shape := ⟨3, ![2, 2, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S2x1024 : Shape := ⟨2, ![2, 1024]⟩
abbrev S2x8192x2x8x64 : Shape := ⟨5, ![2, 8192, 2, 8, 64]⟩
abbrev S2x8192x1x8x64 : Shape := ⟨5, ![2, 8192, 1, 8, 64]⟩
abbrev S2x8192x8x64 : Shape := ⟨4, ![2, 8192, 8, 64]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x8x8 : Shape := ⟨4, ![2, 8192, 8, 8]⟩
abbrev S2x8192x8x48 : Shape := ⟨4, ![2, 8192, 8, 48]⟩
abbrev S16384x512 : Shape := ⟨2, ![16384, 512]⟩
abbrev S2x8x64x8192 : Shape := ⟨4, ![2, 8, 64, 8192]⟩
abbrev S2x512x8192 : Shape := ⟨3, ![2, 512, 8192]⟩

abbrev nBuf : Space → Nat
  | .hbm => 79
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x2048, .f32⟩
  | .hbm, ⟨2, _⟩ => ⟨S1024, .f32⟩
  | .hbm, ⟨3, _⟩ => ⟨S1024x1024, .f32⟩
  | .hbm, ⟨4, _⟩ => ⟨S2x2x1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x1x1024, .f32⟩
  | .hbm, ⟨22, _⟩ => ⟨S2x1024, .f32⟩
  | .hbm, ⟨23, _⟩ => ⟨S2x1x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S2x1024, .f32⟩
  | .hbm, ⟨31, _⟩ => ⟨S2x1x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x2x8x64, .f32⟩
  | .hbm, ⟨36, _⟩ => ⟨S2x8192x1x8x64, .f32⟩
  | .hbm, ⟨37, _⟩ => ⟨S2x8192x8x64, .f32⟩
  | .hbm, ⟨38, _⟩ => ⟨S8192, .i32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S8192, .f32⟩
  | .hbm, ⟨48, _⟩ => ⟨S8192x1, .f32⟩
  | .hbm, ⟨49, _⟩ => ⟨S1x8, .f32⟩
  | .hbm, ⟨50, _⟩ => ⟨S8192x8, .f32⟩
  | .hbm, ⟨51, _⟩ => ⟨S8192x8, .f32⟩
  | .hbm, ⟨52, _⟩ => ⟨S8192x8, .f32⟩
  | .hbm, ⟨53, _⟩ => ⟨S8192x8, .f32⟩
  | .hbm, ⟨54, _⟩ => ⟨S1x8192x1x8, .f32⟩
  | .hbm, ⟨55, _⟩ => ⟨S8192x8, .f32⟩
  | .hbm, ⟨56, _⟩ => ⟨S1x8192x1x8, .f32⟩
  | .hbm, ⟨57, _⟩ => ⟨S2x8192x8x8, .f32⟩
  | .hbm, ⟨58, _⟩ => ⟨S2x8192x8x8, .f32⟩
  | .hbm, ⟨59, _⟩ => ⟨S2x8192x8x8, .f32⟩
  | .hbm, ⟨60, _⟩ => ⟨S2x8192x8x8, .f32⟩
  | .hbm, ⟨61, _⟩ => ⟨S2x8192x8x8, .f32⟩
  | .hbm, ⟨62, _⟩ => ⟨S2x8192x8x8, .f32⟩
  | .hbm, ⟨63, _⟩ => ⟨S2x8192x8x8, .f32⟩
  | .hbm, ⟨64, _⟩ => ⟨S2x8192x8x8, .f32⟩
  | .hbm, ⟨65, _⟩ => ⟨S2x8192x8x8, .f32⟩
  | .hbm, ⟨66, _⟩ => ⟨S2x8192x8x8, .f32⟩
  | .hbm, ⟨67, _⟩ => ⟨S2x8192x8x8, .f32⟩
  | .hbm, ⟨68, _⟩ => ⟨S2x8192x8x8, .f32⟩
  | .hbm, ⟨69, _⟩ => ⟨S2x8192x8x48, .f32⟩
  | .hbm, ⟨70, _⟩ => ⟨S2x8192x8x64, .f32⟩
  | .hbm, ⟨71, _⟩ => ⟨S2x8192x1x8x64, .f32⟩
  | .hbm, ⟨72, _⟩ => ⟨S2x8192x8x64, .f32⟩
  | .hbm, ⟨73, _⟩ => ⟨S16384x512, .f32⟩
  | .hbm, ⟨74, _⟩ => ⟨S2x8x64x8192, .f32⟩
  | .hbm, ⟨75, _⟩ => ⟨S2x512x8192, .f32⟩
  | .hbm, ⟨76, _⟩ => ⟨S16384x512, .f32⟩
  | .hbm, ⟨77, _⟩ => ⟨S2x8x64x8192, .f32⟩
  | .hbm, ⟨78, _⟩ => ⟨S2x512x8192, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩

abbrev nD : Nat := 1
abbrev τ : Topo := Topo.v7x

variable {F : FTy → Type} [FloatOps F]
-- ==== Proof.Cond.lean ====
/- Which branch a step of the loop takes: the even steps take the first one. -/
module

public import proofs.«01_k».proof.Proof.Gen.KernelIdeal

@[expose] public section

noncomputable section

namespace Cert.Proof.Moba

open Cert.KernelIdeal Cert.KernelIdeal.Gen
open Idealize.ShloMosaic

/-- The branch's condition at step `n`. -/
def condAt (n : ℕ) : BitVec 1 :=
  let v790 : BitVec 32 := Scalar.select (Scalar.cmpi .eq 2#32 0#32) 1#32 2#32
  let v791 : BitVec 32 := Scalar.remsi (Scf.iv 0#32 1#32 n) v790
  let v795 : BitVec 1 := Scalar.xori (Scalar.cmpi .slt v791 0#32) (Scalar.cmpi .slt v790 0#32)
  let v796 : BitVec 1 := Scalar.andi v795 (Scalar.cmpi .ne v791 0#32)
  let v798 : BitVec 32 := Scalar.select v796 (Scalar.addi v791 v790) v791
  Scalar.cmpi .ne ((Scalar.extui (Scalar.cmpi .eq v798 0#32) : BitVec 32)) 0#32

theorem condAt_eq : ∀ n : Fin 16, condAt n.val = if n.val % 2 = 0 then 1#1 else 0#1 := by decide +kernel

theorem cond_eq (i : grid0.Coords) (k : Fin (k0_t1_loop i).trips) : k0_cond1 i k = if k.val % 2 = 0 then 1#1 else 0#1 :=
  condAt_eq ⟨k.val, Nat.lt_of_lt_of_le k.isLt (k0_t1_abs i).2.1⟩

theorem cond_iff (i : grid0.Coords) (k : Fin (k0_t1_loop i).trips) : k0_cond1 i k = 1#1 ↔ k.val % 2 = 0 := by
  rw [cond_eq]; split <;> simp_all

end Cert.Proof.Moba

end
-- ==== Proof.Trip.lean ====
/- One step of the loop over pairs of key blocks, run on symbolic contents. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit
public import Idealize.ShloMosaic.Lib.Ring

@[expose] public section

noncomputable section

namespace Cert.Proof.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What memref `M`'s buffer holds on core `c`. -/
abbrev Bf (c : Dev nD) {sp : Space} {S : Shape} {e : EltTy} (M : Memref sig .tc sp S e) : Type := Buf (Elt F) (M.view.loc (c : Thread nD τ))
/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- The window that memref `M` views, held at `f`. -/
abbrev pts (c : Dev nD) {sp : Space} {S : Shape} {e : EltTy} (M : Memref sig .tc sp S e) (f : Bf (F := F) c M) : sProp 𝕄 :=
  M.view.loc (c : Thread nD τ) ↦[M.view.set]{fullShare} f

/-- The buffers that one step reads or writes. -/
abbrev Trip (c : Dev nD) {M4 : Memref sig .tc .vmem S1x8192x256 .bf16} {M5 : Memref sig .tc .vmem S1x32x256x256 .bf16}
    {M8 : Memref sig .tc .vmem S4x128x256 .bf16} {M9 : Memref sig .tc .vmem S4x32x256 .f32}
    {M10 M11 : Memref sig .tc .vmem S4x1x256 .f32} {M12 : Memref sig .tc .vmem S4x64x256 .f32} {M14 M15 : Memref sig .tc .vmem S4x512x256 .f32}
    (f4 : Bf (F := F) c M4) (f5 : Bf (F := F) c M5) (f8 : Bf (F := F) c M8) (f9 : Bf (F := F) c M9) (f10 : Bf (F := F) c M10)
    (f11 : Bf (F := F) c M11) (f12 : Bf (F := F) c M12) (f14 : Bf (F := F) c M14) (f15 : Bf (F := F) c M15) : sProp 𝕄 :=
  iprop(pts c M4 f4 ∗ pts c M5 f5 ∗ pt c M8 f8 ∗ pt c M9 f9 ∗ pt c M10 f10 ∗ pt c M11 f11 ∗ pt c M12 f12 ∗ pt c M14 f14 ∗ pt c M15 f15)

/-- One step with an even number, and the pieces it writes. -/
@[irreducible] def tripEven (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (k : Fin (k0_t1_loop i).trips) (hc : k0_cond1 i k = 1#1)
    (f4 : Bf (F := F) c arg4) (f5 : Bf (F := F) c arg5) (f8 : Bf (F := F) c arg8) (f9 : Bf (F := F) c arg9) (f10 : Bf (F := F) c arg10)
    (f11 : Bf (F := F) c arg11) (f12 : Bf (F := F) c arg12) (f14 : Bf (F := F) c arg14) :
    Σ' L15 : List (View.Piece (Elt F) S4x512x256 .f32),
    Σ' L10 : List (View.Piece (Elt F) S4x1x256 .f32),
    Σ' L11 : List (View.Piece (Elt F) S4x1x256 .f32),
    {L12 : List (View.Piece (Elt F) S4x64x256 .f32) // (∀ y, ∃ p ∈ L15, y ∈ p.1.set) ∧
      ∀ (f15 : Bf (F := F) c arg15),
      Trip c (M4 := arg4) (M5 := arg5) (M8 := arg8) (M9 := arg9) (M10 := arg10) (M11 := arg11) (M12 := arg12) (M14 := arg14) (M15 := arg15) f4 f5 f8 f9 f10 f11 f12 f14 f15
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg2 v654 v665 v688 k ())
        (fun _ => Trip c (M4 := arg4) (M5 := arg5) (M8 := arg8) (M9 := arg9) (M10 := arg10) (M11 := arg11) (M12 := arg12) (M14 := arg14) (M15 := arg15) f4 f5 f8 f9 (arg10.view.writes (Elt F) f10 L10) (arg11.view.writes (Elt F) f11 L11) (arg12.view.writes (Elt F) f12 L12) f14 (arg15.view.writes (Elt F) f15 L15))} := by
  refine ⟨?_, ?_, ?_, ?_, ?cov, fun f15 => ?run⟩
  case run =>
    unfold k0_t1_body
    rw [dif_pos hc]
    iintro ⟨H4, H5, H8, H9, H10, H11, H12, H14, H15⟩
    sl_exec
    sl_step
    sl_close
  case cov => exact View.cover_of_tiledL _ ![1, 512, 256] (by sl_kernel_rfl)

/-- One step with an odd number, and the pieces it writes. -/
@[irreducible] def tripOdd (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (k : Fin (k0_t1_loop i).trips) (hc : ¬ k0_cond1 i k = 1#1)
    (f4 : Bf (F := F) c arg4) (f5 : Bf (F := F) c arg5) (f8 : Bf (F := F) c arg8) (f9 : Bf (F := F) c arg9) (f10 : Bf (F := F) c arg10)
    (f11 : Bf (F := F) c arg11) (f12 : Bf (F := F) c arg12) (f15 : Bf (F := F) c arg15) :
    Σ' L14 : List (View.Piece (Elt F) S4x512x256 .f32),
    Σ' L10 : List (View.Piece (Elt F) S4x1x256 .f32),
    Σ' L11 : List (View.Piece (Elt F) S4x1x256 .f32),
    {L12 : List (View.Piece (Elt F) S4x64x256 .f32) // (∀ y, ∃ p ∈ L14, y ∈ p.1.set) ∧
      ∀ (f14 : Bf (F := F) c arg14),
      Trip c (M4 := arg4) (M5 := arg5) (M8 := arg8) (M9 := arg9) (M10 := arg10) (M11 := arg11) (M12 := arg12) (M14 := arg14) (M15 := arg15) f4 f5 f8 f9 f10 f11 f12 f14 f15
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg2 v654 v665 v688 k ())
        (fun _ => Trip c (M4 := arg4) (M5 := arg5) (M8 := arg8) (M9 := arg9) (M10 := arg10) (M11 := arg11) (M12 := arg12) (M14 := arg14) (M15 := arg15) f4 f5 f8 f9 (arg10.view.writes (Elt F) f10 L10) (arg11.view.writes (Elt F) f11 L11) (arg12.view.writes (Elt F) f12 L12) (arg14.view.writes (Elt F) f14 L14) f15)} := by
  refine ⟨?_, ?_, ?_, ?_, ?cov, fun f14 => ?run⟩
  case run =>
    unfold k0_t1_body
    rw [dif_neg hc]
    iintro ⟨H4, H5, H8, H9, H10, H11, H12, H14, H15⟩
    sl_exec
    sl_step
    sl_close
  case cov => exact View.cover_of_tiledL _ ![1, 512, 256] (by sl_kernel_rfl)

end Cert.Proof.Moba

end
-- ==== Proof.Body.lean ====
/- The loop's invariant, and the kernel's body run once on symbolic contents. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit
public import proofs.«01_k».proof.Proof.Cond
public import proofs.«01_k».proof.Proof.Trip
public import Idealize.ShloMosaic.Lib.LoopRemainder
public import Idealize.ShloMosaic.Lib.WholeRead
public import Idealize.ShloMosaic.Lib.Pipeline.FrameBody

@[expose] public section

noncomputable section

namespace Cert.Proof.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents that the loop changes: running maxima, sums, accumulators, and the two score buffers. -/
structure St (F : FTy → Type) (c : Dev nD) (arg10 arg11 : Memref sig .tc .vmem S4x1x256 .f32) (arg12 : Memref sig .tc .vmem S4x64x256 .f32)
    (arg14 arg15 : Memref sig .tc .vmem S4x512x256 .f32) where
  m : Bf (F := F) c arg10
  l : Bf (F := F) c arg11
  a : Bf (F := F) c arg12
  e : Bf (F := F) c arg14
  o : Bf (F := F) c arg15

/-- One step of the loop on its contents. -/
def step (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (k : Fin (k0_t1_loop i).trips) (s : St F c arg10 arg11 arg12 arg14 arg15) : St F c arg10 arg11 arg12 arg14 arg15 :=
  if hc : k0_cond1 i k = 1#1 then
    let T := tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e
    ⟨arg10.view.writes (Elt F) s.m T.2.1, arg11.view.writes (Elt F) s.l T.2.2.1, arg12.view.writes (Elt F) s.a T.2.2.2.1, s.e,
      arg15.view.writes (Elt F) arg15.view.junk T.1⟩
  else
    let T := tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o
    ⟨arg10.view.writes (Elt F) s.m T.2.1, arg11.view.writes (Elt F) s.l T.2.2.1, arg12.view.writes (Elt F) s.a T.2.2.2.1,
      arg14.view.writes (Elt F) arg14.view.junk T.1, s.o⟩

/-- The contents before step `n`. -/
def states (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (s : St F c arg10 arg11 arg12 arg14 arg15) : ℕ → St F c arg10 arg11 arg12 arg14 arg15
  | 0 => s
  | n + 1 => if h : n < (k0_t1_loop i).trips then
      step c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨n, h⟩ (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 s n)
    else states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 s n

theorem states_succ (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (s : St F c arg10 arg11 arg12 arg14 arg15) (k : Fin (k0_t1_loop i).trips) :
    states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 s (k.val + 1) = step c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 k (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 s k.val) := by
  rw [states.eq_2]; exact dif_pos k.isLt

/-- Which of the loop's five contents. -/
abbrev before {α : Type} (f : α) (g : ℕ → α) (k : ℕ) : α := Nat.rec f (fun n _ => g (n + 1)) k

theorem before_eq {α : Type} (f : α) (g : ℕ → α) (h : f = g 0) (k : ℕ) : before f g k = g k := by
  cases k with
  | zero => exact h
  | succ n => rfl

/-- What the loop holds before step `k`. -/
abbrev inv (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (f10 : Bf (F := F) c arg10) (f11 : Bf (F := F) c arg11) (f12 : Bf (F := F) c arg12) (f14 : Bf (F := F) c arg14) (f15 : Bf (F := F) c arg15)
    (k : ℕ) (_ : Unit) : sProp 𝕄 :=
  Trip c (M4 := arg4) (M5 := arg5) (M8 := arg8) (M9 := arg9) (M10 := arg10) (M11 := arg11) (M12 := arg12) (M14 := arg14) (M15 := arg15) f4 f5 f8 f9
    (before f10 (fun n => (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ n).m) k)
    (before f11 (fun n => (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ n).l) k)
    (before f12 (fun n => (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ n).a) k)
    (before f14 (fun n => (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ n).e) k)
    (before f15 (fun n => (states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ n).o) k)

theorem inv_eq (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (f10 : Bf (F := F) c arg10) (f11 : Bf (F := F) c arg11) (f12 : Bf (F := F) c arg12) (f14 : Bf (F := F) c arg14) (f15 : Bf (F := F) c arg15)
    (k : ℕ) (u : Unit) :
    inv c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 f10 f11 f12 f14 f15 k u =
      (let s := states c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 ⟨f10, f11, f12, f14, arg15.view.junk⟩ k
       Trip c (M4 := arg4) (M5 := arg5) (M8 := arg8) (M9 := arg9) (M10 := arg10) (M11 := arg11) (M12 := arg12) (M14 := arg14) (M15 := arg15) f4 f5 f8 f9
        s.m s.l s.a s.e (if k = 0 then f15 else s.o) : sProp 𝕄) := by
  unfold inv
  rw [before_eq f10 _ rfl, before_eq f11 _ rfl, before_eq f12 _ rfl, before_eq f14 _ rfl]
  cases k with
  | zero => rfl
  | succ n => rfl

theorem writes_whole {sp : Space} {S : Shape} {e : EltTy} (M : Memref sig .tc sp S e) (hM : M.IsWhole) (f g : M.view.ty.Contents (Elt F))
    (L : List (View.Piece (Elt F) S e)) (h : ∀ y, ∃ p ∈ L, y ∈ p.1.set) : M.view.writes (Elt F) f L = M.view.writes (Elt F) g L :=
  hM.read_bijective.1 (View.read_writes_of_cover _ _ _ _ _ h)

theorem step_wp (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32) (v654 : IVec S1x256 1) (v665 : FVec F S1x256 .f32) (v688 : FVec F S64x256 .f32)
    (f4 : Bf (F := F) c arg4) (f5 : Bf (F := F) c arg5) (f8 : Bf (F := F) c arg8) (f9 : Bf (F := F) c arg9)
    (k : Fin (k0_t1_loop i).trips) (s : St F c arg10 arg11 arg12 arg14 arg15) (o : Bf (F := F) c arg15) (ho : k.val ≠ 0 → o = s.o) :
    Trip c (M4 := arg4) (M5 := arg5) (M8 := arg8) (M9 := arg9) (M10 := arg10) (M11 := arg11) (M12 := arg12) (M14 := arg14) (M15 := arg15) f4 f5 f8 f9 s.m s.l s.a s.e o
      ⊢ wp frame (wpE (defs₀ (F := F)) Variants.none (c : Thread nD τ) none) Set.univ
        (k0_t1_body (F := F) i arg3 harg3 arg4 harg4 arg5 harg5 arg6 harg6 arg7 harg7 arg8 harg8 arg9 harg9 arg10 harg10 arg11 harg11 arg12 harg12 arg13 harg13 arg14 harg14 arg15 harg15 arg2 v654 v665 v688 k ())
        (fun _ => let s' := step c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 k s
          Trip c (M4 := arg4) (M5 := arg5) (M8 := arg8) (M9 := arg9) (M10 := arg10) (M11 := arg11) (M12 := arg12) (M14 := arg14) (M15 := arg15) f4 f5 f8 f9
            s'.m s'.l s'.a s'.e s'.o) := by
  by_cases hc : k0_cond1 i k = 1#1
  · simp only [step, dif_pos hc]
    have h := (tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e).2.2.2.2
    rw [writes_whole arg15 harg15 arg15.view.junk o _ h.1]
    exact h.2 o
  · simp only [step, dif_neg hc]
    have h0 : k.val ≠ 0 := fun h => hc ((cond_iff i k).2 (by omega))
    have h := (tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o).2.2.2.2
    rw [writes_whole arg14 harg14 arg14.view.junk s.e _ h.1, ho h0]
    exact h.2 s.e

/-- Values that the loop's region names without using. -/
abbrev u654 : IVec S1x256 1 := fun _ => 0#1
abbrev u665 : FVec F S1x256 .f32 := constant S1x256 .f32 0#32
abbrev u688 : FVec F S64x256 .f32 := constant S64x256 .f32 0#32

set_option warn.classDefReducibility false in
@[sl_loop] def pairs (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
    (f4 : Bf (F := F) c arg4) (f5 : Bf (F := F) c arg5) (f8 : Bf (F := F) c arg8) (f9 : Bf (F := F) c arg9)
    (f10 : Bf (F := F) c arg10) (f11 : Bf (F := F) c arg11) (f12 : Bf (F := F) c arg12) (f14 : Bf (F := F) c arg14) (f15 : Bf (F := F) c arg15) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 arg15 harg15 arg2 u654 u665 u688 where
  inv := inv c i arg3 harg3 arg4 harg4 arg5 harg5 arg6 harg6 arg7 harg7 arg8 harg8 arg9 harg9 arg10 harg10 arg11 harg11 arg12 harg12 arg13 harg13 arg14 harg14 arg15 harg15 arg2 u654 u665 u688 f4 f5 f8 f9 f10 f11 f12 f14 f15
  step := fun k acc => by
    have h0 := inv_eq c i arg3 harg3 arg4 harg4 arg5 harg5 arg6 harg6 arg7 harg7 arg8 harg8 arg9 harg9 arg10 harg10 arg11 harg11 arg12 harg12 arg13 harg13 arg14 harg14 arg15 harg15 arg2 u654 u665 u688 f4 f5 f8 f9 f10 f11 f12 f14 f15 k.val acc
    have h1 : inv c i arg3 harg3 arg4 harg4 arg5 harg5 arg6 harg6 arg7 harg7 arg8 harg8 arg9 harg9 arg10 harg10 arg11 harg11 arg12 harg12 arg13 harg13 arg14 harg14 arg15 harg15 arg2 u654 u665 u688 f4 f5 f8 f9 f10 f11 f12 f14 f15 (k.val + 1) = _ :=
      funext fun u => inv_eq c i arg3 harg3 arg4 harg4 arg5 harg5 arg6 harg6 arg7 harg7 arg8 harg8 arg9 harg9 arg10 harg10 arg11 harg11 arg12 harg12 arg13 harg13 arg14 harg14 arg15 harg15 arg2 u654 u665 u688 f4 f5 f8 f9 f10 f11 f12 f14 f15 (k.val + 1) u
    rw [h0, h1, states_succ]
    simp only [Nat.succ_ne_zero, if_false]
    exact step_wp c i arg3 harg3 arg4 harg4 arg5 harg5 arg6 harg6 arg7 harg7 arg8 harg8 arg9 harg9 arg10 harg10 arg11 harg11 arg12 harg12 arg13 harg13 arg14 harg14 arg15 harg15 arg2 u654 u665 u688 f4 f5 f8 f9 k _ _ (fun h => if_neg h)

set_option maxHeartbeats 1600000 in
/-- The body at a symbolic point on symbolic blocks, and the pieces it writes into the result's block. -/
@[irreducible] def bodyRun (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole)
    (x3 : Vec F S1x256x256 .f32) (x4 : Vec F S1x8192x256 .bf16) (x5 : Vec F S1x32x256x256 .bf16) (x6 : Vec F S1x32x256 .f32) :
    {L : List (View.Piece (Elt F) S1x256x256 .f32) // ∀ (Q : PUnit → sProp 𝕄),
      iprop(pts c arg3 (harg3.unread x3) ∗ pts c arg4 (harg4.unread x4) ∗ pts c arg5 (harg5.unread x5) ∗ pts c arg6 (harg6.unread x6)
        ∗ (∃ f, pts c arg7 f) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f)
        ∗ (iprop(pts c arg3 (harg3.unread x3) ∗ pts c arg4 (harg4.unread x4) ∗ pts c arg5 (harg5.unread x5) ∗ pts c arg6 (harg6.unread x6)
            ∗ (∃ f, pts c arg7 (arg7.view.writes (Elt F) f L)) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f)) -∗ Q ⟨⟩))
      ⊢ wp frame (wpE (defs₀ (F := F)) Variants.none (c : Thread nD τ) none) Set.univ
        (cc0_moba_prompt (F := F) i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)) Q} := by
  refine ⟨?_, fun Q => ?run⟩
  case run =>
    iintro ⟨H3, H4, H5, H6, ⟨%f7, H7⟩, ⟨%g0, S0⟩, ⟨%g1, S1⟩, ⟨%g2, S2⟩, ⟨%g3, S3⟩, ⟨%g4, S4⟩, ⟨%g5, S5⟩, ⟨%g6, S6⟩, ⟨%g7, S7⟩, Hk⟩
    simp only [cc0_moba_prompt_eq_skeleton]
    unfold cc0_moba_prompt_skel
    sl_exec
    sl_step
    iapply Hk
    isplitl [H3]; · iexact H3
    isplitl [H4]; · iexact H4
    isplitl [H5]; · iexact H5
    isplitl [H6]; · iexact H6
    isplitl [H7]; · iexists _; iexact H7
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    iexists _; iexact S7

end Cert.Proof.Moba

end
-- ==== Proof.Frame.lean ====
/- The kernel's execution over any floats: it ends, its arguments keep their contents, every counter is back at zero. -/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit
public import proofs.«01_k».proof.Proof.Body
public import proofs.«01_k».proof.Proof.Gen.KernelIdeal.Launch
public import proofs.«01_k».proof.Proof.Gen.KernelIdeal.Points
public import proofs.«01_k».proof.Proof.Gen.KernelIdeal.Frame
public import Idealize.ShloMosaic.Lib.Ring

@[expose] public section

noncomputable section

namespace Cert.Proof.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at point `t`, on the blocks there. -/
abbrev runAt (c : Dev nD) (t : Fin cfg0.N) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 0 t) (iblk m c 1 t) (iblk m c 2 t) (iblk m c 3 t)

theorem runAt_cover (c : Dev nD) (t : Fin cfg0.N) (y : S1x256x256.Idx) : ∃ p ∈ (runAt m c t).1, y ∈ p.1.set :=
  View.cover_of_tiledL (runAt m c t).1 ![1, 256, 256] (by sl_kernel_rfl) y

/-- What the body leaves in the result's block at point `t`. -/
def outAt (c : Dev nD) (t : Fin cfg0.N) : Vec F S1x256x256 .f32 :=
  (win0_4.stage (cfg0.slots t 4)).view.read (Elt F) ((win0_4.stage (cfg0.slots t 4)).view.writes (Elt F) (win0_4.stage (cfg0.slots t 4)).view.junk (runAt m c t).1)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- The staging buffer that window 0 is on, and so on. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem owns_unread (c : Dev nD) {sp : Space} {S : Shape} {e : EltTy} (M : Memref sig .tc sp S e) (hM : M.IsWhole) (X : S.Idx → Elt F e) :
    owns (c : Thread nD τ) M fullShare X ⊢ pts (F := F) c M (hM.unread X) := by
  unfold owns
  iintro ⟨%f, %hf, H⟩
  obtain rfl := hM.eq_unread hf
  iexact H

theorem unread_owns (c : Dev nD) {sp : Space} {S : Shape} {e : EltTy} (M : Memref sig .tc sp S e) (hM : M.IsWhole) (X : S.Idx → Elt F e) :
    pts (F := F) c M (hM.unread X) ⊢ owns (c : Thread nD τ) M fullShare X := by
  unfold owns
  iintro H
  iexists _; isplitr
  swap; · iexact H
  ipureintro; exact hM.read_unread X

theorem owns_some (c : Dev nD) {sp : Space} {S : Shape} {e : EltTy} (M : Memref sig .tc sp S e) (X : S.Idx → Elt F e) :
    owns (c : Thread nD τ) M fullShare X ⊢ iprop(∃ f, pts (F := F) c M f) := by
  unfold owns
  iintro ⟨%f, %hf, H⟩
  iexists f
  iexact H

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = (dats m 0 c).Φ t.castSucc from rfl, after0_0, after0_1, after0_2, after0_3, after0_4]
  rw [show (dats m 0 c).Φ t.castSucc = Pipeline.ΦA spec0 c from rfl]
  unfold Pipeline.ΦA
  rw [scopedRest0_eq]
  unfold Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c)]
  iintro ⟨⟨⟨S0, S1, S2, S3, S4, S5, S6, S7⟩, Hg⟩, HW, ⟨%d0, H0⟩, ⟨%d1, H1⟩, ⟨%d2, H2⟩, ⟨%d3, H3⟩, ⟨%d4, H4⟩⟩
  iapply ((runAt m c t).2 _)
  isplitl [H0]; · iapply owns_unread; iexact H0
  isplitl [H1]; · iapply owns_unread; iexact H1
  isplitl [H2]; · iapply owns_unread; iexact H2
  isplitl [H3]; · iapply owns_unread; iexact H3
  isplitl [H4]; · iapply owns_some; iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iintro ⟨H0, H1, H2, H3, ⟨%e4, H4⟩, S0, S1, S2, S3, S4, S5, S6, S7⟩
  isplitl [S0 S1 S2 S3 S4 S5 S6 S7 Hg]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact Hg
  isplitl [HW]; · iexact HW
  isplitl [H0]; · iapply unread_owns; iexact H0
  isplitl [H1]; · iapply unread_owns; iexact H1
  isplitl [H2]; · iapply unread_owns; iexact H2
  isplitl [H3]; · iapply unread_owns; iexact H3
  unfold owns; iexists _; isplitr
  swap; · iexact H4
  ipureintro; exact View.read_writes_of_cover _ _ _ _ _ (runAt_cover m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Proof.Moba

end
-- ==== Proof.Frames.lean ====
/- The frames of the three programs, and the two named constants. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Frame
public import Idealize.ShloMosaic.Lib.Quiescent
public import Idealize.ShloMosaic.Lib.Tactic

@[expose] public section

noncomputable section

namespace Cert.Proof

open Idealize.ShloMosaic Idealize.ShloMosaic.Tactic Idealize.SL.Sem

/-- Over the machine's own floats a named constant is the value its bits denote. -/
@[reducible] def namedBits : Named Bits where
  named _ _ {_} bits := Scalar.ofBits _ bits

theorem frame_kernelIdeal : Cert.quiescent_KernelIdeal := fun m ρ _ => Moba.frame_main (F := Ideal) m ρ

/-- The frame's statement for the idealized text, read over the machine's own floats. -/
def quiescentBits : Prop :=
  letI := namedBits
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem quiescentBits_holds : quiescentBits := fun m ρ _ =>
  letI := namedBits
  Moba.frame_main (F := Bits) m ρ

/-- The two texts are one program over the machine's own floats. -/
theorem texts_same : Cert.quiescent_Kernel = quiescentBits := by sl_kernel_rfl

theorem frame_kernel : Cert.quiescent_Kernel := texts_same ▸ quiescentBits_holds

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "scale2" .f32 _ _ rfl,
    IdealRules.named_const.statement Cert.KernelIdeal.κ "mask" .f32 _ _ rfl⟩

end Cert.Proof

end
-- ==== Proof.RefStages.lean ====
/- The reference's result, in stages. -/
module

public import proofs.«01_k».proof.Proof.Gen.ReferenceIdeal.Run
public import Idealize.ShloMosaic.Lib.Pointwise
public import Idealize.ShloMosaic.Lib.Tactic

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic

/-- The block of a position. -/
def rOwn  : IVec S8192 32 :=
  (select (andi ((cmpi .ne) (signi (iotaInDim S8192 32 0)) ((broadcastInDim S8192 ![] bcast_S_S8192) (signi (constantI S_ 32 256#32)))) ((cmpi .ne) (Host.remsi (iotaInDim S8192 32 0) ((broadcastInDim S8192 ![] bcast_S_S8192) (constantI S_ 32 256#32))) ((broadcastInDim S8192 ![] bcast_S_S8192) (constantI S_ 32 0#32)))) (subi (Host.divsi (iotaInDim S8192 32 0) ((broadcastInDim S8192 ![] bcast_S_S8192) (constantI S_ 32 256#32))) ((broadcastInDim S8192 ![] bcast_S_S8192) (constantI S_ 32 1#32))) (Host.divsi (iotaInDim S8192 32 0) ((broadcastInDim S8192 ![] bcast_S_S8192) (constantI S_ 32 256#32))))

/-- An array cut in blocks, by head. -/
def rBlk (x : FVec Ideal S2x8192x16x64 .f32) : FVec Ideal S2x16x32x256x64 .f32 :=
  (transpose S2x16x32x256x64 [0, 3, 1, 2, 4] (shapeCast _ x shapeCasts_S2x8192x16x64_S2x32x256x16x64) transposes_S2x32x256x16x64_S2x16x32x256x64_0_3_1_2_4)

/-- The mean of each block. -/
def rMean (kb : FVec Ideal S2x16x32x256x64 .f32) : FVec Ideal S2x16x32x64 .f32 :=
  (Host.divf (Host.reduceAdd kb (constant S_ .f32 0x00000000#32) reducesTo_S2x16x32x256x64_S2x16x32x64_d3 h_S_) (broadcastInDim S2x16x32x64 ![] bcast_S_S2x16x32x64 (constant S_ .f32 0x43800000#32)))

/-- The gate of every block before the own one. -/
def rGate (own : IVec S8192 32) (km : FVec Ideal S2x16x32x64 .f32) (q : FVec Ideal S2x8192x16x64 .f32) : FVec Ideal S2x8192x16x32 .f32 :=
  (select ((broadcastInDim S2x8192x16x32 ![0, 1, 2, 3] bcast_S1x8192x1x32_S2x8192x16x32_0_1_2_3) (broadcastInDim S1x8192x1x32 ![1, 3] bcast_S8192x32_S1x8192x1x32_1_3 (cmpi .slt (broadcastInDim S8192x32 ![0, 1] bcast_S1x32_S8192x32_0_1 (broadcastInDim S1x32 ![1] bcast_S32_S1x32_1 (iotaInDim S32 32 0))) (broadcastInDim S8192x32 ![0, 1] bcast_S8192x1_S8192x32_0_1 (broadcastInDim S8192x1 ![0] bcast_S8192_S8192x1_0 own))))) (transpose S2x8192x16x32 [0, 3, 1, 2] (Host.dotGeneral dot_S2x16x32x64_S2x8192x16x64_S2x16x32x8192_3_3_2_1_01_02 none km q) transposes_S2x16x32x8192_S2x8192x16x32_0_3_1_2) ((broadcastInDim S2x8192x16x32 ![] bcast_S_S2x8192x16x32) (constant S_ .f32 0xFF800000#32)))

/-- The blocks of the three largest gates. -/
def rTop (g : FVec Ideal S2x8192x16x32 .f32) : IVec S2x8192x16x3 32 :=
  ((Host.topK S2x8192x16x3 3 (FloatOps.cmpfTotal .gt) g sliceFits_S2x8192x16x32_S2x8192x16x3).2)

/-- The four blocks a query looks at. -/
def rSel (top : IVec S2x8192x16x3 32) (own : IVec S8192 32) : IVec S2x8192x16x4 32 :=
  ((fn_main_v32 (F := Ideal)) top (broadcastInDim S2x8192x16x1 ![0, 1, 2, 3] bcast_S1x8192x1x1_S2x8192x16x1_0_1_2_3 (broadcastInDim S1x8192x1x1 ![1] bcast_S8192_S1x8192x1x1_1 own)))

/-- Which of the four count. -/
def rOk (own : IVec S8192 32) : IVec S8192x4 1 :=
  ((fn_main_v34 (F := Ideal)) (cmpi .slt (broadcastInDim S8192x3 ![0, 1] bcast_S1x3_S8192x3_0_1 (broadcastInDim S1x3 ![1] bcast_S3_S1x3_1 (iotaInDim S3 32 0))) (broadcastInDim S8192x3 ![0, 1] bcast_S8192x1_S8192x3_0_1 (broadcastInDim S8192x1 ![0] bcast_S8192_S8192x1_0 own))) (broadcastInDim S8192x1 ![] bcast_S_S8192x1 (constantI S_ 1 1#1)))

/-- The places to gather from. -/
def rIx (sel : IVec S2x8192x16x4 32) : IVec S2x8192x16x4x3 32 :=
  (fn_main_v55 (F := Ideal) (broadcastInDim S2x8192x16x4x1 ![0, 1, 2, 3] bcast_S2x8192x16x4_S2x8192x16x4x1_0_1_2_3 (broadcastInDim S2x8192x16x4 ![0, 1, 2, 3] bcast_S2x1x1x1_S2x8192x16x4_0_1_2_3 (select (cmpi .slt (broadcastInDim S2x1x1x1 ![0] bcast_S2_S2x1x1x1_0 (iotaInDim S2 32 0)) (broadcastInDim S2x1x1x1 ![] bcast_S_S2x1x1x1 (constantI S_ 32 0#32))) (addi (broadcastInDim S2x1x1x1 ![0] bcast_S2_S2x1x1x1_0 (iotaInDim S2 32 0)) (broadcastInDim S2x1x1x1 ![] bcast_S_S2x1x1x1 (constantI S_ 32 2#32))) (broadcastInDim S2x1x1x1 ![0] bcast_S2_S2x1x1x1_0 (iotaInDim S2 32 0))))) (broadcastInDim S2x8192x16x4x1 ![0, 1, 2, 3] bcast_S2x8192x16x4_S2x8192x16x4x1_0_1_2_3 (broadcastInDim S2x8192x16x4 ![0, 1, 2, 3] bcast_S1x1x16x1_S2x8192x16x4_0_1_2_3 (select (cmpi .slt (broadcastInDim S1x1x16x1 ![2] bcast_S16_S1x1x16x1_2 (iotaInDim S16 32 0)) (broadcastInDim S1x1x16x1 ![] bcast_S_S1x1x16x1 (constantI S_ 32 0#32))) (addi (broadcastInDim S1x1x16x1 ![2] bcast_S16_S1x1x16x1_2 (iotaInDim S16 32 0)) (broadcastInDim S1x1x16x1 ![] bcast_S_S1x1x16x1 (constantI S_ 32 16#32))) (broadcastInDim S1x1x16x1 ![2] bcast_S16_S1x1x16x1_2 (iotaInDim S16 32 0))))) (broadcastInDim S2x8192x16x4x1 ![0, 1, 2, 3] bcast_S2x8192x16x4_S2x8192x16x4x1_0_1_2_3 (select (cmpi .slt sel (broadcastInDim S2x8192x16x4 ![] bcast_S_S2x8192x16x4 (constantI S_ 32 0#32))) (addi sel (broadcastInDim S2x8192x16x4 ![] bcast_S_S2x8192x16x4 (constantI S_ 32 32#32))) sel)))

/-- The four blocks of an array. -/
def rGat (kb : FVec Ideal S2x16x32x256x64 .f32) (ix : IVec S2x8192x16x4x3 32) : FVec Ideal S2x8192x16x4x256x64 .f32 :=
  (Host.gather gather_S2x16x32x256x64_S2x8192x16x4x3_S2x8192x16x4x256x64_45_012_n_n_012_4_11125664 kb ix)

/-- Which keys count. -/
def rMask (sel : IVec S2x8192x16x4 32) (ok : IVec S8192x4 1) : IVec S2x8192x16x4x256 1 :=
  (andi (broadcastInDim S2x8192x16x4x256 ![0, 1, 2, 3, 4] bcast_S1x8192x1x4x1_S2x8192x16x4x256_0_1_2_3_4 (broadcastInDim S1x8192x1x4x1 ![1, 3] bcast_S8192x4_S1x8192x1x4x1_1_3 ok)) (cmpi .sle (addi (broadcastInDim S2x8192x16x4x256 ![0, 1, 2, 3, 4] bcast_S2x8192x16x4x1_S2x8192x16x4x256_0_1_2_3_4 (muli (broadcastInDim S2x8192x16x4x1 ![0, 1, 2, 3] bcast_S2x8192x16x4_S2x8192x16x4x1_0_1_2_3 sel) (broadcastInDim S2x8192x16x4x1 ![] bcast_S_S2x8192x16x4x1 (constantI S_ 32 256#32)))) (broadcastInDim S2x8192x16x4x256 ![0, 1, 2, 3, 4] bcast_S1x1x1x1x256_S2x8192x16x4x256_0_1_2_3_4 (broadcastInDim S1x1x1x1x256 ![4] bcast_S256_S1x1x1x1x256_4 (iotaInDim S256 32 0)))) (broadcastInDim S2x8192x16x4x256 ![0, 1, 2, 3, 4] bcast_S1x8192x1x1x1_S2x8192x16x4x256_0_1_2_3_4 (broadcastInDim S1x8192x1x1x1 ![1] bcast_S8192_S1x8192x1x1x1_1 (iotaInDim S8192 32 0)))))

/-- The scores. -/
def rS (mask : IVec S2x8192x16x4x256 1) (q : FVec Ideal S2x8192x16x64 .f32) (kg : FVec Ideal S2x8192x16x4x256x64 .f32) : FVec Ideal S2x8192x16x4x256 .f32 :=
  (select mask (mulf (Host.dotGeneral dot_S2x8192x16x64_S2x8192x16x4x256x64_S2x8192x16x4x256_3_5_n_34_012_012 none q kg) (broadcastInDim S2x8192x16x4x256 ![] bcast_S_S2x8192x16x4x256 (constant S_ .f32 0x3E000000#32))) ((broadcastInDim S2x8192x16x4x256 ![] bcast_S_S2x8192x16x4x256) (constant S_ .f32 0xFF800000#32)))

/-- The scores of a query in one row. -/
def rFl (s : FVec Ideal S2x8192x16x4x256 .f32) : FVec Ideal S2x8192x16x1024 .f32 :=
  (shapeCast _ s shapeCasts_S2x8192x16x4x256_S2x8192x16x1024)

/-- The largest score. -/
def rMx (f : FVec Ideal S2x8192x16x1024 .f32) : FVec Ideal S2x8192x16 .f32 :=
  (maximumf (broadcastInDim S2x8192x16 ![] bcast_S_S2x8192x16 (constant S_ .f32 0xFF800000#32)) (Host.reduce FloatOps.maximumf f (constant S_ .f32 0xFF800000#32) reducesTo_S2x8192x16x1024_S2x8192x16_d3 h_S_))

/-- The exponentials. -/
def rE (f : FVec Ideal S2x8192x16x1024 .f32) (mx : FVec Ideal S2x8192x16 .f32) : FVec Ideal S2x8192x16x1024 .f32 :=
  (Host.exp (subf f (broadcastInDim S2x8192x16x1024 ![0, 1, 2, 3] bcast_S2x8192x16x1_S2x8192x16x1024_0_1_2_3 (broadcastInDim S2x8192x16x1 ![0, 1, 2] bcast_S2x8192x16_S2x8192x16x1_0_1_2 mx))))

/-- The sum of the exponentials. -/
def rSum (e : FVec Ideal S2x8192x16x1024 .f32) : FVec Ideal S2x8192x16 .f32 :=
  (Host.reduceAdd e (constant S_ .f32 0x00000000#32) reducesTo_S2x8192x16x1024_S2x8192x16_d3 h_S_)

/-- The weights. -/
def rP (e : FVec Ideal S2x8192x16x1024 .f32) (z : FVec Ideal S2x8192x16 .f32) : FVec Ideal S2x8192x16x4x256 .f32 :=
  (shapeCast _ (Host.divf e (broadcastInDim S2x8192x16x1024 ![0, 1, 2, 3] bcast_S2x8192x16x1_S2x8192x16x1024_0_1_2_3 (broadcastInDim S2x8192x16x1 ![0, 1, 2] bcast_S2x8192x16_S2x8192x16x1_0_1_2 z))) shapeCasts_S2x8192x16x1024_S2x8192x16x4x256)

/-- The result. -/
def rOut (p : FVec Ideal S2x8192x16x4x256 .f32) (vg : FVec Ideal S2x8192x16x4x256x64 .f32) : FVec Ideal S2x8192x1024 .f32 :=
  (shapeCast _ (Host.dotGeneral dot_S2x8192x16x4x256_S2x8192x16x4x256x64_S2x8192x16x64_34_34_n_5_012_012 none p vg) shapeCasts_S2x8192x16x64_S2x8192x1024)

/-- The four blocks, the mask, the scores and the exponentials, from the arrays. -/
def rSel4 (q k : FVec Ideal S2x8192x16x64 .f32) : IVec S2x8192x16x4 32 := rSel (rTop (rGate rOwn (rMean (rBlk k)) q)) rOwn
def rM4 (q k : FVec Ideal S2x8192x16x64 .f32) : IVec S2x8192x16x4x256 1 := rMask (rSel4 q k) (rOk rOwn)
def rF4 (q k : FVec Ideal S2x8192x16x64 .f32) : FVec Ideal S2x8192x16x1024 .f32 := rFl (rS (rM4 q k) q (rGat (rBlk k) (rIx (rSel4 q k))))
def rE4 (q k : FVec Ideal S2x8192x16x64 .f32) : FVec Ideal S2x8192x16x1024 .f32 := rE (rF4 q k) (rMx (rF4 q k))
def rAll (q k v : FVec Ideal S2x8192x16x64 .f32) : FVec Ideal S2x8192x1024 .f32 :=
  rOut (rP (rE4 q k) (rSum (rE4 q k))) (rGat (rBlk v) (rIx (rSel4 q k)))

theorem res_eq (m : (ℓ : Loc nD τ sig) → Buf (Elt Ideal) ℓ) (c : Dev nD) :
    res_main_v110 m c = rAll (m ((c.tc : Thread nD τ).loc main_arg0)) (m ((c.tc : Thread nD τ).loc main_arg1)) (m ((c.tc : Thread nD τ).loc main_arg2)) := by
  sl_kernel_rfl

end Cert.Proof.Ref
-- ==== Proof.Vecs.lean ====
/- The vector computations that every head and every block repeat, written once. -/
module

public import proofs.«01_k».proof.Proof.Gen.KernelIdeal
public import Idealize.ShloMosaic.Lib.Pointwise
public import Idealize.ShloMosaic.Lib.Tactic
public import Idealize.ShloMosaic.Lib.Pipeline.Kit

@[expose] public section

noncomputable section

namespace Cert.Proof.Moba

open Cert.KernelIdeal Cert.KernelIdeal.Gen
open Idealize.ShloMosaic Idealize.ShloMosaic.TcCoe

/-- Which queries a block is read for: the selection row, and whether the block lies before the own one. -/
def chV (sel : FVec Ideal S1x256 .f32) (b : BitVec 1) : IVec S1x256 1 :=
  andi (cmpf .ogt sel (broadcast S1x256 (Scalar.ofBits (F := Ideal) .f32 0x3F000000#32))) (broadcast S1x256 b)

/-- The largest score so far, the block's scores included. -/
def mallV (m : FVec Ideal S1x256 .f32) (s : FVec Ideal S256x256 .f32) : FVec Ideal S1x256 .f32 :=
  maximumf m (shapeCast S1x256 (multiReduction .maximumf [0] S256 s 0xFF800000#32 reduces_S256x256_S256 (.inl rfl) rfl) shapeCasts_S256_S1x256)

/-- The block's weights. -/
def pV (m : FVec Ideal S1x256 .f32) (s : FVec Ideal S256x256 .f32) : FVec Ideal S256x256 .f32 :=
  exp2 (subf s (broadcastTo S256x256 (mallV m s) broadcasts_S1x256_S256x256))

/-- The running maximum after the block. -/
def mV (ch : IVec S1x256 1) (m : FVec Ideal S1x256 .f32) (s : FVec Ideal S256x256 .f32) : FVec Ideal S1x256 .f32 :=
  select ch (mallV m s) m

/-- What the sums so far are scaled by. -/
def alphaV (ch : IVec S1x256 1) (m : FVec Ideal S1x256 .f32) (s : FVec Ideal S256x256 .f32) : FVec Ideal S1x256 .f32 :=
  exp2 (subf m (mV ch m s))

/-- The running denominator after the block. -/
def lV (ch : IVec S1x256 1) (m l : FVec Ideal S1x256 .f32) (s : FVec Ideal S256x256 .f32) : FVec Ideal S1x256 .f32 :=
  addf (mulf (alphaV ch m s) l)
    (select ch (shapeCast S1x256 (multiReduction .add [0] S256 (pV m s) 0x00000000#32 reduces_S256x256_S256 (.inl rfl) rfl) shapeCasts_S256_S1x256)
      (broadcast S1x256 (Scalar.ofBits (F := Ideal) .f32 0x00000000#32)))

/-- The block's values, weighted. -/
def pvV (vt : FVec Ideal S64x256 .bf16) (m : FVec Ideal S1x256 .f32) (s : FVec Ideal S256x256 .f32) : FVec Ideal S64x256 .f32 :=
  matmul dot_S64x256_S256x256_S64x256_1_0_0_1_n_n none vt (truncf .bf16 (pV m s) bitsLt_bf16_f32) (constant S64x256 .f32 0x00000000#32)

/-- The running numerator after the block. -/
def aV (ch : IVec S1x256 1) (m : FVec Ideal S1x256 .f32) (a : FVec Ideal S64x256 .f32) (s : FVec Ideal S256x256 .f32) (vt : FVec Ideal S64x256 .bf16) :
    FVec Ideal S64x256 .f32 :=
  addf (mulf (broadcastTo S64x256 (alphaV ch m s) broadcasts_S1x256_S64x256) a)
    (select (broadcastTo S64x256 (shapeCast S1x256 ch shapeCasts_S1x256_S1x256) broadcasts_S1x256_S64x256) (pvV vt m s)
      (broadcast S64x256 (Scalar.ofBits (F := Ideal) .f32 0x00000000#32)))

/-- The scores of two blocks' keys. -/
def scV (k : FVec Ideal S512x128 .bf16) (q : FVec Ideal S128x256 .bf16) : FVec Ideal S512x256 .f32 :=
  matmul dot_S512x128_S128x256_S512x256_1_0_0_1_n_n none k q (constant S512x256 .f32 0x00000000#32)

set_option maxRecDepth 16384

theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]
theorem ofBits_half : Ideal.ofBits .f32 0x3F000000#32 = ((1/2 : ℝ) : EReal) := by
  simp [Ideal.ofBits, Ideal.ieee]; rw [← EReal.coe_mul]; norm_num
theorem ofBits_32 : Ideal.ofBits .f32 0x42000000#32 = ((32 : ℝ) : EReal) := by
  simp [Ideal.ofBits, Ideal.ieee]; rw [← EReal.coe_mul]; norm_num
theorem ofBits_256 : Ideal.ofBits .f32 0x43800000#32 = ((256 : ℝ) : EReal) := by
  simp [Ideal.ofBits, Ideal.ieee]; rw [← EReal.coe_mul]; norm_num
theorem sel_eq {α : Type} (b : BitVec 1) (x y : α) : Scalar.select b x y = if b = 1#1 then x else y := by
  rfl

theorem chV_apply (sel : FVec Ideal S1x256 .f32) (b : BitVec 1) (x : Fin 256) :
    chV sel b (ix2 0 x) = if ((1/2 : ℝ) : EReal) < sel (ix2 0 x) ∧ b = 1#1 then 1#1 else 0#1 := by
  pointwise [chV]
  rw [ofBits_half]
  generalize ((1/2 : ℝ) : EReal) = w
  rcases (by decide +revert : b = 0#1 ∨ b = 1#1) with rfl | rfl <;> by_cases h : w < sel (ix2 0 x) <;> simp [h, IntOp.andi]

theorem mallV_apply (m : FVec Ideal S1x256 .f32) (s : FVec Ideal S256x256 .f32) (x : Fin 256) :
    mallV m s (ix2 0 x) = max (m (ix2 0 x)) (Finset.univ.fold max ⊥ fun kk : Fin 256 => s (ix2 kk x)) := by
  pointwise [mallV]
  rw [ofBits_ninf]

theorem pV_apply (m : FVec Ideal S1x256 .f32) (s : FVec Ideal S256x256 .f32) (kk x : Fin 256) :
    pV m s (ix2 kk x) = Ideal.exp2 (s (ix2 kk x) - mallV m s (ix2 0 x)) := by
  pointwise [pV]
  rfl

theorem mV_apply (ch : IVec S1x256 1) (m : FVec Ideal S1x256 .f32) (s : FVec Ideal S256x256 .f32) (x : Fin 256) :
    mV ch m s (ix2 0 x) = if ch (ix2 0 x) = 1#1 then mallV m s (ix2 0 x) else m (ix2 0 x) := by
  pointwise [mV]
  rw [sel_eq]

theorem alphaV_apply (ch : IVec S1x256 1) (m : FVec Ideal S1x256 .f32) (s : FVec Ideal S256x256 .f32) (x : Fin 256) :
    alphaV ch m s (ix2 0 x) = Ideal.exp2 (m (ix2 0 x) - mV ch m s (ix2 0 x)) := by
  pointwise [alphaV]
  rfl

theorem lV_apply (ch : IVec S1x256 1) (m l : FVec Ideal S1x256 .f32) (s : FVec Ideal S256x256 .f32) (x : Fin 256) :
    lV ch m l s (ix2 0 x) = alphaV ch m s (ix2 0 x) * l (ix2 0 x) + (if ch (ix2 0 x) = 1#1 then ∑ kk : Fin 256, pV m s (ix2 kk x) else 0) := by
  pointwise [lV]
  rw [sel_eq]

theorem aV_apply (ch : IVec S1x256 1) (m : FVec Ideal S1x256 .f32) (a : FVec Ideal S64x256 .f32) (s : FVec Ideal S256x256 .f32) (vt : FVec Ideal S64x256 .bf16)
    (d : Fin 64) (x : Fin 256) :
    aV ch m a s vt (ix2 d x) = alphaV ch m s (ix2 0 x) * a (ix2 d x)
      + (if ch (ix2 0 x) = 1#1 then ∑ kk : Fin 256, vt (ix2 d kk) * pV m s (ix2 kk x) else 0) := by
  pointwise [aV, pvV]
  rw [sel_eq]

theorem scV_apply (k : FVec Ideal S512x128 .bf16) (q : FVec Ideal S128x256 .bf16) (kk : Fin 512) (x : Fin 256) :
    scV k q (ix2 kk x) = ∑ r : Fin 128, k (ix2 kk r) * q (ix2 r x) := by
  pointwise [scV]

end Cert.Proof.Moba

end
-- ==== Proof.Rows.lean ====
/- Buffers with one row per head: what a row holds after a step's pieces are written. -/
module

public import proofs.«01_k».proof.Proof.Vecs
public import proofs.«01_k».proof.Proof.Trip
public import Idealize.ShloMosaic.Lib.WritesUnit

@[expose] public section

noncomputable section

namespace Cert.Proof.Moba

open Cert.KernelIdeal Cert.KernelIdeal.Gen
open Idealize.ShloMosaic Idealize.ShloMosaic.TcCoe

set_option maxRecDepth 16384

/-- Head `h`'s part of a buffer with four heads. -/
abbrev hd (R C : ℕ) (h : Fin 4) : Rect ⟨3, ![4, R, C]⟩ :=
  Rect.unit ![h.val, 0, 0] ![1, R, C] (by
    intro a
    match a with
    | ⟨0, _⟩ => show h.val + 1 ≤ 4; omega
    | ⟨1, _⟩ => show 0 + R ≤ R; omega
    | ⟨2, _⟩ => show 0 + C ≤ C; omega)

section
variable {κ : Kind} {sp : Space} {e : EltTy} {R C : ℕ}

theorem hit (v : View sig κ sp ⟨3, ![4, R, C]⟩ e) (f : v.ty.Contents (Elt Ideal)) (o h : Fin 4)
    (w : (hd R C o).shape.Idx → Elt Ideal e) (L : List (View.Piece (Elt Ideal) ⟨3, ![4, R, C]⟩ e)) (r : Fin R) (x : Fin C) (ho : o = h) :
    v.read (Elt Ideal) (v.writes (Elt Ideal) f (⟨hd R C o, w⟩ :: L)) (ix3 h r x) = w (ix3 0 r x) := by
  subst ho
  refine View.read_writes_cons_unit_of_mem v f _ w L (ix3 o r x) (ix3 0 r x) rfl fun a => ?_
  match a with
  | ⟨0, _⟩ => show o.val = o.val + 0; omega
  | ⟨1, _⟩ => show r.val = 0 + r.val; omega
  | ⟨2, _⟩ => show x.val = 0 + x.val; omega

theorem miss (v : View sig κ sp ⟨3, ![4, R, C]⟩ e) (f : v.ty.Contents (Elt Ideal)) (o h : Fin 4)
    (w : (hd R C o).shape.Idx → Elt Ideal e) (L : List (View.Piece (Elt Ideal) ⟨3, ![4, R, C]⟩ e)) (r : Fin R) (x : Fin C) (ho : o ≠ h) :
    v.read (Elt Ideal) (v.writes (Elt Ideal) f (⟨hd R C o, w⟩ :: L)) (ix3 h r x)
      = v.read (Elt Ideal) (v.writes (Elt Ideal) f L) (ix3 h r x) := by
  refine View.read_writes_cons_unit_of_not_mem v f _ w L (ix3 h r x) rfl (0 : Fin 3) ?_
  show h.val < o.val ∨ o.val + 1 ≤ h.val
  have : o.val ≠ h.val := fun hh => ho (Fin.ext hh)
  omega
end

/-- Row `h` of a buffer, as one vector. -/
def rowM (x : S4x1x256.Idx → EReal) (h : Fin 4) : FVec Ideal S1x256 .f32 := fun j => x (ix3 h 0 (j 1))
/-- Head `h`'s accumulator. -/
def rowA (x : S4x64x256.Idx → EReal) (h : Fin 4) : FVec Ideal S64x256 .f32 := fun j => x (ix3 h (j 0) (j 1))

variable {sp : Space}

theorem cast_row (v : View sig .tc sp S4x1x256 .f32) (f : v.ty.Contents (Elt Ideal)) (h : Fin 4) :
    shapeCast S1x256 (v.readAt (Elt Ideal) (hd 1 256 h).toLoadRect f) shapeCasts_S1x1x256_S1x256 = rowM (v.read (Elt Ideal) f) h := by
  funext j; idx_vars j
  fin_cases h <;> pointwise [rowM, View.readAt_apply]

theorem cast_acc (v : View sig .tc sp S4x64x256 .f32) (f : v.ty.Contents (Elt Ideal)) (h : Fin 4) :
    shapeCast S64x256 (v.readAt (Elt Ideal) (hd 64 256 h).toLoadRect f) shapeCasts_S1x64x256_S64x256 = rowA (v.read (Elt Ideal) f) h := by
  funext j; idx_vars j
  fin_cases h <;> pointwise [rowA, View.readAt_apply]

/-- A row piece. -/
def rowP (h : Fin 4) (w : FVec Ideal S1x256 .f32) : View.Piece (Elt Ideal) S4x1x256 .f32 :=
  ⟨hd 1 256 h, shapeCast S1x1x256 w shapeCasts_S1x256_S1x1x256⟩
def accP (h : Fin 4) (w : FVec Ideal S64x256 .f32) : View.Piece (Elt Ideal) S4x64x256 .f32 :=
  ⟨hd 64 256 h, shapeCast S1x64x256 w shapeCasts_S64x256_S1x64x256⟩

theorem rowP_apply (w : FVec Ideal S1x256 .f32) (x : Fin 256) :
    (shapeCast S1x1x256 w shapeCasts_S1x256_S1x1x256) (ix3 0 0 x) = w (ix2 0 x) := by pointwise
theorem accP_apply (w : FVec Ideal S64x256 .f32) (d : Fin 64) (x : Fin 256) :
    (shapeCast S1x64x256 w shapeCasts_S64x256_S1x64x256) (ix3 0 d x) = w (ix2 d x) := by pointwise

theorem rowM_cons (v : View sig .tc sp S4x1x256 .f32) (f : v.ty.Contents (Elt Ideal)) (o : Fin 4) (w : FVec Ideal S1x256 .f32)
    (L : List (View.Piece (Elt Ideal) S4x1x256 .f32)) (h : Fin 4) :
    rowM (v.read (Elt Ideal) (v.writes (Elt Ideal) f (rowP o w :: L))) h
      = if o = h then w else rowM (v.read (Elt Ideal) (v.writes (Elt Ideal) f L)) h := by
  funext j; idx_vars j
  split
  next e => obtain rfl : j0 = 0 := Subsingleton.elim _ _
            simp only [rowM]; exact (hit v f o h _ L 0 _ e).trans (rowP_apply w _)
  next e => obtain rfl : j0 = 0 := Subsingleton.elim _ _
            simp only [rowM]; exact miss v f o h _ L 0 _ e

theorem rowA_cons (v : View sig .tc sp S4x64x256 .f32) (f : v.ty.Contents (Elt Ideal)) (o : Fin 4) (w : FVec Ideal S64x256 .f32)
    (L : List (View.Piece (Elt Ideal) S4x64x256 .f32)) (h : Fin 4) :
    rowA (v.read (Elt Ideal) (v.writes (Elt Ideal) f (accP o w :: L))) h
      = if o = h then w else rowA (v.read (Elt Ideal) (v.writes (Elt Ideal) f L)) h := by
  funext j; idx_vars j
  split
  next e => simp only [rowA]; exact (hit v f o h _ L _ _ e).trans (accP_apply w _ _)
  next e => simp only [rowA]; exact miss v f o h _ L _ _ e

/-- Row `h`, as the program reads it from contents `f`. -/
def getM (v : View sig .tc sp S4x1x256 .f32) (f : v.ty.Contents (Elt Ideal)) (h : Fin 4) : FVec Ideal S1x256 .f32 :=
  shapeCast S1x256 (v.readAt (Elt Ideal) (hd 1 256 h).toLoadRect f) shapeCasts_S1x1x256_S1x256
def getA (v : View sig .tc sp S4x64x256 .f32) (f : v.ty.Contents (Elt Ideal)) (h : Fin 4) : FVec Ideal S64x256 .f32 :=
  shapeCast S64x256 (v.readAt (Elt Ideal) (hd 64 256 h).toLoadRect f) shapeCasts_S1x64x256_S64x256

theorem getM_eq (v : View sig .tc sp S4x1x256 .f32) (f : v.ty.Contents (Elt Ideal)) (h : Fin 4) : getM v f h = rowM (v.read (Elt Ideal) f) h := cast_row v f h
theorem getA_eq (v : View sig .tc sp S4x64x256 .f32) (f : v.ty.Contents (Elt Ideal)) (h : Fin 4) : getA v f h = rowA (v.read (Elt Ideal) f) h := cast_acc v f h

abbrev RowL : Type := List (View.Piece (Elt Ideal) S4x1x256 .f32)
abbrev AccL : Type := List (View.Piece (Elt Ideal) S4x64x256 .f32)

variable (v v' : View sig .tc sp S4x1x256 .f32) (vA : View sig .tc sp S4x64x256 .f32)
variable (f : v.ty.Contents (Elt Ideal)) (f' : v'.ty.Contents (Elt Ideal)) (fA : vA.ty.Contents (Elt Ideal))
variable (ch : Fin 4 → IVec S1x256 1) (s : Fin 4 → FVec Ideal S256x256 .f32) (vt : Fin 4 → FVec Ideal S64x256 .bf16)

/-- One block consumed for all four heads, from contents. -/
def m4 : RowL := [rowP 3 (mV (ch 3) (getM v f 3) (s 3)), rowP 2 (mV (ch 2) (getM v f 2) (s 2)), rowP 1 (mV (ch 1) (getM v f 1) (s 1)),
  rowP 0 (mV (ch 0) (getM v f 0) (s 0))]
def l4 : RowL := [rowP 3 (lV (ch 3) (getM v f 3) (getM v' f' 3) (s 3)), rowP 2 (lV (ch 2) (getM v f 2) (getM v' f' 2) (s 2)),
  rowP 1 (lV (ch 1) (getM v f 1) (getM v' f' 1) (s 1)), rowP 0 (lV (ch 0) (getM v f 0) (getM v' f' 0) (s 0))]
def a4 : AccL := [accP 3 (aV (ch 3) (getM v f 3) (getA vA fA 3) (s 3) (vt 3)), accP 2 (aV (ch 2) (getM v f 2) (getA vA fA 2) (s 2) (vt 2)),
  accP 1 (aV (ch 1) (getM v f 1) (getA vA fA 1) (s 1) (vt 1)), accP 0 (aV (ch 0) (getM v f 0) (getA vA fA 0) (s 0) (vt 0))]

/-- The same on top of pieces that are already written. -/
def mAdd (L : RowL) (h : Fin 4) : RowL := rowP h (mV (ch h) (getM v (v.writes (Elt Ideal) v.junk L) h) (s h)) :: L
def lAdd (L L' : RowL) (h : Fin 4) : RowL :=
  rowP h (lV (ch h) (getM v (v.writes (Elt Ideal) v.junk L) h) (getM v' (v'.writes (Elt Ideal) v'.junk L') h) (s h)) :: L'
def aAdd (L : RowL) (LA : AccL) (h : Fin 4) : AccL :=
  accP h (aV (ch h) (getM v (v.writes (Elt Ideal) v.junk L) h) (getA vA (vA.writes (Elt Ideal) vA.junk LA) h) (s h) (vt h)) :: LA

def mTop (L : RowL) : RowL := mAdd v ch s (mAdd v ch s (mAdd v ch s (mAdd v ch s L 0) 1) 2) 3
def lTop (L L' : RowL) : RowL :=
  lAdd v v' ch s (mAdd v ch s (mAdd v ch s (mAdd v ch s L 0) 1) 2)
    (lAdd v v' ch s (mAdd v ch s (mAdd v ch s L 0) 1) (lAdd v v' ch s (mAdd v ch s L 0) (lAdd v v' ch s L L' 0) 1) 2) 3
def aTop (L : RowL) (LA : AccL) : AccL :=
  aAdd v vA ch s vt (mAdd v ch s (mAdd v ch s (mAdd v ch s L 0) 1) 2)
    (aAdd v vA ch s vt (mAdd v ch s (mAdd v ch s L 0) 1) (aAdd v vA ch s vt (mAdd v ch s L 0) (aAdd v vA ch s vt L LA 0) 1) 2) 3

theorem m4_row (g : v.ty.Contents (Elt Ideal)) (h : Fin 4) :
    rowM (v.read (Elt Ideal) (v.writes (Elt Ideal) g (m4 v f ch s))) h = mV (ch h) (rowM (v.read (Elt Ideal) f) h) (s h) := by
  fin_cases h <;> simp only [m4, rowM_cons, getM_eq, Fin.reduceFinMk, Fin.zero_eta, Fin.isValue, Fin.reduceEq, ↓reduceIte]
theorem l4_row (g : v'.ty.Contents (Elt Ideal)) (h : Fin 4) :
    rowM (v'.read (Elt Ideal) (v'.writes (Elt Ideal) g (l4 v v' f f' ch s))) h
      = lV (ch h) (rowM (v.read (Elt Ideal) f) h) (rowM (v'.read (Elt Ideal) f') h) (s h) := by
  fin_cases h <;> simp only [l4, rowM_cons, getM_eq, Fin.reduceFinMk, Fin.zero_eta, Fin.isValue, Fin.reduceEq, ↓reduceIte]
theorem a4_row (g : vA.ty.Contents (Elt Ideal)) (h : Fin 4) :
    rowA (vA.read (Elt Ideal) (vA.writes (Elt Ideal) g (a4 v vA f fA ch s vt))) h
      = aV (ch h) (rowM (v.read (Elt Ideal) f) h) (rowA (vA.read (Elt Ideal) fA) h) (s h) (vt h) := by
  fin_cases h <;> simp only [a4, rowA_cons, getM_eq, getA_eq, Fin.reduceFinMk, Fin.zero_eta, Fin.isValue, Fin.reduceEq, ↓reduceIte]

theorem mTop_row (L : RowL) (g : v.ty.Contents (Elt Ideal)) (h : Fin 4) :
    rowM (v.read (Elt Ideal) (v.writes (Elt Ideal) g (mTop v ch s L))) h
      = mV (ch h) (rowM (v.read (Elt Ideal) (v.writes (Elt Ideal) v.junk L)) h) (s h) := by
  fin_cases h <;> simp only [mTop, mAdd, rowM_cons, getM_eq, Fin.reduceFinMk, Fin.zero_eta, Fin.isValue, Fin.reduceEq, ↓reduceIte]
theorem lTop_row (L L' : RowL) (g : v'.ty.Contents (Elt Ideal)) (h : Fin 4) :
    rowM (v'.read (Elt Ideal) (v'.writes (Elt Ideal) g (lTop v v' ch s L L'))) h
      = lV (ch h) (rowM (v.read (Elt Ideal) (v.writes (Elt Ideal) v.junk L)) h) (rowM (v'.read (Elt Ideal) (v'.writes (Elt Ideal) v'.junk L')) h) (s h) := by
  fin_cases h <;> simp only [lTop, lAdd, mAdd, rowM_cons, getM_eq, Fin.reduceFinMk, Fin.zero_eta, Fin.isValue, Fin.reduceEq, ↓reduceIte]
theorem aTop_row (L : RowL) (LA : AccL) (g : vA.ty.Contents (Elt Ideal)) (h : Fin 4) :
    rowA (vA.read (Elt Ideal) (vA.writes (Elt Ideal) g (aTop v vA ch s vt L LA))) h
      = aV (ch h) (rowM (v.read (Elt Ideal) (v.writes (Elt Ideal) v.junk L)) h) (rowA (vA.read (Elt Ideal) (vA.writes (Elt Ideal) vA.junk LA)) h) (s h) (vt h) := by
  fin_cases h <;> simp only [aTop, aAdd, mAdd, rowM_cons, rowA_cons, getM_eq, getA_eq, Fin.reduceFinMk, Fin.zero_eta, Fin.isValue, Fin.reduceEq, ↓reduceIte]

end Cert.Proof.Moba

end
-- ==== Proof.Steps.lean ====
/- What one step of the loop leaves, row by row. -/
module

public import proofs.«01_k».proof.Proof.Rows
public import proofs.«01_k».proof.Proof.Body

@[expose] public section

noncomputable section

namespace Cert.Proof.Moba

open Cert.KernelIdeal Cert.KernelIdeal.Gen
open Idealize.ShloMosaic Idealize.ShloMosaic.TcCoe

set_option maxRecDepth 16384

/-- The number of the first of the two blocks of step `k`. -/
def wA (k : ℕ) : BitVec 32 := Scalar.muli 2#32 (Scf.iv 0#32 1#32 k)
def wB (k : ℕ) : BitVec 32 := Scalar.addi (wA k) 1#32

/-- The scores of part `p` of head `h`, as the program reads them. -/
def sRd {sp : Space} (v : View sig .tc sp S4x512x256 .f32) (f : v.ty.Contents (Elt Ideal)) (p : Fin 2) (h : Fin 4) : FVec Ideal S256x256 .f32 :=
  shapeCast S256x256 (v.readAt (Elt Ideal) (Rect.unit (s := S4x512x256) ![h.val, 256 * p.val, 0] S1x256x256.size (by
    intro a
    match a with
    | ⟨0, _⟩ => show h.val + 1 ≤ 4; omega
    | ⟨1, _⟩ => show 256 * p.val + 256 ≤ 512; omega
    | ⟨2, _⟩ => show 0 + 256 ≤ 256; omega)).toLoadRect f) shapeCasts_S1x256x256_S256x256

theorem sRd_apply {sp : Space} (v : View sig .tc sp S4x512x256 .f32) (f : v.ty.Contents (Elt Ideal)) (p : Fin 2) (h : Fin 4) (kk x : Fin 256) :
    sRd v f p h (ix2 kk x) = v.read (Elt Ideal) f (ix3 h ⟨256 * p.val + kk.val, by omega⟩ x) := by
  fin_cases h <;> fin_cases p <;> pointwise [sRd, View.readAt_apply]

/-- Head `h`'s queries, as the program reads them. -/
def qRd {sp : Space} (v : View sig .tc sp S4x128x256 .bf16) (f : v.ty.Contents (Elt Ideal)) (h : Fin 4) : FVec Ideal S128x256 .bf16 :=
  shapeCast S128x256 (v.readAt (Elt Ideal) (hd 128 256 h).toLoadRect f) shapeCasts_S1x128x256_S128x256

theorem qRd_apply {sp : Space} (v : View sig .tc sp S4x128x256 .bf16) (f : v.ty.Contents (Elt Ideal)) (h : Fin 4) (r : Fin 128) (x : Fin 256) :
    qRd v f h (ix2 r x) = v.read (Elt Ideal) f (ix3 h r x) := by
  fin_cases h <;> pointwise [qRd, View.readAt_apply]

/-- The values of head `h` in one block of values. -/
def vtH (vtb : FVec Ideal S256x256 .bf16) (h : Fin 4) : FVec Ideal S64x256 .bf16 := match h with
  | 0 => extractStridedSlice S64x256 ![0, 0] vtb slices_S256x256_o0_0_S64x256
  | 1 => extractStridedSlice S64x256 ![64, 0] vtb slices_S256x256_o64_0_S64x256
  | 2 => extractStridedSlice S64x256 ![128, 0] vtb slices_S256x256_o128_0_S64x256
  | 3 => extractStridedSlice S64x256 ![192, 0] vtb slices_S256x256_o192_0_S64x256

theorem vtH_apply (vtb : FVec Ideal S256x256 .bf16) (h : Fin 4) (d : Fin 64) (kk : Fin 256) :
    vtH vtb h (ix2 d kk) = vtb (ix2 ⟨64 * h.val + d.val, by omega⟩ kk) := by
  fin_cases h <;> pointwise [vtH]

/-- The two blocks' scores of head `h`, from the keys and the queries. -/
def scH (kb : FVec Ideal S512x256 .bf16) (q : Fin 4 → FVec Ideal S128x256 .bf16) (h : Fin 4) : FVec Ideal S512x256 .f32 := match h with
  | 0 => scV (extractStridedSlice S512x128 ![0, 0] kb slices_S512x256_o0_0_S512x128) (q 0)
  | 1 => scV (extractStridedSlice S512x128 ![0, 0] kb slices_S512x256_o0_0_S512x128) (q 1)
  | 2 => scV (extractStridedSlice S512x128 ![0, 128] kb slices_S512x256_o0_128_S512x128) (q 2)
  | 3 => scV (extractStridedSlice S512x128 ![0, 128] kb slices_S512x256_o0_128_S512x128) (q 3)

theorem scH_apply (kb : FVec Ideal S512x256 .bf16) (q : Fin 4 → FVec Ideal S128x256 .bf16) (h : Fin 4) (kk : Fin 512) (x : Fin 256) :
    scH kb q h (ix2 kk x) = ∑ r : Fin 128, kb (ix2 kk ⟨128 * (h.val / 2) + r.val, by omega⟩) * q h (ix2 r x) := by
  fin_cases h <;> simp only [scH, scV_apply] <;> refine Finset.sum_congr rfl fun r _ => ?_ <;> pointwise

abbrev ScL : Type := List (View.Piece (Elt Ideal) S4x512x256 .f32)
def scP (h : Fin 4) (w : FVec Ideal S512x256 .f32) : View.Piece (Elt Ideal) S4x512x256 .f32 :=
  ⟨hd 512 256 h, shapeCast S1x512x256 w shapeCasts_S512x256_S1x512x256⟩
def s4 (w : Fin 4 → FVec Ideal S512x256 .f32) : ScL := [scP 3 (w 3), scP 2 (w 2), scP 1 (w 1), scP 0 (w 0)]

theorem scP_apply (w : FVec Ideal S512x256 .f32) (kk : Fin 512) (x : Fin 256) :
    (shapeCast S1x512x256 w shapeCasts_S512x256_S1x512x256) (ix3 0 kk x) = w (ix2 kk x) := by pointwise

theorem sc_cons {sp : Space} (v : View sig .tc sp S4x512x256 .f32) (f : v.ty.Contents (Elt Ideal)) (o : Fin 4) (w : FVec Ideal S512x256 .f32)
    (L : ScL) (h : Fin 4) (kk : Fin 512) (x : Fin 256) :
    v.read (Elt Ideal) (v.writes (Elt Ideal) f (scP o w :: L)) (ix3 h kk x)
      = if o = h then w (ix2 kk x) else v.read (Elt Ideal) (v.writes (Elt Ideal) f L) (ix3 h kk x) := by
  split
  next e => exact (hit v f o h _ L kk x e).trans (scP_apply w kk x)
  next e => exact miss v f o h _ L kk x e

theorem s4_row {sp : Space} (v : View sig .tc sp S4x512x256 .f32) (f : v.ty.Contents (Elt Ideal)) (w : Fin 4 → FVec Ideal S512x256 .f32)
    (h : Fin 4) (kk : Fin 512) (x : Fin 256) :
    v.read (Elt Ideal) (v.writes (Elt Ideal) f (s4 w)) (ix3 h kk x) = w h (ix2 kk x) := by
  fin_cases h <;> simp only [s4, sc_cons, Fin.reduceFinMk, Fin.zero_eta, Fin.isValue, Fin.reduceEq, ↓reduceIte]

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
variable (v654 : IVec S1x256 1) (v665 : FVec Ideal S1x256 .f32) (v688 : FVec Ideal S64x256 .f32)
variable (k : Fin (k0_t1_loop i).trips) (hc : k0_cond1 i k = 1#1)
variable (f4 : Bf (F := Ideal) c arg4) (f5 : Bf (F := Ideal) c arg5) (f8 : Bf (F := Ideal) c arg8) (f9 : Bf (F := Ideal) c arg9)
variable (f10 : Bf (F := Ideal) c arg10) (f11 : Bf (F := Ideal) c arg11) (f12 : Bf (F := Ideal) c arg12)
variable (fs : Bf (F := Ideal) c arg14)

/-- Head `h`'s selection row for part 0 of the step. -/
def selE0 (h : Fin 4) : FVec Ideal S1x256 .f32 := match h with
  | 0 => shapeCast S1x256 (arg9.view.readAt (Elt Ideal) (Rect.unit (s := S4x32x256) (k0_off6 i k) S1x1x256.size (k0_off6_inb i k hc)).toLoadRect f9) shapeCasts_S1x1x256_S1x256
  | 1 => shapeCast S1x256 (arg9.view.readAt (Elt Ideal) (Rect.unit (s := S4x32x256) (k0_off7 i k) S1x1x256.size (k0_off7_inb i k hc)).toLoadRect f9) shapeCasts_S1x1x256_S1x256
  | 2 => shapeCast S1x256 (arg9.view.readAt (Elt Ideal) (Rect.unit (s := S4x32x256) (k0_off8 i k) S1x1x256.size (k0_off8_inb i k hc)).toLoadRect f9) shapeCasts_S1x1x256_S1x256
  | 3 => shapeCast S1x256 (arg9.view.readAt (Elt Ideal) (Rect.unit (s := S4x32x256) (k0_off9 i k) S1x1x256.size (k0_off9_inb i k hc)).toLoadRect f9) shapeCasts_S1x1x256_S1x256
def chE0 (h : Fin 4) : IVec S1x256 1 := chV (selE0 c i arg9 k hc f9 h) (Scalar.cmpi .slt (wA k.val) arg2)
/-- The values of part 0. -/
def vtE0 : FVec Ideal S256x256 .bf16 :=
  shapeCast S256x256 (arg5.view.readAt (Elt Ideal) (Rect.unit (s := S1x32x256x256) (k0_off5 i k) S1x1x256x256.size (k0_off5_inb i k hc)).toLoadRect f5) shapeCasts_S1x1x256x256_S256x256
/-- Head `h`'s selection row for part 1 of the step. -/
def selE1 (h : Fin 4) : FVec Ideal S1x256 .f32 := match h with
  | 0 => shapeCast S1x256 (arg9.view.readAt (Elt Ideal) (Rect.unit (s := S4x32x256) (k0_off11 i k) S1x1x256.size (k0_off11_inb i k hc)).toLoadRect f9) shapeCasts_S1x1x256_S1x256
  | 1 => shapeCast S1x256 (arg9.view.readAt (Elt Ideal) (Rect.unit (s := S4x32x256) (k0_off12 i k) S1x1x256.size (k0_off12_inb i k hc)).toLoadRect f9) shapeCasts_S1x1x256_S1x256
  | 2 => shapeCast S1x256 (arg9.view.readAt (Elt Ideal) (Rect.unit (s := S4x32x256) (k0_off13 i k) S1x1x256.size (k0_off13_inb i k hc)).toLoadRect f9) shapeCasts_S1x1x256_S1x256
  | 3 => shapeCast S1x256 (arg9.view.readAt (Elt Ideal) (Rect.unit (s := S4x32x256) (k0_off14 i k) S1x1x256.size (k0_off14_inb i k hc)).toLoadRect f9) shapeCasts_S1x1x256_S1x256
def chE1 (h : Fin 4) : IVec S1x256 1 := chV (selE1 c i arg9 k hc f9 h) (Scalar.cmpi .slt (wB k.val) arg2)
/-- The values of part 1. -/
def vtE1 : FVec Ideal S256x256 .bf16 :=
  shapeCast S256x256 (arg5.view.readAt (Elt Ideal) (Rect.unit (s := S1x32x256x256) (k0_off10 i k) S1x1x256x256.size (k0_off10_inb i k hc)).toLoadRect f5) shapeCasts_S1x1x256x256_S256x256
/-- The keys whose scores the step prepares. -/
def kbE : FVec Ideal S512x256 .bf16 :=
  shapeCast S512x256 (arg4.view.readAt (Elt Ideal) (Rect.unit (s := S1x8192x256) (k0_off4 i k) S1x512x256.size (k0_off4_inb i k hc)).toLoadRect f4) shapeCasts_S1x512x256_S512x256

theorem scE_eq : (tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).1 = s4 (scH (kbE c i arg4 k hc f4) (qRd arg8.view f8)) := by
  unfold tripEven; rfl

theorem mE_eq : (tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.1 = mTop arg10.view (chE1 c i arg9 arg2 k hc f9) (sRd arg14.view fs 1) (m4 arg10.view f10 (chE0 c i arg9 arg2 k hc f9) (sRd arg14.view fs 0)) := by
  unfold tripEven; rfl

theorem lE_eq : (tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.2.1 = lTop arg10.view arg11.view (chE1 c i arg9 arg2 k hc f9) (sRd arg14.view fs 1) (m4 arg10.view f10 (chE0 c i arg9 arg2 k hc f9) (sRd arg14.view fs 0)) (l4 arg10.view arg11.view f10 f11 (chE0 c i arg9 arg2 k hc f9) (sRd arg14.view fs 0)) := by
  unfold tripEven; rfl

theorem aE_eq : (tripEven c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.2.2.1 = aTop arg10.view arg12.view (chE1 c i arg9 arg2 k hc f9) (sRd arg14.view fs 1) (vtH (vtE1 c i arg5 k hc f5)) (m4 arg10.view f10 (chE0 c i arg9 arg2 k hc f9) (sRd arg14.view fs 0)) (a4 arg10.view arg12.view f10 f12 (chE0 c i arg9 arg2 k hc f9) (sRd arg14.view fs 0) (vtH (vtE0 c i arg5 k hc f5))) := by
  unfold tripEven; rfl

end

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
variable (v654 : IVec S1x256 1) (v665 : FVec Ideal S1x256 .f32) (v688 : FVec Ideal S64x256 .f32)
variable (k : Fin (k0_t1_loop i).trips) (hc : ¬ k0_cond1 i k = 1#1)
variable (f4 : Bf (F := Ideal) c arg4) (f5 : Bf (F := Ideal) c arg5) (f8 : Bf (F := Ideal) c arg8) (f9 : Bf (F := Ideal) c arg9)
variable (f10 : Bf (F := Ideal) c arg10) (f11 : Bf (F := Ideal) c arg11) (f12 : Bf (F := Ideal) c arg12)
variable (fs : Bf (F := Ideal) c arg15)

/-- Head `h`'s selection row for part 0 of the step. -/
def selO0 (h : Fin 4) : FVec Ideal S1x256 .f32 := match h with
  | 0 => shapeCast S1x256 (arg9.view.readAt (Elt Ideal) (Rect.unit (s := S4x32x256) (k0_off17 i k) S1x1x256.size (k0_off17_inb i k hc)).toLoadRect f9) shapeCasts_S1x1x256_S1x256
  | 1 => shapeCast S1x256 (arg9.view.readAt (Elt Ideal) (Rect.unit (s := S4x32x256) (k0_off18 i k) S1x1x256.size (k0_off18_inb i k hc)).toLoadRect f9) shapeCasts_S1x1x256_S1x256
  | 2 => shapeCast S1x256 (arg9.view.readAt (Elt Ideal) (Rect.unit (s := S4x32x256) (k0_off19 i k) S1x1x256.size (k0_off19_inb i k hc)).toLoadRect f9) shapeCasts_S1x1x256_S1x256
  | 3 => shapeCast S1x256 (arg9.view.readAt (Elt Ideal) (Rect.unit (s := S4x32x256) (k0_off20 i k) S1x1x256.size (k0_off20_inb i k hc)).toLoadRect f9) shapeCasts_S1x1x256_S1x256
def chO0 (h : Fin 4) : IVec S1x256 1 := chV (selO0 c i arg9 k hc f9 h) (Scalar.cmpi .slt (wA k.val) arg2)
/-- The values of part 0. -/
def vtO0 : FVec Ideal S256x256 .bf16 :=
  shapeCast S256x256 (arg5.view.readAt (Elt Ideal) (Rect.unit (s := S1x32x256x256) (k0_off16 i k) S1x1x256x256.size (k0_off16_inb i k hc)).toLoadRect f5) shapeCasts_S1x1x256x256_S256x256
/-- Head `h`'s selection row for part 1 of the step. -/
def selO1 (h : Fin 4) : FVec Ideal S1x256 .f32 := match h with
  | 0 => shapeCast S1x256 (arg9.view.readAt (Elt Ideal) (Rect.unit (s := S4x32x256) (k0_off22 i k) S1x1x256.size (k0_off22_inb i k hc)).toLoadRect f9) shapeCasts_S1x1x256_S1x256
  | 1 => shapeCast S1x256 (arg9.view.readAt (Elt Ideal) (Rect.unit (s := S4x32x256) (k0_off23 i k) S1x1x256.size (k0_off23_inb i k hc)).toLoadRect f9) shapeCasts_S1x1x256_S1x256
  | 2 => shapeCast S1x256 (arg9.view.readAt (Elt Ideal) (Rect.unit (s := S4x32x256) (k0_off24 i k) S1x1x256.size (k0_off24_inb i k hc)).toLoadRect f9) shapeCasts_S1x1x256_S1x256
  | 3 => shapeCast S1x256 (arg9.view.readAt (Elt Ideal) (Rect.unit (s := S4x32x256) (k0_off25 i k) S1x1x256.size (k0_off25_inb i k hc)).toLoadRect f9) shapeCasts_S1x1x256_S1x256
def chO1 (h : Fin 4) : IVec S1x256 1 := chV (selO1 c i arg9 k hc f9 h) (Scalar.cmpi .slt (wB k.val) arg2)
/-- The values of part 1. -/
def vtO1 : FVec Ideal S256x256 .bf16 :=
  shapeCast S256x256 (arg5.view.readAt (Elt Ideal) (Rect.unit (s := S1x32x256x256) (k0_off21 i k) S1x1x256x256.size (k0_off21_inb i k hc)).toLoadRect f5) shapeCasts_S1x1x256x256_S256x256
/-- The keys whose scores the step prepares. -/
def kbO : FVec Ideal S512x256 .bf16 :=
  shapeCast S512x256 (arg4.view.readAt (Elt Ideal) (Rect.unit (s := S1x8192x256) (k0_off15 i k) S1x512x256.size (k0_off15_inb i k hc)).toLoadRect f4) shapeCasts_S1x512x256_S512x256

theorem scO_eq : (tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).1 = s4 (scH (kbO c i arg4 k hc f4) (qRd arg8.view f8)) := by
  unfold tripOdd; rfl

theorem mO_eq : (tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.1 = mTop arg10.view (chO1 c i arg9 arg2 k hc f9) (sRd arg15.view fs 1) (m4 arg10.view f10 (chO0 c i arg9 arg2 k hc f9) (sRd arg15.view fs 0)) := by
  unfold tripOdd; rfl

theorem lO_eq : (tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.2.1 = lTop arg10.view arg11.view (chO1 c i arg9 arg2 k hc f9) (sRd arg15.view fs 1) (m4 arg10.view f10 (chO0 c i arg9 arg2 k hc f9) (sRd arg15.view fs 0)) (l4 arg10.view arg11.view f10 f11 (chO0 c i arg9 arg2 k hc f9) (sRd arg15.view fs 0)) := by
  unfold tripOdd; rfl

theorem aO_eq : (tripOdd c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 f10 f11 f12 fs).2.2.2.1 = aTop arg10.view arg12.view (chO1 c i arg9 arg2 k hc f9) (sRd arg15.view fs 1) (vtH (vtO1 c i arg5 k hc f5)) (m4 arg10.view f10 (chO0 c i arg9 arg2 k hc f9) (sRd arg15.view fs 0)) (a4 arg10.view arg12.view f10 f12 (chO0 c i arg9 arg2 k hc f9) (sRd arg15.view fs 0) (vtH (vtO0 c i arg5 k hc f5))) := by
  unfold tripOdd; rfl

end

end Cert.Proof.Moba

end
-- ==== Proof.Start.lean ====
/- What the program computes before its loop (queries, selection, own block) and after it. -/
module

public import proofs.«01_k».proof.Proof.Steps

@[expose] public section

noncomputable section

namespace Cert.Proof.Moba

open Cert.KernelIdeal Cert.KernelIdeal.Gen
open Idealize.ShloMosaic Idealize.ShloMosaic.TcCoe

set_option maxRecDepth 16384

/-- Which of the 128 rows belong to head `p` of a pair: the row's number divided by 64, rounded down, is `p`. -/
def hmask (p : BitVec 32) : IVec S128x256 1 :=
  let v0 : IVec S128x256 32 := iota .tc S128x256 32 [0] iota_S128x256_d0_w32
  let q : IVec S128x256 32 := divsi v0 (broadcast S128x256 64#32)
  let sg : IVec S128x256 32 := subi (extui 32 (cmpi .sgt v0 (broadcast S128x256 0#32)) natLt_1_32) (extui 32 (cmpi .slt v0 (broadcast S128x256 0#32)) natLt_1_32)
  cmpi .eq (select (andi (cmpi .ne sg (broadcast S128x256 1#32)) (cmpi .ne (remsi v0 (broadcast S128x256 64#32)) (broadcast S128x256 0#32)))
    (subi q (broadcast S128x256 1#32)) q) (broadcast S128x256 p)

/-- The queries of a pair of heads, with the other head's rows cleared. -/
def qm (p : BitVec 32) (q : FVec Ideal S1x128x256 .f32) : FVec Ideal S128x256 .f32 :=
  select (hmask p) (shapeCast S128x256 q shapeCasts_S1x128x256_S128x256) (broadcast S128x256 (Scalar.ofBits (F := Ideal) .f32 0x00000000#32))
def qth (p : BitVec 32) (q : FVec Ideal S1x128x256 .f32) : FVec Ideal S128x256 .bf16 :=
  truncf .bf16 (mulf (qm p q) (broadcast S128x256 (Named.named (F := Ideal) κ "scale2" 0x3E38AA3B#32))) bitsLt_bf16_f32

/-- The block numbers, as numbers. -/
def bid : FVec Ideal S32x256 .f32 := sitofp .f32 (iota .tc S32x256 32 [0] iota_S32x256_d0_w32)

/-- The gate: every block mean against every query, in two summands each. -/
def gate0 (q : FVec Ideal S128x256 .f32) (km : FVec Ideal S1x32x128 .f32) : FVec Ideal S32x256 .f32 :=
  let qh : FVec Ideal S128x256 .bf16 := truncf .bf16 q bitsLt_bf16_f32
  let ql : FVec Ideal S128x256 .bf16 := truncf .bf16 (subf q (extf .f32 qh bitsLt_bf16_f32)) bitsLt_bf16_f32
  let k32 : FVec Ideal S32x128 .f32 := shapeCast S32x128 km shapeCasts_S1x32x128_S32x128
  let kh : FVec Ideal S32x128 .bf16 := truncf .bf16 k32 bitsLt_bf16_f32
  let kl : FVec Ideal S32x128 .bf16 := truncf .bf16 (subf k32 (extf .f32 kh bitsLt_bf16_f32)) bitsLt_bf16_f32
  let both : FVec Ideal S64x256 .f32 := matmul dot_S64x128_S128x256_S64x256_1_0_0_1_n_n none
    (concatenate S64x128 0 [⟨S32x128, kh⟩, ⟨S32x128, kl⟩] concatenates_S32x128_S32x128_S64x128_d0) qh (constant S64x256 .f32 0x00000000#32)
  addf (addf (extractStridedSlice S32x256 ![0, 0] both slices_S64x256_o0_0_S32x256) (extractStridedSlice S32x256 ![32, 0] both slices_S64x256_o32_0_S32x256))
    (matmul dot_S32x128_S128x256_S32x256_1_0_0_1_n_n none kh ql (constant S32x256 .f32 0x00000000#32))

/-- Whether a block lies before the own one. -/
def pastV (n : BitVec 32) : IVec S32x256 1 := cmpf .olt bid (broadcast S32x256 (Scalar.sitofp (F := Ideal) .f32 n))
def gateV (n : BitVec 32) (g : FVec Ideal S32x256 .f32) : FVec Ideal S32x256 .f32 :=
  select (pastV n) g (broadcast S32x256 (Named.named (F := Ideal) κ "mask" 0xF149F2CA#32))

/-- The first block with the largest gate. -/
def pickV (g : FVec Ideal S32x256 .f32) : IVec S32x256 1 :=
  let mx : FVec Ideal S32x256 .f32 := broadcastTo S32x256 (shapeCast S1x256 (multiReduction .maximumf [0] S256 g 0xFF800000#32 reduces_S32x256_S256 (.inl rfl) rfl) shapeCasts_S256_S1x256) broadcasts_S1x256_S32x256
  let c : FVec Ideal S32x256 .f32 := select (cmpf .oeq g mx) bid (broadcast S32x256 (Scalar.ofBits (F := Ideal) .f32 0x42000000#32))
  cmpf .oeq bid (broadcastTo S32x256 (shapeCast S1x256 (multiReduction .minimumf [0] S256 c 0x7F800000#32 reduces_S32x256_S256 (.inl rfl) rfl) shapeCasts_S256_S1x256) broadcasts_S1x256_S32x256)
def dropV (g : FVec Ideal S32x256 .f32) : FVec Ideal S32x256 .f32 :=
  select (pickV g) (broadcast S32x256 (Scalar.ofBits (F := Ideal) .f32 0xFF800000#32)) g
def selV (n : BitVec 32) (g : FVec Ideal S32x256 .f32) : FVec Ideal S32x256 .f32 :=
  sitofp .f32 (extui 32 (andi (ori (ori (ori (broadcast S32x256 0#1) (pickV g)) (pickV (dropV g))) (pickV (dropV (dropV g)))) (pastV n)) natLt_1_32)

/-- The own block's scores: a later key is masked. -/
def ownV (s : FVec Ideal S256x256 .f32) : FVec Ideal S256x256 .f32 :=
  select (cmpi .sle (iota .tc S256x256 32 [0] iota_S256x256_d0_w32) (iota .tc S256x256 32 [1] iota_S256x256_d1_w32)) s
    (broadcast S256x256 (Named.named (F := Ideal) κ "mask" 0xF149F2CA#32))
def soV (k : FVec Ideal S256x128 .bf16) (q : FVec Ideal S128x256 .bf16) : FVec Ideal S256x256 .f32 :=
  matmul dot_S256x128_S128x256_S256x256_1_0_0_1_n_n none k q (constant S256x256 .f32 0x00000000#32)
def soH (kb : FVec Ideal S256x256 .bf16) (q : Fin 4 → FVec Ideal S128x256 .bf16) (h : Fin 4) : FVec Ideal S256x256 .f32 := match h with
  | 0 => soV (extractStridedSlice S256x128 ![0, 0] kb slices_S256x256_o0_0_S256x128) (q 0)
  | 1 => soV (extractStridedSlice S256x128 ![0, 0] kb slices_S256x256_o0_0_S256x128) (q 1)
  | 2 => soV (extractStridedSlice S256x128 ![0, 128] kb slices_S256x256_o0_128_S256x128) (q 2)
  | 3 => soV (extractStridedSlice S256x128 ![0, 128] kb slices_S256x256_o0_128_S256x128) (q 3)

/-- The output: every head's numerator over its denominator, transposed. -/
def outV (a : Fin 4 → FVec Ideal S64x256 .f32) (l : Fin 4 → FVec Ideal S1x256 .f32) : FVec Ideal S1x256x256 .f32 :=
  let o (h : Fin 4) : FVec Ideal S64x256 .f32 := divf (a h) (broadcastTo S64x256 (l h) broadcasts_S1x256_S64x256)
  shapeCast S1x256x256 (transpose S256x256 [1, 0]
    (concatenate S256x256 0 [⟨S64x256, o 0⟩, ⟨S64x256, o 1⟩, ⟨S64x256, o 2⟩, ⟨S64x256, o 3⟩] concatenates_S64x256_S64x256_S64x256_S64x256_S256x256_d0)
    transposes_S256x256_p1_0_S256x256) shapeCasts_S256x256_S1x256x256

abbrev hpar (h : Fin 4) : BitVec 32 := match h with | 0 => 0#32 | 1 => 1#32 | 2 => 0#32 | 3 => 1#32

def qtP (h : Fin 4) (w : FVec Ideal S128x256 .bf16) : View.Piece (Elt Ideal) S4x128x256 .bf16 := ⟨hd 128 256 h, shapeCast S1x128x256 w shapeCasts_S128x256_S1x128x256⟩
def selP (h : Fin 4) (w : FVec Ideal S32x256 .f32) : View.Piece (Elt Ideal) S4x32x256 .f32 := ⟨hd 32 256 h, shapeCast S1x32x256 w shapeCasts_S32x256_S1x32x256⟩
def owP (h : Fin 4) (w : FVec Ideal S256x256 .f32) : View.Piece (Elt Ideal) S4x256x256 .f32 := ⟨hd 256 256 h, shapeCast S1x256x256 w shapeCasts_S256x256_S1x256x256⟩

def qt4 (w : Fin 4 → FVec Ideal S128x256 .bf16) : List (View.Piece (Elt Ideal) S4x128x256 .bf16) := [qtP 3 (w 3), qtP 2 (w 2), qtP 1 (w 1), qtP 0 (w 0)]
def sel4 (w : Fin 4 → FVec Ideal S32x256 .f32) : List (View.Piece (Elt Ideal) S4x32x256 .f32) := [selP 3 (w 3), selP 2 (w 2), selP 1 (w 1), selP 0 (w 0)]
def ow4 (w : Fin 4 → FVec Ideal S256x256 .f32) : List (View.Piece (Elt Ideal) S4x256x256 .f32) := [owP 3 (w 3), owP 2 (w 2), owP 1 (w 1), owP 0 (w 0)]
def row4 (w : FVec Ideal S1x256 .f32) : RowL := [rowP 3 w, rowP 2 w, rowP 1 w, rowP 0 w]
def acc4 (w : FVec Ideal S64x256 .f32) : AccL := [accP 3 w, accP 2 w, accP 1 w, accP 0 w]

/-- A recursion that remembers nothing but the number of steps. -/
abbrev nrec {α : Type} (g : ℕ → α) (n : ℕ) : α := Nat.rec (motive := fun _ => α) (g 0) (fun n _ => (fun n => g n) (n + 1)) n
theorem nrec_eq {α : Type} (g : ℕ → α) (n : ℕ) : nrec g n = g n := by cases n <;> rfl

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole)
variable (x3 : Vec Ideal S1x256x256 .f32) (x4 : Vec Ideal S1x8192x256 .bf16) (x5 : Vec Ideal S1x32x256x256 .bf16) (x6 : Vec Ideal S1x32x256 .f32)

/-- The pair's queries, as the program reads them. -/
def q3 (h : Fin 4) : FVec Ideal S1x128x256 .f32 := match h with
  | 0 => arg3.view.readAt (Elt Ideal) (Rect.unit (s := S1x256x256) ![0, 0, 0] S1x128x256.size inb_S1x256x256_S1x128x256_0_0_0).toLoadRect (harg3.unread x3)
  | 1 => arg3.view.readAt (Elt Ideal) (Rect.unit (s := S1x256x256) ![0, 0, 0] S1x128x256.size inb_S1x256x256_S1x128x256_0_0_0).toLoadRect (harg3.unread x3)
  | 2 => arg3.view.readAt (Elt Ideal) (Rect.unit (s := S1x256x256) ![0, 128, 0] S1x128x256.size inb_S1x256x256_S1x128x256_0_128_0).toLoadRect (harg3.unread x3)
  | 3 => arg3.view.readAt (Elt Ideal) (Rect.unit (s := S1x256x256) ![0, 128, 0] S1x128x256.size inb_S1x256x256_S1x128x256_0_128_0).toLoadRect (harg3.unread x3)
/-- The pair's block means, as the program reads them. -/
def km6 (h : Fin 4) : FVec Ideal S1x32x128 .f32 := match h with
  | 0 => arg6.view.readAt (Elt Ideal) (Rect.unit (s := S1x32x256) ![0, 0, 0] S1x32x128.size inb_S1x32x256_S1x32x128_0_0_0).toLoadRect (harg6.unread x6)
  | 1 => arg6.view.readAt (Elt Ideal) (Rect.unit (s := S1x32x256) ![0, 0, 0] S1x32x128.size inb_S1x32x256_S1x32x128_0_0_0).toLoadRect (harg6.unread x6)
  | 2 => arg6.view.readAt (Elt Ideal) (Rect.unit (s := S1x32x256) ![0, 0, 128] S1x32x128.size inb_S1x32x256_S1x32x128_0_0_128).toLoadRect (harg6.unread x6)
  | 3 => arg6.view.readAt (Elt Ideal) (Rect.unit (s := S1x32x256) ![0, 0, 128] S1x32x128.size inb_S1x32x256_S1x32x128_0_0_128).toLoadRect (harg6.unread x6)

def w2 : BitVec 32 := BitVec.ofNat 32 (i 2).val
def qtB : View.ty (Memref.whole cc0_scratch0).view |>.Contents (Elt Ideal) :=
  (Memref.whole cc0_scratch0).view.writes (Elt Ideal) (Memref.whole cc0_scratch0).view.junk (qt4 fun h => qth (hpar h) (q3 arg3 harg3 x3 h))
def selB : View.ty (Memref.whole cc0_scratch1).view |>.Contents (Elt Ideal) :=
  (Memref.whole cc0_scratch1).view.writes (Elt Ideal) (Memref.whole cc0_scratch1).view.junk
    (sel4 fun h => selV (w2 i) (gateV (w2 i) (gate0 (qm (hpar h) (q3 arg3 harg3 x3 h)) (km6 arg6 harg6 x6 h))))
def kbOwn : FVec Ideal S256x256 .bf16 :=
  shapeCast S256x256 (arg4.view.readAt (Elt Ideal) (Rect.unit (s := S1x8192x256) (k0_off1 i) S1x256x256.size (k0_off1_inb i)).toLoadRect (harg4.unread x4)) shapeCasts_S1x256x256_S256x256
def kbEven : FVec Ideal S512x256 .bf16 :=
  shapeCast S512x256 (arg4.view.readAt (Elt Ideal) (Rect.unit (s := S1x8192x256) k0_off2 S1x512x256.size k0_off2_inb).toLoadRect (harg4.unread x4)) shapeCasts_S1x512x256_S512x256
def vtOwn : FVec Ideal S256x256 .bf16 :=
  shapeCast S256x256 (arg5.view.readAt (Elt Ideal) (Rect.unit (s := S1x32x256x256) (k0_off3 i) S1x1x256x256.size (k0_off3_inb i)).toLoadRect (harg5.unread x5)) shapeCasts_S1x1x256x256_S256x256
def ownB : View.ty (Memref.whole cc0_scratch5).view |>.Contents (Elt Ideal) :=
  (Memref.whole cc0_scratch5).view.writes (Elt Ideal) (Memref.whole cc0_scratch5).view.junk
    (ow4 (soH (kbOwn i arg4 harg4 x4) (qRd (Memref.whole cc0_scratch0).view (qtB arg3 harg3 x3))))
def getO {sp : Space} (v : View sig .tc sp S4x256x256 .f32) (f : v.ty.Contents (Elt Ideal)) (h : Fin 4) : FVec Ideal S256x256 .f32 :=
  shapeCast S256x256 (v.readAt (Elt Ideal) (hd 256 256 h).toLoadRect f) shapeCasts_S1x256x256_S256x256
/-- The own block's masked scores of head `h`. -/
def sOwn (h : Fin 4) : FVec Ideal S256x256 .f32 := ownV (getO (Memref.whole cc0_scratch5).view (ownB i arg3 harg3 arg4 harg4 x3 x4) h)
def ones : Fin 4 → IVec S1x256 1 := fun _ => broadcast S1x256 1#1
def maskRow : FVec Ideal S1x256 .f32 := broadcast S1x256 (Named.named (F := Ideal) κ "mask" 0xF149F2CA#32)
def zeroRow : FVec Ideal S1x256 .f32 := broadcast S1x256 (Scalar.ofBits (F := Ideal) .f32 0x00000000#32)
def zeroAcc : FVec Ideal S64x256 .f32 := broadcast S64x256 (Scalar.ofBits (F := Ideal) .f32 0x00000000#32)

/-- What the loop starts from. -/
def st0 : St Ideal c (Memref.whole cc0_scratch2) (Memref.whole cc0_scratch3) (Memref.whole cc0_scratch4) (Memref.whole cc0_scratch6) (Memref.whole cc0_scratch7) where
  m := (Memref.whole cc0_scratch2).view.writes (Elt Ideal) (Memref.whole cc0_scratch2).view.junk
    (mTop (Memref.whole cc0_scratch2).view ones (sOwn i arg3 harg3 arg4 harg4 x3 x4) (row4 maskRow))
  l := (Memref.whole cc0_scratch3).view.writes (Elt Ideal) (Memref.whole cc0_scratch3).view.junk
    (lTop (Memref.whole cc0_scratch2).view (Memref.whole cc0_scratch3).view ones (sOwn i arg3 harg3 arg4 harg4 x3 x4) (row4 maskRow) (row4 zeroRow))
  a := (Memref.whole cc0_scratch4).view.writes (Elt Ideal) (Memref.whole cc0_scratch4).view.junk
    (aTop (Memref.whole cc0_scratch2).view (Memref.whole cc0_scratch4).view ones (sOwn i arg3 harg3 arg4 harg4 x3 x4) (vtH (vtOwn i arg5 harg5 x5)) (row4 maskRow) (acc4 zeroAcc))
  e := (Memref.whole cc0_scratch6).view.writes (Elt Ideal) (Memref.whole cc0_scratch6).view.junk
    (s4 (scH (kbEven arg4 harg4 x4) (qRd (Memref.whole cc0_scratch0).view (qtB arg3 harg3 x3))))
  o := (Memref.whole cc0_scratch7).view.junk

/-- What the loop has after `n` steps. -/
def stN (n : ℕ) : St Ideal c (Memref.whole cc0_scratch2) (Memref.whole cc0_scratch3) (Memref.whole cc0_scratch4) (Memref.whole cc0_scratch6) (Memref.whole cc0_scratch7) :=
  states c i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (w2 i) u654 u665 u688 (harg4.unread x4) (harg5.unread x5)
    (qtB arg3 harg3 x3) (selB i arg3 harg3 arg6 harg6 x3 x6) (st0 c i arg3 harg3 arg4 harg4 arg5 harg5 x3 x4 x5) n

theorem qtB_eq : bodyRun.sl.S0_4 arg3 harg3 x3 = qt4 fun h => qth (hpar h) (q3 arg3 harg3 x3 h) := rfl
theorem selB_eq : bodyRun.sl.S1_4 i arg3 harg3 arg6 harg6 x3 x6 = (sel4 fun h => selV (w2 i) (gateV (w2 i) (gate0 (qm (hpar h) (q3 arg3 harg3 x3 h)) (km6 arg6 harg6 x6 h)))) := by sl_kernel_rfl
theorem e_eq : bodyRun.sl.S6_4 arg3 harg3 arg4 harg4 x3 x4 = (s4 (scH (kbEven arg4 harg4 x4) (qRd (Memref.whole cc0_scratch0).view (qtB arg3 harg3 x3)))) := by sl_kernel_rfl
theorem own_eq : bodyRun.sl.S5_4 i arg3 harg3 arg4 harg4 x3 x4 = (ow4 (soH (kbOwn i arg4 harg4 x4) (qRd (Memref.whole cc0_scratch0).view (qtB arg3 harg3 x3)))) := by sl_kernel_rfl
theorem m_eq : bodyRun.sl.S2_8 i arg3 harg3 arg4 harg4 x3 x4 = (mTop (Memref.whole cc0_scratch2).view ones (sOwn i arg3 harg3 arg4 harg4 x3 x4) (row4 maskRow)) := by sl_kernel_rfl
theorem l_eq : bodyRun.sl.S3_8 i arg3 harg3 arg4 harg4 x3 x4 = (lTop (Memref.whole cc0_scratch2).view (Memref.whole cc0_scratch3).view ones (sOwn i arg3 harg3 arg4 harg4 x3 x4) (row4 maskRow) (row4 zeroRow)) := by sl_kernel_rfl
theorem a_eq : bodyRun.sl.S4_8 i arg3 harg3 arg4 harg4 arg5 harg5 x3 x4 x5 = (aTop (Memref.whole cc0_scratch2).view (Memref.whole cc0_scratch4).view ones (sOwn i arg3 harg3 arg4 harg4 x3 x4) (vtH (vtOwn i arg5 harg5 x5)) (row4 maskRow) (acc4 zeroAcc)) := by sl_kernel_rfl

theorem body_eq' : (bodyRun c i arg3 harg3 arg4 harg4 arg5 harg5 arg6 harg6 arg7 harg7 x3 x4 x5 x6).1
    = [⟨Rect.unit (s := S1x256x256) ![0, 0, 0] S1x256x256.size inb_S1x256x256_S1x256x256_0_0_0,
        outV (fun h => getA (Memref.whole cc0_scratch4).view (nrec (fun n => (stN c i arg3 harg3 arg4 harg4 arg5 harg5 arg6 harg6 arg7 harg7 x3 x4 x5 x6 n).a)
            (Scf.trips (k0_t1_loop i).lb (k0_t1_loop i).ub (k0_t1_loop i).st)) h)
          (fun h => getM (Memref.whole cc0_scratch3).view (nrec (fun n => (stN c i arg3 harg3 arg4 harg4 arg5 harg5 arg6 harg6 arg7 harg7 x3 x4 x5 x6 n).l)
            (Scf.trips (k0_t1_loop i).lb (k0_t1_loop i).ub (k0_t1_loop i).st)) h)⟩] := by
  unfold bodyRun
  sl_kernel_rfl

theorem body_eq : (bodyRun c i arg3 harg3 arg4 harg4 arg5 harg5 arg6 harg6 arg7 harg7 x3 x4 x5 x6).1
    = [⟨Rect.unit (s := S1x256x256) ![0, 0, 0] S1x256x256.size inb_S1x256x256_S1x256x256_0_0_0,
        outV (getA (Memref.whole cc0_scratch4).view (stN c i arg3 harg3 arg4 harg4 arg5 harg5 arg6 harg6 arg7 harg7 x3 x4 x5 x6 (k0_t1_loop i).trips).a)
          (getM (Memref.whole cc0_scratch3).view (stN c i arg3 harg3 arg4 harg4 arg5 harg5 arg6 harg6 arg7 harg7 x3 x4 x5 x6 (k0_t1_loop i).trips).l)⟩] := by
  rw [body_eq', nrec_eq, nrec_eq]
end

end Cert.Proof.Moba

end
-- ==== Proof.Select.lean ====
/- The three blocks with the largest gates: taking the first largest three times, and sorting. -/
module

public import Idealize.ShloMosaic.Lib.Pointwise
public import Idealize.ShloMosaic.Lib.SortFacts

@[expose] public section

noncomputable section

namespace Cert.Proof.Moba

open Idealize.ShloMosaic

/-- Block `a` comes before block `b`: a larger gate, or the same and a smaller number. -/
def bef (g : Fin 32 → EReal) (a b : Fin 32) : Prop := g b < g a ∨ (g a = g b ∧ a < b)
instance (g : Fin 32 → EReal) (a b : Fin 32) : Decidable (bef g a b) := Classical.propDecidable _

/-- How many blocks come before `n`. -/
def rank (g : Fin 32 → EReal) (n : Fin 32) : ℕ := (Finset.univ.filter fun a => bef g a n).card

variable {g : Fin 32 → EReal}

theorem bef_irrefl (a : Fin 32) : ¬ bef g a a := by simp [bef]
theorem bef_trans {a b c : Fin 32} (h : bef g a b) (h' : bef g b c) : bef g a c := by
  rcases h with h | ⟨h, k⟩ <;> rcases h' with h' | ⟨h', k'⟩
  · exact .inl (h'.trans h)
  · exact .inl (h' ▸ h)
  · exact .inl (h ▸ h')
  · exact .inr ⟨h.trans h', k.trans k'⟩
theorem bef_total {a b : Fin 32} (h : a ≠ b) : bef g a b ∨ bef g b a := by
  rcases lt_trichotomy (g a) (g b) with k | k | k
  · exact .inr (.inl k)
  · rcases lt_or_gt_of_ne h with k' | k'
    · exact .inl (.inr ⟨k, k'⟩)
    · exact .inr (.inr ⟨k.symm, k'⟩)
  · exact .inl (.inl k)

theorem rank_lt {a b : Fin 32} (h : bef g a b) : rank g a < rank g b := by
  refine Finset.card_lt_card ⟨fun c hc => ?_, fun hs => ?_⟩
  · rw [Finset.mem_filter] at hc ⊢; exact ⟨hc.1, bef_trans hc.2 h⟩
  · have := hs (Finset.mem_filter.mpr ⟨Finset.mem_univ a, h⟩)
    exact bef_irrefl a (Finset.mem_filter.mp this).2

theorem rank_inj : Function.Injective (rank g) := fun a b h => by
  by_contra hne
  rcases bef_total (g := g) hne with k | k
  · exact (rank_lt k).ne h
  · exact (rank_lt k).ne h.symm

theorem bef_of_rank {a b : Fin 32} (h : rank g a < rank g b) : bef g a b := by
  rcases bef_total (g := g) (a := a) (b := b) (fun e => by subst e; exact lt_irrefl _ h) with k | k
  · exact k
  · exact absurd (rank_lt k) (by omega)

/-- The number of a block, as the program holds it. -/
def num (n : Fin 32) : EReal := ((n.val : ℝ) : EReal)
theorem num_lt {a b : Fin 32} : num a < num b ↔ a < b := by
  simp only [num, EReal.coe_lt_coe_iff, Nat.cast_lt, Fin.lt_def]
theorem num_inj {a b : Fin 32} (h : num a = num b) : a = b := by
  simp only [num, EReal.coe_eq_coe_iff, Nat.cast_inj] at h; exact Fin.ext h

/-- The largest gate, and the first block that has it. -/
def top1 (g : Fin 32 → EReal) : EReal := Finset.univ.fold max ⊥ g
def pick (g : Fin 32 → EReal) (n : Fin 32) : Prop :=
  num n = Finset.univ.fold min ⊤ fun k => if g k = top1 g then num k else ((32 : ℝ) : EReal)
instance (g : Fin 32 → EReal) (n : Fin 32) : Decidable (pick g n) := Classical.propDecidable _
def drop (g : Fin 32 → EReal) (n : Fin 32) : EReal := if pick g n then ⊥ else g n

theorem le_top1 (g : Fin 32 → EReal) (n : Fin 32) : g n ≤ top1 g := by
  show g n ≤ Finset.univ.sup g
  exact Finset.le_sup (Finset.mem_univ n)

theorem pick_iff (g : Fin 32 → EReal) (n : Fin 32) : pick g n ↔ g n = top1 g ∧ ∀ k, k < n → g k ≠ top1 g := by
  have hinf : ∀ f : Fin 32 → EReal, (Finset.univ.fold min ⊤ f) = Finset.univ.inf f := fun _ => rfl
  have h32 : ∀ k : Fin 32, num k < ((32 : ℝ) : EReal) := fun k => by
    simp only [num, EReal.coe_lt_coe_iff]; exact_mod_cast k.isLt
  unfold pick
  rw [hinf]
  generalize hf : (fun k => if g k = top1 g then num k else ((32 : ℝ) : EReal)) = f
  have hf' : ∀ k, f k = if g k = top1 g then num k else ((32 : ℝ) : EReal) := fun k => by rw [← hf]
  obtain ⟨i, -, hi⟩ := Finset.exists_mem_eq_inf Finset.univ ⟨(0 : Fin 32), Finset.mem_univ _⟩ f
  have hle : ∀ k, Finset.univ.inf f ≤ f k := fun k => Finset.inf_le (Finset.mem_univ k)
  constructor
  · intro h
    have hgi : g i = top1 g := by
      by_contra hne
      rw [hi, hf', if_neg hne] at h
      exact (h32 n).ne h
    rw [hi, hf', if_pos hgi] at h
    obtain rfl := num_inj h
    refine ⟨hgi, fun k hk e => ?_⟩
    have := hle k
    rw [hi, hf', hf', if_pos hgi, if_pos e] at this
    exact absurd (num_lt.mpr hk) (not_lt.mpr this)
  · rintro ⟨h1, h2⟩
    refine le_antisymm ?_ ?_
    · rw [hi, hf']
      split
      next e =>
        by_contra hlt
        exact h2 i (num_lt.mp (not_le.mp hlt)) e
      next => exact (h32 n).le
    · have := hle n
      rwa [hf' n, if_pos h1] at this

/-- One round: the blocks picked are those with a rank below the round's number. -/
theorem round (P : Fin 32 → Prop) (r : ℕ) (past : Fin 32 → Prop) (hg : ∀ n, g n ≠ ⊥ ↔ past n)
    (hP : ∀ n, past n → (P n ↔ rank g n < r)) (g' : Fin 32 → EReal) (hg' : ∀ n, (P n → g' n = ⊥) ∧ (¬ P n → g' n = g n))
    (n : Fin 32) (hn : past n) : (P n ∨ pick g' n) ↔ rank g n < r + 1 := by
  have hnb : g n ≠ ⊥ := (hg n).mpr hn
  constructor
  · rintro (h | h)
    · exact Nat.lt_succ_of_lt ((hP n hn).mp h)
    · by_cases hPn : P n
      · exact Nat.lt_succ_of_lt ((hP n hn).mp hPn)
      obtain ⟨h1, h2⟩ := (pick_iff g' n).mp h
      rw [(hg' n).2 hPn] at h1
      have hsub : (Finset.univ.filter fun a => bef g a n) ⊆ Finset.univ.filter fun a => rank g a < r := by
        intro a ha
        rw [Finset.mem_filter] at ha ⊢
        have hga : g n ≤ g a := by rcases ha.2 with k | ⟨k, -⟩; exacts [k.le, k.ge]
        have hpa : past a := (hg a).mp fun e => hnb (le_bot_iff.mp (e ▸ hga))
        refine ⟨ha.1, (hP a hpa).mp ?_⟩
        by_contra hPa
        have hle := le_top1 g' a
        rw [(hg' a).2 hPa, ← h1] at hle
        rcases ha.2 with k | ⟨k, k'⟩
        · exact absurd k (not_lt.mpr hle)
        · exact h2 a k' (by rw [(hg' a).2 hPa, k, h1])
      have hcard : (Finset.univ.filter fun a => rank g a < r).card ≤ r := by
        have := Finset.card_le_card_of_injOn (s := Finset.univ.filter fun a => rank g a < r) (t := Finset.range r) (rank g)
          (fun a ha => by simpa using ha) (rank_inj (g := g)).injOn
        simpa using this
      exact Nat.lt_succ_of_le ((Finset.card_le_card hsub).trans hcard)
  · intro h
    by_cases hPn : P n
    · exact .inl hPn
    right
    have hr : rank g n = r := by
      have : ¬ rank g n < r := fun k => hPn ((hP n hn).mpr k)
      omega
    have hbefore : ∀ a, bef g a n → P a := fun a ha => by
      have hga : g n ≤ g a := by rcases ha with k | ⟨k, -⟩; exacts [k.le, k.ge]
      have hpa : past a := (hg a).mp fun e => hnb (le_bot_iff.mp (e ▸ hga))
      exact (hP a hpa).mpr (hr ▸ rank_lt ha)
    have hle : ∀ a, g' a ≤ g n := fun a => by
      by_cases hPa : P a
      · rw [(hg' a).1 hPa]; exact bot_le
      · rw [(hg' a).2 hPa]; exact not_lt.mp fun k => hPa (hbefore a (.inl k))
    have htop : top1 g' = g n := by
      refine le_antisymm ?_ ((hg' n).2 hPn ▸ le_top1 g' n)
      show Finset.univ.sup g' ≤ g n
      exact Finset.sup_le fun a _ => hle a
    refine (pick_iff g' n).mpr ⟨by rw [htop, (hg' n).2 hPn], fun k hk e => ?_⟩
    rw [htop] at e
    have hPk : ¬ P k := fun hPk => hnb (by rw [← e]; exact (hg' k).1 hPk)
    rw [(hg' k).2 hPk] at e
    exact hPk (hbefore k (.inr ⟨e, hk⟩))

theorem drop_spec (g g' : Fin 32 → EReal) (P : Fin 32 → Prop) (hg' : ∀ n, (P n → g' n = ⊥) ∧ (¬ P n → g' n = g n)) (n : Fin 32) :
    ((P n ∨ pick g' n) → drop g' n = ⊥) ∧ (¬ (P n ∨ pick g' n) → drop g' n = g n) := by
  unfold drop
  constructor
  · intro h
    split
    · rfl
    next hp => exact (hg' n).1 (h.resolve_right hp)
  · intro h
    rw [if_neg fun k => h (.inr k)]
    exact (hg' n).2 fun k => h (.inl k)

/-- The three rounds. -/
theorem picks_iff (past : Fin 32 → Prop) (hg : ∀ n, g n ≠ ⊥ ↔ past n) (n : Fin 32) (hn : past n) :
    (pick g n ∨ pick (drop g) n ∨ pick (drop (drop g)) n) ↔ rank g n < 3 := by
  have s0 : ∀ k, (False → g k = ⊥) ∧ (¬ False → g k = g k) := fun k => ⟨False.elim, fun _ => rfl⟩
  have r1 := round (g := g) (fun _ => False) 0 past hg (fun _ _ => by simp) g s0
  have s1 := drop_spec g g (fun _ => False) s0
  have r2 := round (g := g) (fun k => False ∨ pick g k) 1 past hg (fun k hk => r1 k hk) (drop g) s1
  have s2 := drop_spec g (drop g) _ s1
  have r3 := round (g := g) (fun k => (False ∨ pick g k) ∨ pick (drop g) k) 2 past hg (fun k hk => r2 k hk) (drop (drop g)) s2 n hn
  rw [← r3]; tauto

/-- A block of the past has fewer blocks before it than there are blocks in the past. -/
theorem rank_past (i : ℕ) (hi : i ≤ 32) (hg : ∀ n : Fin 32, g n ≠ ⊥ ↔ n.val < i) (n : Fin 32) : rank g n < i ↔ n.val < i := by
  have hcard : (Finset.univ.filter fun a : Fin 32 => a.val < i).card = i := by
    rw [Fin.card_filter_val_lt]; omega
  constructor
  · intro h
    by_contra hn
    have hb : g n = ⊥ := by by_contra k; exact hn ((hg n).mp k)
    have hsub : (Finset.univ.filter fun a : Fin 32 => a.val < i) ⊆ Finset.univ.filter fun a => bef g a n := fun a ha => by
      rw [Finset.mem_filter] at ha ⊢
      exact ⟨ha.1, .inl (by rw [hb]; exact bot_lt_iff_ne_bot.mpr ((hg a).mpr ha.2))⟩
    have := Finset.card_le_card hsub
    rw [hcard] at this
    exact absurd h (not_lt.mpr this)
  · intro h
    have hsub : (Finset.univ.filter fun a => bef g a n) ⊂ Finset.univ.filter fun a : Fin 32 => a.val < i := by
      refine ⟨fun a ha => ?_, fun hs => ?_⟩
      · rw [Finset.mem_filter] at ha ⊢
        have hga : g n ≤ g a := by rcases ha.2 with k | ⟨k, -⟩; exacts [k.le, k.ge]
        exact ⟨ha.1, (hg a).mp fun e => (hg n).mpr h (le_bot_iff.mp (e ▸ hga))⟩
      · exact bef_irrefl n (Finset.mem_filter.mp (hs (Finset.mem_filter.mpr ⟨Finset.mem_univ n, h⟩))).2
    have := Finset.card_lt_card hsub
    rwa [hcard] at this

theorem positions_eq {n : ℕ} (R R' : Fin n → Fin n → Bool) (e : sortPositions n R = sortPositions n R') : sortedFrom R = sortedFrom R' := by
  funext k
  unfold sortedFrom
  rw [List.get_of_eq e]
  rfl

/-- A stable sort by the gates alone puts the block of rank `j` at place `j`. -/
theorem sorted_rank (R : Fin 32 → Fin 32 → Bool) (hR : ∀ a b, R a b = true ↔ g b < g a) (j : Fin 32) : rank g (sortedFrom R j) = j.val := by
  obtain ⟨B, hB⟩ : ∃ B : Fin 32 → Fin 32 → Bool, ∀ a b, B a b = true ↔ bef g a b := ⟨fun a b => decide (bef g a b), fun a b => decide_eq_true_iff⟩
  have hBf : ∀ a b, B a b = false ↔ ¬ bef g a b := fun a b => by rw [← hB]; simp
  have hsort : ∀ l : List (Fin 32), l.Pairwise (· < ·) → stableSort R l = stableSort B l := by
    intro l
    induction l with
    | nil => intro _; rfl
    | cons a l ih =>
      intro h
      rw [List.pairwise_cons] at h
      show insertBefore R a (stableSort R l) = insertBefore B a (stableSort B l)
      rw [ih h.2]
      refine insertBefore_congr R B a _ fun b hb => ?_
      have hab := h.1 b ((perm_stableSort B l).mem_iff.mp hb)
      rw [Bool.eq_iff_iff, hR, hB, bef]
      constructor
      · exact .inl
      · rintro (k | ⟨-, k⟩)
        · exact k
        · exact absurd k (not_lt.mpr hab.le)
  have hpos : sortedFrom R = sortedFrom B := by
    refine positions_eq R B ?_
    simp only [sortPositions]
    exact hsort _ (List.pairwise_lt_finRange 32)
  rw [hpos]
  have hno : ∀ a b : Fin 32, a < b → bef g (sortedFrom B a) (sortedFrom B b) := fun a b hab => by
    have := sortedFrom_noInversion B B (fun a b h => (hBf b a).mpr fun k => bef_irrefl a (bef_trans ((hB a b).mp h) k)) (fun _ _ h => h)
      (fun a b c h h' => (hBf a c).mpr fun k => by
        rw [hBf] at h h'
        by_cases e : a = b
        · subst e; exact h' k
        by_cases e' : b = c
        · subst e'; exact h k
        have h1 := (bef_total (g := g) e).resolve_left h
        have h2 := (bef_total (g := g) e').resolve_left h'
        exact bef_irrefl a (bef_trans k (bef_trans h2 h1)))
      a b hab
    refine (bef_total fun e => ?_).resolve_right ((hBf _ _).mp this)
    exact hab.ne (sortedFrom_injective B e)
  have : (Finset.univ.filter fun a => bef g a (sortedFrom B j)) = (Finset.univ.filter fun a : Fin 32 => a < j).image (sortedFrom B) := by
    ext a
    obtain ⟨k, rfl⟩ := sortedFrom_surjective B a
    rw [Finset.mem_filter, Finset.mem_image]
    constructor
    · rintro ⟨-, h⟩
      refine ⟨k, Finset.mem_filter.mpr ⟨Finset.mem_univ _, ?_⟩, rfl⟩
      rcases lt_trichotomy k j with c | c | c
      · exact c
      · subst c; exact absurd h (bef_irrefl _)
      · exact absurd (bef_trans h (hno j k c)) (bef_irrefl _)
    · rintro ⟨k', hk', e⟩
      rw [← e]
      exact ⟨Finset.mem_univ _, hno k' j (Finset.mem_filter.mp hk').2⟩
  have hc : (Finset.univ.filter fun a : Fin 32 => a < j).card = j.val := by
    rw [← Fin.card_Iio j]
    exact congrArg Finset.card (by ext a; simp only [Finset.mem_filter, Finset.mem_univ, true_and, Finset.mem_Iio])
  rw [rank, this, Finset.card_image_of_injective _ (sortedFrom_injective B), hc]

end Cert.Proof.Moba

end
-- ==== Proof.Vals.lean ====
/- The program's vectors before and after its loop, at one index. -/
module

public import proofs.«01_k».proof.Proof.Start
public import proofs.«01_k».proof.Proof.Select

@[expose] public section

noncomputable section

namespace Cert.Proof.Moba

open Cert.KernelIdeal Cert.KernelIdeal.Gen
open Idealize.ShloMosaic Idealize.ShloMosaic.TcCoe

set_option maxRecDepth 16384

theorem mask_eq : Named.named (F := Ideal) (φ := .f32) κ "mask" 0xF149F2CA#32 = (⊥ : EReal) := rfl
theorem scale2_eq : Named.named (F := Ideal) (φ := .f32) κ "scale2" 0x3E38AA3B#32 = (((1/8 : ℝ) * (Real.log 2)⁻¹ : ℝ) : EReal) := rfl
theorem toInt_small : ∀ n : Fin 32, (BitVec.ofNat 32 n.val).toInt = (n.val : ℤ) := by decide +kernel

theorem hmask_apply (p : Fin 2) (r : Fin 128) (x : Fin 256) :
    hmask (BitVec.ofNat 32 p.val) (ix2 r x) = if r.val / 64 = p.val then 1#1 else 0#1 := by
  pointwise [hmask]
  revert p r
  decide +kernel

theorem qm_apply (p : BitVec 32) (q : FVec Ideal S1x128x256 .f32) (r : Fin 128) (x : Fin 256) :
    qm p q (ix2 r x) = if hmask p (ix2 r x) = 1#1 then q (ix3 0 r x) else 0 := by
  pointwise [qm]
  rw [sel_eq]

theorem qth_apply (p : BitVec 32) (q : FVec Ideal S1x128x256 .f32) (r : Fin 128) (x : Fin 256) :
    qth p q (ix2 r x) = qm p q (ix2 r x) * Named.named (F := Ideal) κ "scale2" 0x3E38AA3B#32 := by
  pointwise [qth]

theorem bid_apply (n : Fin 32) (x : Fin 256) : bid (ix2 n x) = num n := by
  pointwise [bid]
  show (((BitVec.ofNat 32 n.val).toInt : ℝ) : EReal) = _
  rw [toInt_small, num, Int.cast_natCast]

theorem gate0_apply (q : FVec Ideal S128x256 .f32) (km : FVec Ideal S1x32x128 .f32) (n : Fin 32) (x : Fin 256) :
    gate0 q km (ix2 n x) = ((∑ r : Fin 128, km (ix3 0 n r) * q (ix2 r x)) + ∑ r : Fin 128, (km (ix3 0 n r) - km (ix3 0 n r)) * q (ix2 r x))
      + ∑ r : Fin 128, km (ix3 0 n r) * (q (ix2 r x) - q (ix2 r x)) := by
  pointwise [gate0]

theorem pastV_apply (i : Fin 32) (n : Fin 32) (x : Fin 256) : pastV (BitVec.ofNat 32 i.val) (ix2 n x) = if n < i then 1#1 else 0#1 := by
  pointwise [pastV]
  rw [toInt_small, bid_apply, Int.cast_natCast]
  show BitVec.ofBool (decide (num n < num i)) = _
  by_cases h : n < i
  · rw [if_pos h, decide_eq_true (num_lt.mpr h)]; rfl
  · rw [if_neg h, decide_eq_false fun k => h (num_lt.mp k)]; rfl

theorem gateV_apply (w : BitVec 32) (g : FVec Ideal S32x256 .f32) (n : Fin 32) (x : Fin 256) :
    gateV w g (ix2 n x) = if pastV w (ix2 n x) = 1#1 then g (ix2 n x) else ⊥ := by
  pointwise [gateV]
  rw [sel_eq, mask_eq]

theorem pickV_apply (g : FVec Ideal S32x256 .f32) (n : Fin 32) (x : Fin 256) :
    pickV g (ix2 n x) = if pick (fun k => g (ix2 k x)) n then 1#1 else 0#1 := by
  pointwise [pickV]
  rw [ofBits_ninf, ofBits_pinf, ofBits_32]
  simp only [bid_apply]
  by_cases h : pick (fun k => g (ix2 k x)) n
  · rw [if_pos h]; unfold pick top1 at h; rw [decide_eq_true (by convert h)]; rfl
  · rw [if_neg h]; unfold pick top1 at h; rw [decide_eq_false (by convert h)]; rfl

theorem dropV_apply (g : FVec Ideal S32x256 .f32) (n : Fin 32) (x : Fin 256) :
    dropV g (ix2 n x) = drop (fun k => g (ix2 k x)) n := by
  pointwise [dropV]
  rw [ofBits_ninf, sel_eq, pickV_apply, drop]
  by_cases h : pick (fun k => g (ix2 k x)) n <;> simp [h]

theorem selV_apply (w : BitVec 32) (g : FVec Ideal S32x256 .f32) (n : Fin 32) (x : Fin 256) :
    selV w g (ix2 n x) = if (pick (fun k => g (ix2 k x)) n ∨ pick (drop fun k => g (ix2 k x)) n ∨ pick (drop (drop fun k => g (ix2 k x))) n) ∧ pastV w (ix2 n x) = 1#1 then 1 else 0 := by
  pointwise [selV]
  have e1 : (fun k => dropV g (ix2 k x)) = drop fun k => g (ix2 k x) := funext fun k => dropV_apply g k x
  have e2 : (fun k => dropV (dropV g) (ix2 k x)) = drop (drop fun k => g (ix2 k x)) := funext fun k => by rw [dropV_apply, e1]
  rw [pickV_apply, pickV_apply, pickV_apply, e1, e2]
  have key : ∀ (A B C : Prop) [Decidable A] [Decidable B] [Decidable C] (w : BitVec 1),
      (FloatOps.sitofp (F := Ideal) FTy.f32 (BitVec.setWidth 32 (IntOp.andi (IntOp.ori (IntOp.ori (IntOp.ori (0#1) (if A then 1#1 else 0#1)) (if B then 1#1 else 0#1)) (if C then 1#1 else 0#1)) w)) : EReal)
        = if (A ∨ B ∨ C) ∧ w = 1#1 then 1 else 0 := by
    intro A B C _ _ _ w
    show ((((BitVec.setWidth 32 _ : BitVec 32).toInt : ℝ)) : EReal) = _
    rcases (by decide +revert : w = 0#1 ∨ w = 1#1) with rfl | rfl <;> by_cases hA : A <;> by_cases hB : B <;> by_cases hC : C <;>
      simp [hA, hB, hC, IntOp.andi, IntOp.ori]
  exact key _ _ _ _

theorem ownV_apply (s : FVec Ideal S256x256 .f32) (kk x : Fin 256) : ownV s (ix2 kk x) = if kk ≤ x then s (ix2 kk x) else ⊥ := by
  pointwise [ownV]
  rw [sel_eq, mask_eq]
  have : IntOp.cmpi CmpIPredicate.sle (BitVec.ofNat 32 kk.val) (BitVec.ofNat 32 x.val) = 1#1 ↔ kk ≤ x := by
    revert kk x
    decide +kernel
  simp only [this]

theorem soH_apply (kb : FVec Ideal S256x256 .bf16) (q : Fin 4 → FVec Ideal S128x256 .bf16) (h : Fin 4) (kk x : Fin 256) :
    soH kb q h (ix2 kk x) = ∑ r : Fin 128, kb (ix2 kk ⟨128 * (h.val / 2) + r.val, by omega⟩) * q h (ix2 r x) := by
  fin_cases h <;> pointwise [soH, soV]

theorem outV_apply (a : Fin 4 → FVec Ideal S64x256 .f32) (l : Fin 4 → FVec Ideal S1x256 .f32) (h : Fin 4) (d : Fin 64) (x : Fin 256) :
    outV a l (ix3 0 x ⟨64 * h.val + d.val, by omega⟩) = Ideal.div (a h (ix2 d x)) (l h (ix2 0 x)) := by
  fin_cases h <;> pointwise [outV]
  · refine (dif_neg (by omega)).trans ((dif_neg (by omega)).trans ((dif_pos (by omega)).trans ?_))
    exact congrArg (fun t => Ideal.div (a 2 (ix2 t x)) (l 2 (ix2 0 x))) (Fin.ext (by show 128 + d.val - 64 - 64 = d.val; omega))
  · refine (dif_neg (by omega)).trans ((dif_neg (by omega)).trans ((dif_neg (by omega)).trans ?_))
    exact congrArg (fun t => Ideal.div (a 3 (ix2 t x)) (l 3 (ix2 0 x))) (Fin.ext (by show 192 + d.val - 64 - 64 - 64 = d.val; omega))

end Cert.Proof.Moba

end
-- ==== Proof.Reads.lean ====
/- What the program's loads read: keys, values, selection rows, queries and block means, at one index. -/
module

public import proofs.«01_k».proof.Proof.Vals

@[expose] public section

noncomputable section

namespace Cert.Proof.Moba

open Cert.KernelIdeal Cert.KernelIdeal.Gen
open Idealize.ShloMosaic Idealize.ShloMosaic.TcCoe

set_option maxRecDepth 16384

/-! ## The offsets -/

theorem k_lt (i : grid0.Coords) (k : Fin (k0_t1_loop i).trips) : k.val < 16 := Nat.lt_of_lt_of_le k.isLt (k0_t1_abs i).2.1

theorem trips_eq (i : grid0.Coords) : (k0_t1_loop i).trips = ((i 2).val + 1) / 2 := by
  have h : ∀ n : Fin 32, (Scf.Loop.trips (k0_t1_loop (fun a => match a with | ⟨0, _⟩ => (0 : Fin 2) | ⟨1, _⟩ => (0 : Fin 4) | ⟨2, _⟩ => n))) = (n.val + 1) / 2 := by
    decide +kernel
  exact h (i 2)

theorem wj0 : ∀ n : Fin 16, (Scalar.indexCast (Scalar.minsi (Scalar.muli 2#32 (Scf.iv 0#32 1#32 n.val)) 31#32)).toNat = 2 * n.val := by decide +kernel
theorem wj1 : ∀ n : Fin 16, (Scalar.indexCast (Scalar.minsi (Scalar.addi (Scalar.muli 2#32 (Scf.iv 0#32 1#32 n.val)) 1#32) 31#32)).toNat = 2 * n.val + 1 := by decide +kernel
theorem wjj : ∀ n : Fin 16, (Scalar.indexCast (Scalar.muli (Scalar.minsi (Scalar.addi (Scalar.muli 2#32 (Scf.iv 0#32 1#32 n.val)) 2#32) 30#32) 256#32)).toNat = 256 * min (2 * n.val + 2) 30 := by
  decide +kernel
theorem wown : ∀ n : Fin 32, (Scalar.indexCast (Scalar.muli (Scalar.minsi (BitVec.ofNat 32 n.val) 31#32) 256#32)).toNat = 256 * n.val := by decide +kernel
theorem wownv : ∀ n : Fin 32, (Scalar.indexCast (Scalar.minsi (BitVec.ofNat 32 n.val) 31#32)).toNat = n.val := by decide +kernel
theorem slt0 : ∀ (n : Fin 16) (i : Fin 32), Scalar.cmpi .slt (wA n.val) (BitVec.ofNat 32 i.val) = 1#1 ↔ 2 * n.val < i.val := by decide +kernel
theorem slt1 : ∀ (n : Fin 16) (i : Fin 32), Scalar.cmpi .slt (wB n.val) (BitVec.ofNat 32 i.val) = 1#1 ↔ 2 * n.val + 1 < i.val := by decide +kernel

/-! ## Loads at a stated offset -/

theorem rdK {sp : Space} (v : View sig .tc sp S1x8192x256 .bf16) (f : v.ty.Contents (Elt Ideal)) (R n : ℕ) (off : Fin 3 → ℕ) (h : off = ![0, n, 0])
    (inb : ∀ a, off a + ![1, R, 256] a ≤ S1x8192x256.size a) (hR : n + R ≤ 8192) (kk : Fin R) (r : Fin 256) :
    v.readAt (Elt Ideal) (Rect.unit (s := S1x8192x256) off ![1, R, 256] inb).toLoadRect f (ix3 (0 : Fin 1) kk r)
      = v.read (Elt Ideal) f (ix3 (0 : Fin 1) ⟨n + kk.val, by omega⟩ r) := by
  subst h
  rw [View.readAt_apply]
  refine congrArg (v.read (Elt Ideal) f) (funext fun a => Fin.ext ?_)
  match a with
  | ⟨0, _⟩ => rfl
  | ⟨1, _⟩ => show n + 1 * kk.val = n + kk.val; omega
  | ⟨2, _⟩ => show 0 + 1 * r.val = r.val; omega

theorem rdV {sp : Space} (v : View sig .tc sp S1x32x256x256 .bf16) (f : v.ty.Contents (Elt Ideal)) (n : Fin 32) (off : Fin 4 → ℕ) (h : off = ![0, n.val, 0, 0])
    (inb : ∀ a, off a + ![1, 1, 256, 256] a ≤ S1x32x256x256.size a) (d kk : Fin 256) :
    v.readAt (Elt Ideal) (Rect.unit (s := S1x32x256x256) off ![1, 1, 256, 256] inb).toLoadRect f (ix4 (0 : Fin 1) (0 : Fin 1) d kk)
      = v.read (Elt Ideal) f (ix4 (0 : Fin 1) n d kk) := by
  subst h
  rw [View.readAt_apply]
  refine congrArg (v.read (Elt Ideal) f) (funext fun a => Fin.ext ?_)
  match a with
  | ⟨0, _⟩ => rfl
  | ⟨1, _⟩ => show n.val + 1 * 0 = n.val; omega
  | ⟨2, _⟩ => show 0 + 1 * d.val = d.val; omega
  | ⟨3, _⟩ => show 0 + 1 * kk.val = kk.val; omega

theorem rdS {sp : Space} (v : View sig .tc sp S4x32x256 .f32) (f : v.ty.Contents (Elt Ideal)) (g : Fin 4) (n : Fin 32) (off : Fin 3 → ℕ) (h : off = ![g.val, n.val, 0])
    (inb : ∀ a, off a + ![1, 1, 256] a ≤ S4x32x256.size a) (x : Fin 256) :
    v.readAt (Elt Ideal) (Rect.unit (s := S4x32x256) off ![1, 1, 256] inb).toLoadRect f (ix3 (0 : Fin 1) (0 : Fin 1) x)
      = v.read (Elt Ideal) f (ix3 g n x) := by
  subst h
  rw [View.readAt_apply]
  refine congrArg (v.read (Elt Ideal) f) (funext fun a => Fin.ext ?_)
  match a with
  | ⟨0, _⟩ => show g.val + 1 * 0 = g.val; omega
  | ⟨1, _⟩ => show n.val + 1 * 0 = n.val; omega
  | ⟨2, _⟩ => show 0 + 1 * x.val = x.val; omega

theorem cast512 (w : FVec Ideal S1x512x256 .bf16) (kk : Fin 512) (r : Fin 256) : shapeCast S512x256 w shapeCasts_S1x512x256_S512x256 (ix2 kk r) = w (ix3 0 kk r) := by
  pointwise
theorem cast256 (w : FVec Ideal S1x256x256 .bf16) (kk r : Fin 256) : shapeCast S256x256 w shapeCasts_S1x256x256_S256x256 (ix2 kk r) = w (ix3 0 kk r) := by
  pointwise
theorem castV (w : FVec Ideal S1x1x256x256 .bf16) (kk r : Fin 256) : shapeCast S256x256 w shapeCasts_S1x1x256x256_S256x256 (ix2 kk r) = w (ix4 0 0 kk r) := by
  pointwise
theorem castS (w : FVec Ideal S1x1x256 .f32) (x : Fin 256) : shapeCast S1x256 w shapeCasts_S1x1x256_S1x256 (ix2 0 x) = w (ix3 0 0 x) := by
  pointwise

/-! ## The loads of a step -/

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
variable (k : Fin (k0_t1_loop i).trips)
variable (f4 : Bf (F := Ideal) c arg4) (f5 : Bf (F := Ideal) c arg5) (f9 : Bf (F := Ideal) c arg9)

theorem kbE_apply (hc : k0_cond1 i k = 1#1) (kk : Fin 512) (r : Fin 256) :
    kbE c i arg4 k hc f4 (ix2 kk r) = arg4.view.read (Elt Ideal) f4 (ix3 (0 : Fin 1) ⟨256 * min (2 * k.val + 2) 30 + kk.val, by omega⟩ r) :=
  (cast512 _ kk r).trans (rdK arg4.view f4 512 (256 * min (2 * k.val + 2) 30) _ (congrArg (fun t => ![0, t, 0]) (wjj ⟨k.val, k_lt i k⟩)) (k0_off4_inb i k hc) (by omega) kk r)

theorem vtE0_apply (hc : k0_cond1 i k = 1#1) (d kk : Fin 256) :
    vtE0 c i arg5 k hc f5 (ix2 d kk) = arg5.view.read (Elt Ideal) f5 (ix4 (0 : Fin 1) ⟨2 * k.val, by have := k_lt i k; omega⟩ d kk) :=
  (castV _ d kk).trans (rdV arg5.view f5 ⟨2 * k.val, by have := k_lt i k; omega⟩ _ (congrArg (fun t => ![0, t, 0, 0]) (wj0 ⟨k.val, k_lt i k⟩)) (k0_off5_inb i k hc) d kk)

theorem selE0_apply (hc : k0_cond1 i k = 1#1) (h : Fin 4) (x : Fin 256) :
    selE0 c i arg9 k hc f9 h (ix2 0 x) = arg9.view.read (Elt Ideal) f9 (ix3 h ⟨2 * k.val, by have := k_lt i k; omega⟩ x) :=
  match h with
  | 0 => (castS _ x).trans (rdS arg9.view f9 0 ⟨2 * k.val, by have := k_lt i k; omega⟩ _ (congrArg (fun t => ![0, t, 0]) (wj0 ⟨k.val, k_lt i k⟩)) (k0_off6_inb i k hc) x)
  | 1 => (castS _ x).trans (rdS arg9.view f9 1 ⟨2 * k.val, by have := k_lt i k; omega⟩ _ (congrArg (fun t => ![1, t, 0]) (wj0 ⟨k.val, k_lt i k⟩)) (k0_off7_inb i k hc) x)
  | 2 => (castS _ x).trans (rdS arg9.view f9 2 ⟨2 * k.val, by have := k_lt i k; omega⟩ _ (congrArg (fun t => ![2, t, 0]) (wj0 ⟨k.val, k_lt i k⟩)) (k0_off8_inb i k hc) x)
  | 3 => (castS _ x).trans (rdS arg9.view f9 3 ⟨2 * k.val, by have := k_lt i k; omega⟩ _ (congrArg (fun t => ![3, t, 0]) (wj0 ⟨k.val, k_lt i k⟩)) (k0_off9_inb i k hc) x)

theorem vtE1_apply (hc : k0_cond1 i k = 1#1) (d kk : Fin 256) :
    vtE1 c i arg5 k hc f5 (ix2 d kk) = arg5.view.read (Elt Ideal) f5 (ix4 (0 : Fin 1) ⟨2 * k.val + 1, by have := k_lt i k; omega⟩ d kk) :=
  (castV _ d kk).trans (rdV arg5.view f5 ⟨2 * k.val + 1, by have := k_lt i k; omega⟩ _ (congrArg (fun t => ![0, t, 0, 0]) (wj1 ⟨k.val, k_lt i k⟩)) (k0_off10_inb i k hc) d kk)

theorem selE1_apply (hc : k0_cond1 i k = 1#1) (h : Fin 4) (x : Fin 256) :
    selE1 c i arg9 k hc f9 h (ix2 0 x) = arg9.view.read (Elt Ideal) f9 (ix3 h ⟨2 * k.val + 1, by have := k_lt i k; omega⟩ x) :=
  match h with
  | 0 => (castS _ x).trans (rdS arg9.view f9 0 ⟨2 * k.val + 1, by have := k_lt i k; omega⟩ _ (congrArg (fun t => ![0, t, 0]) (wj1 ⟨k.val, k_lt i k⟩)) (k0_off11_inb i k hc) x)
  | 1 => (castS _ x).trans (rdS arg9.view f9 1 ⟨2 * k.val + 1, by have := k_lt i k; omega⟩ _ (congrArg (fun t => ![1, t, 0]) (wj1 ⟨k.val, k_lt i k⟩)) (k0_off12_inb i k hc) x)
  | 2 => (castS _ x).trans (rdS arg9.view f9 2 ⟨2 * k.val + 1, by have := k_lt i k; omega⟩ _ (congrArg (fun t => ![2, t, 0]) (wj1 ⟨k.val, k_lt i k⟩)) (k0_off13_inb i k hc) x)
  | 3 => (castS _ x).trans (rdS arg9.view f9 3 ⟨2 * k.val + 1, by have := k_lt i k; omega⟩ _ (congrArg (fun t => ![3, t, 0]) (wj1 ⟨k.val, k_lt i k⟩)) (k0_off14_inb i k hc) x)

theorem kbO_apply (hc : ¬ k0_cond1 i k = 1#1) (kk : Fin 512) (r : Fin 256) :
    kbO c i arg4 k hc f4 (ix2 kk r) = arg4.view.read (Elt Ideal) f4 (ix3 (0 : Fin 1) ⟨256 * min (2 * k.val + 2) 30 + kk.val, by omega⟩ r) :=
  (cast512 _ kk r).trans (rdK arg4.view f4 512 (256 * min (2 * k.val + 2) 30) _ (congrArg (fun t => ![0, t, 0]) (wjj ⟨k.val, k_lt i k⟩)) (k0_off15_inb i k hc) (by omega) kk r)

theorem vtO0_apply (hc : ¬ k0_cond1 i k = 1#1) (d kk : Fin 256) :
    vtO0 c i arg5 k hc f5 (ix2 d kk) = arg5.view.read (Elt Ideal) f5 (ix4 (0 : Fin 1) ⟨2 * k.val, by have := k_lt i k; omega⟩ d kk) :=
  (castV _ d kk).trans (rdV arg5.view f5 ⟨2 * k.val, by have := k_lt i k; omega⟩ _ (congrArg (fun t => ![0, t, 0, 0]) (wj0 ⟨k.val, k_lt i k⟩)) (k0_off16_inb i k hc) d kk)

theorem selO0_apply (hc : ¬ k0_cond1 i k = 1#1) (h : Fin 4) (x : Fin 256) :
    selO0 c i arg9 k hc f9 h (ix2 0 x) = arg9.view.read (Elt Ideal) f9 (ix3 h ⟨2 * k.val, by have := k_lt i k; omega⟩ x) :=
  match h with
  | 0 => (castS _ x).trans (rdS arg9.view f9 0 ⟨2 * k.val, by have := k_lt i k; omega⟩ _ (congrArg (fun t => ![0, t, 0]) (wj0 ⟨k.val, k_lt i k⟩)) (k0_off17_inb i k hc) x)
  | 1 => (castS _ x).trans (rdS arg9.view f9 1 ⟨2 * k.val, by have := k_lt i k; omega⟩ _ (congrArg (fun t => ![1, t, 0]) (wj0 ⟨k.val, k_lt i k⟩)) (k0_off18_inb i k hc) x)
  | 2 => (castS _ x).trans (rdS arg9.view f9 2 ⟨2 * k.val, by have := k_lt i k; omega⟩ _ (congrArg (fun t => ![2, t, 0]) (wj0 ⟨k.val, k_lt i k⟩)) (k0_off19_inb i k hc) x)
  | 3 => (castS _ x).trans (rdS arg9.view f9 3 ⟨2 * k.val, by have := k_lt i k; omega⟩ _ (congrArg (fun t => ![3, t, 0]) (wj0 ⟨k.val, k_lt i k⟩)) (k0_off20_inb i k hc) x)

theorem vtO1_apply (hc : ¬ k0_cond1 i k = 1#1) (d kk : Fin 256) :
    vtO1 c i arg5 k hc f5 (ix2 d kk) = arg5.view.read (Elt Ideal) f5 (ix4 (0 : Fin 1) ⟨2 * k.val + 1, by have := k_lt i k; omega⟩ d kk) :=
  (castV _ d kk).trans (rdV arg5.view f5 ⟨2 * k.val + 1, by have := k_lt i k; omega⟩ _ (congrArg (fun t => ![0, t, 0, 0]) (wj1 ⟨k.val, k_lt i k⟩)) (k0_off21_inb i k hc) d kk)

theorem selO1_apply (hc : ¬ k0_cond1 i k = 1#1) (h : Fin 4) (x : Fin 256) :
    selO1 c i arg9 k hc f9 h (ix2 0 x) = arg9.view.read (Elt Ideal) f9 (ix3 h ⟨2 * k.val + 1, by have := k_lt i k; omega⟩ x) :=
  match h with
  | 0 => (castS _ x).trans (rdS arg9.view f9 0 ⟨2 * k.val + 1, by have := k_lt i k; omega⟩ _ (congrArg (fun t => ![0, t, 0]) (wj1 ⟨k.val, k_lt i k⟩)) (k0_off22_inb i k hc) x)
  | 1 => (castS _ x).trans (rdS arg9.view f9 1 ⟨2 * k.val + 1, by have := k_lt i k; omega⟩ _ (congrArg (fun t => ![1, t, 0]) (wj1 ⟨k.val, k_lt i k⟩)) (k0_off23_inb i k hc) x)
  | 2 => (castS _ x).trans (rdS arg9.view f9 2 ⟨2 * k.val + 1, by have := k_lt i k; omega⟩ _ (congrArg (fun t => ![2, t, 0]) (wj1 ⟨k.val, k_lt i k⟩)) (k0_off24_inb i k hc) x)
  | 3 => (castS _ x).trans (rdS arg9.view f9 3 ⟨2 * k.val + 1, by have := k_lt i k; omega⟩ _ (congrArg (fun t => ![3, t, 0]) (wj1 ⟨k.val, k_lt i k⟩)) (k0_off25_inb i k hc) x)

end

/-! ## Before the loop -/

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole)
variable (x3 : Vec Ideal S1x256x256 .f32) (x4 : Vec Ideal S1x8192x256 .bf16) (x5 : Vec Ideal S1x32x256x256 .bf16) (x6 : Vec Ideal S1x32x256 .f32)

theorem q3_apply (h : Fin 4) (r : Fin 128) (x : Fin 256) :
    q3 arg3 harg3 x3 h (ix3 0 r x) = x3 (ix3 0 ⟨128 * (h.val / 2) + r.val, by omega⟩ x) := by
  fin_cases h <;> refine (harg3.readAt_unread x3 _ _).trans ?_ <;> refine congrArg x3 (funext fun a => Fin.ext ?_) <;>
    (match a with
    | ⟨0, _⟩ => rfl
    | ⟨1, _⟩ => first | (show 0 + 1 * r.val = 0 + r.val; omega) | (show 128 + 1 * r.val = 128 + r.val; omega)
    | ⟨2, _⟩ => show 0 + 1 * x.val = x.val; omega)

theorem km6_apply (h : Fin 4) (n : Fin 32) (r : Fin 128) :
    km6 arg6 harg6 x6 h (ix3 0 n r) = x6 (ix3 0 n ⟨128 * (h.val / 2) + r.val, by omega⟩) := by
  fin_cases h <;> refine (harg6.readAt_unread x6 _ _).trans ?_ <;> refine congrArg x6 (funext fun a => Fin.ext ?_) <;>
    (match a with
    | ⟨0, _⟩ => rfl
    | ⟨1, _⟩ => show 0 + 1 * n.val = n.val; omega
    | ⟨2, _⟩ => first | (show 0 + 1 * r.val = 0 + r.val; omega) | (show 128 + 1 * r.val = 128 + r.val; omega))

theorem kbOwn_apply (kk r : Fin 256) :
    kbOwn i arg4 harg4 x4 (ix2 kk r) = x4 (ix3 0 ⟨256 * (i 2).val + kk.val, by have : (i 2).val < 32 := (i 2).isLt; omega⟩ r) :=
  (cast256 _ kk r).trans ((rdK arg4.view _ 256 (256 * (i 2).val) _ (congrArg (fun t => ![0, t, 0]) (wown (i 2))) (k0_off1_inb i)
    (by have : (i 2).val < 32 := (i 2).isLt; omega) kk r).trans (congrFun (harg4.read_unread x4) _))

theorem kbEven_apply (kk : Fin 512) (r : Fin 256) :
    kbEven arg4 harg4 x4 (ix2 kk r) = x4 (ix3 0 ⟨kk.val, by omega⟩ r) :=
  (cast512 _ kk r).trans ((rdK arg4.view _ 512 0 _ (by decide +kernel) k0_off2_inb (by omega) kk r).trans
    ((congrFun (harg4.read_unread x4) _).trans (congrArg (fun t => x4 (ix3 (0 : Fin 1) t r)) (Fin.ext (Nat.zero_add _)))))

theorem vtOwn_apply (d kk : Fin 256) : vtOwn i arg5 harg5 x5 (ix2 d kk) = x5 (ix4 0 (i 2) d kk) :=
  (castV _ d kk).trans ((rdV arg5.view _ (i 2) _ (congrArg (fun t => ![0, t, 0, 0]) (wownv (i 2))) (k0_off3_inb i) d kk).trans (congrFun (harg5.read_unread x5) _))

theorem qtP_apply (w : FVec Ideal S128x256 .bf16) (r : Fin 128) (x : Fin 256) : (shapeCast S1x128x256 w shapeCasts_S128x256_S1x128x256) (ix3 0 r x) = w (ix2 r x) := by pointwise
theorem selP_apply (w : FVec Ideal S32x256 .f32) (r : Fin 32) (x : Fin 256) : (shapeCast S1x32x256 w shapeCasts_S32x256_S1x32x256) (ix3 0 r x) = w (ix2 r x) := by pointwise
theorem owP_apply (w : FVec Ideal S256x256 .f32) (r : Fin 256) (x : Fin 256) : (shapeCast S1x256x256 w shapeCasts_S256x256_S1x256x256) (ix3 0 r x) = w (ix2 r x) := by pointwise

variable {sp : Space}

theorem qt_cons (v : View sig .tc sp S4x128x256 .bf16) (f : v.ty.Contents (Elt Ideal)) (o : Fin 4) (w : FVec Ideal S128x256 .bf16)
    (L : List (View.Piece (Elt Ideal) S4x128x256 .bf16)) (h : Fin 4) (kk : Fin 128) (x : Fin 256) :
    v.read (Elt Ideal) (v.writes (Elt Ideal) f (qtP o w :: L)) (ix3 h kk x)
      = if o = h then w (ix2 kk x) else v.read (Elt Ideal) (v.writes (Elt Ideal) f L) (ix3 h kk x) := by
  split
  next e => exact (hit v f o h _ L kk x e).trans (qtP_apply w kk x)
  next e => exact miss v f o h _ L kk x e

theorem qt4_row (v : View sig .tc sp S4x128x256 .bf16) (f : v.ty.Contents (Elt Ideal)) (w : Fin 4 → FVec Ideal S128x256 .bf16)
    (h : Fin 4) (kk : Fin 128) (x : Fin 256) :
    v.read (Elt Ideal) (v.writes (Elt Ideal) f (qt4 w)) (ix3 h kk x) = w h (ix2 kk x) := by
  fin_cases h <;> simp only [qt4, qt_cons, Fin.reduceFinMk, Fin.zero_eta, Fin.isValue, Fin.reduceEq, ↓reduceIte]

theorem sel_cons (v : View sig .tc sp S4x32x256 .f32) (f : v.ty.Contents (Elt Ideal)) (o : Fin 4) (w : FVec Ideal S32x256 .f32)
    (L : List (View.Piece (Elt Ideal) S4x32x256 .f32)) (h : Fin 4) (kk : Fin 32) (x : Fin 256) :
    v.read (Elt Ideal) (v.writes (Elt Ideal) f (selP o w :: L)) (ix3 h kk x)
      = if o = h then w (ix2 kk x) else v.read (Elt Ideal) (v.writes (Elt Ideal) f L) (ix3 h kk x) := by
  split
  next e => exact (hit v f o h _ L kk x e).trans (selP_apply w kk x)
  next e => exact miss v f o h _ L kk x e

theorem sel4_row (v : View sig .tc sp S4x32x256 .f32) (f : v.ty.Contents (Elt Ideal)) (w : Fin 4 → FVec Ideal S32x256 .f32)
    (h : Fin 4) (kk : Fin 32) (x : Fin 256) :
    v.read (Elt Ideal) (v.writes (Elt Ideal) f (sel4 w)) (ix3 h kk x) = w h (ix2 kk x) := by
  fin_cases h <;> simp only [sel4, sel_cons, Fin.reduceFinMk, Fin.zero_eta, Fin.isValue, Fin.reduceEq, ↓reduceIte]

theorem ow_cons (v : View sig .tc sp S4x256x256 .f32) (f : v.ty.Contents (Elt Ideal)) (o : Fin 4) (w : FVec Ideal S256x256 .f32)
    (L : List (View.Piece (Elt Ideal) S4x256x256 .f32)) (h : Fin 4) (kk : Fin 256) (x : Fin 256) :
    v.read (Elt Ideal) (v.writes (Elt Ideal) f (owP o w :: L)) (ix3 h kk x)
      = if o = h then w (ix2 kk x) else v.read (Elt Ideal) (v.writes (Elt Ideal) f L) (ix3 h kk x) := by
  split
  next e => exact (hit v f o h _ L kk x e).trans (owP_apply w kk x)
  next e => exact miss v f o h _ L kk x e

theorem ow4_row (v : View sig .tc sp S4x256x256 .f32) (f : v.ty.Contents (Elt Ideal)) (w : Fin 4 → FVec Ideal S256x256 .f32)
    (h : Fin 4) (kk : Fin 256) (x : Fin 256) :
    v.read (Elt Ideal) (v.writes (Elt Ideal) f (ow4 w)) (ix3 h kk x) = w h (ix2 kk x) := by
  fin_cases h <;> simp only [ow4, ow_cons, Fin.reduceFinMk, Fin.zero_eta, Fin.isValue, Fin.reduceEq, ↓reduceIte]

theorem row4_row (v : View sig .tc sp S4x1x256 .f32) (f : v.ty.Contents (Elt Ideal)) (w : FVec Ideal S1x256 .f32) (h : Fin 4) :
    rowM (v.read (Elt Ideal) (v.writes (Elt Ideal) f (row4 w))) h = w := by
  fin_cases h <;> simp only [row4, rowM_cons, Fin.reduceFinMk, Fin.zero_eta, Fin.isValue, Fin.reduceEq, ↓reduceIte]
theorem acc4_row (v : View sig .tc sp S4x64x256 .f32) (f : v.ty.Contents (Elt Ideal)) (w : FVec Ideal S64x256 .f32) (h : Fin 4) :
    rowA (v.read (Elt Ideal) (v.writes (Elt Ideal) f (acc4 w))) h = w := by
  fin_cases h <;> simp only [acc4, rowA_cons, Fin.reduceFinMk, Fin.zero_eta, Fin.isValue, Fin.reduceEq, ↓reduceIte]

theorem getO_apply (v : View sig .tc sp S4x256x256 .f32) (f : v.ty.Contents (Elt Ideal)) (h : Fin 4) (r x : Fin 256) :
    getO v f h (ix2 r x) = v.read (Elt Ideal) f (ix3 h r x) := by
  fin_cases h <;> pointwise [getO, View.readAt_apply]

end

end Cert.Proof.Moba

end
-- ==== Proof.Online.lean ====
/- A running maximum with a rescaled numerator and denominator: what it holds after any set of keys. -/
module

public import Idealize.ShloMosaic.PureOps.Ideal
public import Idealize.ShloMosaic.Lib.Pointwise

@[expose] public section

noncomputable section

namespace Cert.Proof.Moba

open Idealize.ShloMosaic

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A nonnegative real factor goes into a sum. -/
theorem coe_mul_sum {ι : Type} (s : Finset ι) (r : ℝ) (hr : 0 ≤ r) (f : ι → EReal) : (r : EReal) * ∑ k ∈ s, f k = ∑ k ∈ s, (r : EReal) * f k := by
  classical
  induction s using Finset.induction_on with
  | empty => simp
  | insert a s ha ih =>
    rw [Finset.sum_insert ha, Finset.sum_insert ha, EReal.left_distrib_of_nonneg_of_ne_top (by exact_mod_cast hr) (EReal.coe_ne_top r), ih]

/-- The largest of finitely many numbers, none of them above every real and one of them real, is a real. -/
theorem fold_real {n : ℕ} (f : Fin n → EReal) (ht : ∀ k, f k ≠ ⊤) (k0 : Fin n) (hb : f k0 ≠ ⊥) :
    ∃ r : ℝ, (Finset.univ.fold max ⊥ f) = (r : EReal) := by
  have e : (Finset.univ.fold max ⊥ f) = Finset.univ.sup f := rfl
  rw [e]
  obtain ⟨i, _, hi⟩ := Finset.exists_mem_eq_sup Finset.univ ⟨k0, Finset.mem_univ _⟩ f
  have h1 : Finset.univ.sup f ≠ ⊤ := by rw [hi]; exact ht i
  have h2 : Finset.univ.sup f ≠ ⊥ := fun h => hb (le_bot_iff.mp (h ▸ Finset.le_sup (f := f) (Finset.mem_univ k0)))
  exact ⟨(Finset.univ.sup f).toReal, (EReal.coe_toReal h1 h2).symm⟩

variable {ι : Type} [DecidableEq ι]

/-- The three running numbers after the keys `T`. -/
def Onl (S : ι → ℝ) (V : Fin 64 → ι → EReal) (T : Finset ι) (m l : EReal) (a : Fin 64 → EReal) : Prop :=
  ∃ M : ℝ, m = (M : EReal) ∧ l = ((∑ k ∈ T, (2 : ℝ) ^ (S k - M) : ℝ) : EReal)
    ∧ ∀ d, a d = ∑ k ∈ T, V d k * (((2 : ℝ) ^ (S k - M) : ℝ) : EReal)

variable {S : ι → ℝ} {V : Fin 64 → ι → EReal} {T : Finset ι} {m l : EReal} {a : Fin 64 → EReal}

theorem exp2_sub (x y : ℝ) : Ideal.exp2 ((x : EReal) - (y : EReal)) = (((2 : ℝ) ^ (x - y) : ℝ) : EReal) := by
  rw [← EReal.coe_sub, Ideal.exp2_coe]; rfl

/-- A block that is not chosen leaves everything as it is. -/
theorem Onl.skip (h : Onl S V T m l a) (l' : EReal) (a' : Fin 64 → EReal)
    (hl : l' = Ideal.exp2 (m - m) * l + 0) (ha : ∀ d, a' d = Ideal.exp2 (m - m) * a d + 0) : Onl S V T m l' a' := by
  obtain ⟨M, rfl, h2, h3⟩ := h
  have e : Ideal.exp2 ((M : EReal) - (M : EReal)) = 1 := by rw [exp2_sub]; simp
  refine ⟨M, rfl, by rw [hl, e, one_mul, add_zero, h2], fun d => by rw [ha, e, one_mul, add_zero, h3]⟩

/-- A chosen block joins. -/
theorem Onl.join (h : Onl S V T m l a) (e : Fin 256 → ι) (he : Function.Injective e) (hd : ∀ k, e k ∉ T)
    (m' l' : EReal) (a' : Fin 64 → EReal)
    (hm : m' = max m (Finset.univ.fold max ⊥ fun k => (S (e k) : EReal)))
    (hl : l' = Ideal.exp2 (m - m') * l + ∑ k, Ideal.exp2 ((S (e k) : EReal) - m'))
    (ha : ∀ d, a' d = Ideal.exp2 (m - m') * a d + ∑ k, V d (e k) * Ideal.exp2 ((S (e k) : EReal) - m')) :
    Onl S V (T ∪ Finset.univ.image e) m' l' a' := by
  obtain ⟨M, rfl, h2, h3⟩ := h
  obtain ⟨r, hr⟩ := fold_real (fun k => (S (e k) : EReal)) (fun k => EReal.coe_ne_top _) (0 : Fin 256) (EReal.coe_ne_bot _)
  rw [hr] at hm
  obtain rfl : m' = ((max M r : ℝ) : EReal) := by rw [hm]; exact (EReal.coe_strictMono.monotone.map_max).symm
  have hdis : Disjoint T (Finset.univ.image e) := by
    rw [Finset.disjoint_right]; intro k hk; obtain ⟨j, _, rfl⟩ := Finset.mem_image.mp hk; exact hd j
  have key : ∀ k, (2 : ℝ) ^ (M - max M r) * (2 : ℝ) ^ (S k - M) = (2 : ℝ) ^ (S k - max M r) := fun k => by
    rw [← Real.rpow_add (by norm_num)]; congr 1; ring
  refine ⟨max M r, rfl, ?_, fun d => ?_⟩
  · rw [hl, h2, exp2_sub, Finset.sum_union hdis, Finset.sum_image fun _ _ _ _ h => he h, EReal.coe_add, ← EReal.coe_mul, Finset.mul_sum]
    congr 1
    · exact congrArg _ (Finset.sum_congr rfl fun k _ => key k)
  · rw [ha, h3, exp2_sub, Finset.sum_union hdis, Finset.sum_image fun _ _ _ _ h => he h, coe_mul_sum _ _ (by positivity)]
    congr 1
    · refine Finset.sum_congr rfl fun k _ => ?_
      rw [← key k, EReal.coe_mul, ← mul_assoc, ← mul_assoc, mul_comm (V d k)]

/-- The first block, of which only the keys with `P` count. -/
theorem Onl.start (S : ι → ℝ) (V : Fin 64 → ι → EReal) (e : Fin 256 → ι) (he : Function.Injective e) (P : Fin 256 → Prop) [DecidablePred P] (k0 : Fin 256) (h0 : P k0)
    (s : Fin 256 → EReal) (hs : ∀ k, s k = if P k then (S (e k) : EReal) else ⊥)
    (m' l' : EReal) (a' : Fin 64 → EReal)
    (hm : m' = max ⊥ (Finset.univ.fold max ⊥ s))
    (hl : l' = Ideal.exp2 (⊥ - m') * 0 + ∑ k, Ideal.exp2 (s k - m'))
    (ha : ∀ d, a' d = Ideal.exp2 (⊥ - m') * 0 + ∑ k, V d (e k) * Ideal.exp2 (s k - m')) :
    Onl S V ((Finset.univ.filter P).image e) m' l' a' := by
  obtain ⟨r, hr⟩ := fold_real s (fun k => by rw [hs]; split <;> simp) k0 (by rw [hs, if_pos h0]; simp)
  rw [hr, max_eq_right bot_le] at hm
  subst hm
  have key : ∀ k, Ideal.exp2 (s k - (r : EReal)) = if P k then (((2 : ℝ) ^ (S (e k) - r) : ℝ) : EReal) else 0 := fun k => by
    rw [hs]; split
    · exact exp2_sub _ _
    · rw [EReal.bot_sub, Ideal.exp2_bot]
  refine ⟨r, rfl, ?_, fun d => ?_⟩
  · rw [hl, mul_zero, zero_add, Finset.sum_image fun _ _ _ _ h => he h, coe_sum, Finset.sum_filter]
    exact Finset.sum_congr rfl fun k _ => key k
  · rw [ha, mul_zero, zero_add, Finset.sum_image fun _ _ _ _ h => he h, Finset.sum_filter]
    refine Finset.sum_congr rfl fun k _ => ?_
    rw [key]; split <;> simp

/-- The weights of the keys `T`. -/
def wgt (S : ι → ℝ) (T : Finset ι) (k : ι) : ℝ := (2 : ℝ) ^ S k / ∑ j ∈ T, (2 : ℝ) ^ S j

/-- The quotient: the values under the weights. -/
theorem Onl.out (h : Onl S V T m l a) (k0 : ι) (h0 : k0 ∈ T) (d : Fin 64) : Ideal.div (a d) l = ∑ k ∈ T, V d k * (wgt S T k : EReal) := by
  obtain ⟨M, -, h2, h3⟩ := h
  have hpos : 0 < ∑ k ∈ T, (2 : ℝ) ^ (S k - M) := Finset.sum_pos (fun k _ => by positivity) ⟨k0, h0⟩
  rw [h2, h3, Ideal.div_coe hpos.ne', mul_comm, coe_mul_sum _ _ (by positivity)]
  refine Finset.sum_congr rfl fun k _ => ?_
  rw [mul_comm, mul_assoc, ← EReal.coe_mul]
  congr 2
  have : ∑ k ∈ T, (2 : ℝ) ^ (S k - M) = (∑ k ∈ T, (2 : ℝ) ^ S k) / (2 : ℝ) ^ M := by
    rw [Finset.sum_div]; exact Finset.sum_congr rfl fun k _ => Real.rpow_sub (by norm_num) _ _
  rw [this, Real.rpow_sub (by norm_num), wgt]
  have h2M : (2 : ℝ) ^ M ≠ 0 := by positivity
  have hS : (∑ k ∈ T, (2 : ℝ) ^ S k) ≠ 0 := (Finset.sum_pos (fun k _ => by positivity) ⟨k0, h0⟩).ne'
  field_simp

end Cert.Proof.Moba

end
-- ==== Proof.Inv.lean ====
/- The loop, row by row: what the running sums hold after every step. -/
module

public import proofs.«01_k».proof.Proof.Reads
public import proofs.«01_k».proof.Proof.Online

@[expose] public section

noncomputable section

namespace Cert.Proof.Moba

open Cert.KernelIdeal Cert.KernelIdeal.Gen
open Idealize.ShloMosaic Idealize.ShloMosaic.TcCoe

set_option maxRecDepth 16384

/-- A key is a block and a place in it. -/
abbrev Key : Type := Fin 32 × Fin 256

/-- The score scale, times the logarithm's base. -/
def sc2 : ℝ := (1/8 : ℝ) * (Real.log 2)⁻¹

def scoreK (X3 : S1x256x256.Idx → ℝ) (X4 : S1x8192x256.Idx → ℝ) (h : Fin 4) (x : Fin 256) (p : Key) : ℝ :=
  ∑ d : Fin 64, X4 (ix3 0 ⟨256 * p.1.val + p.2.val, by omega⟩ ⟨64 * h.val + d.val, by omega⟩) * (X3 (ix3 0 ⟨64 * h.val + d.val, by omega⟩ x) * sc2)
def gateK (X3 : S1x256x256.Idx → ℝ) (X6 : S1x32x256.Idx → ℝ) (h : Fin 4) (x : Fin 256) (n : Fin 32) : ℝ :=
  ∑ d : Fin 64, X6 (ix3 0 n ⟨64 * h.val + d.val, by omega⟩) * X3 (ix3 0 ⟨64 * h.val + d.val, by omega⟩ x)
def valK (x5 : Vec Ideal S1x32x256x256 .bf16) (h : Fin 4) (d : Fin 64) (p : Key) : EReal := x5 (ix4 0 p.1 ⟨64 * h.val + d.val, by omega⟩ p.2)

/-- The gates of the blocks before the own one; the others have none. -/
def gates (own : Fin 32) (g : Fin 32 → ℝ) (n : Fin 32) : EReal := if n < own then (g n : EReal) else ⊥

/-- The keys read: the own block's up to the query, and the selected blocks' among the first `j`. -/
def keysTo (g : Fin 32 → ℝ) (own : Fin 32) (x : Fin 256) (j : ℕ) : Finset Key :=
  Finset.univ.filter fun p => (p.1 = own ∧ p.2 ≤ x) ∨ (p.1 < own ∧ p.1.val < j ∧ rank (gates own g) p.1 < 3)

theorem gates_ne (own : Fin 32) (g : Fin 32 → ℝ) (n : Fin 32) : gates own g n ≠ ⊥ ↔ n < own := by
  unfold gates; split
  next h => simp [h]
  next h => simp [h]

theorem half_sum (p : Fin 2) (f : Fin 128 → EReal) :
    (∑ r : Fin 128, if r.val / 64 = p.val then f r else 0) = ∑ d : Fin 64, f ⟨64 * p.val + d.val, by omega⟩ := by
  have e := Fin.sum_univ_add (a := 64) (b := 64) (fun r : Fin (64 + 64) => if r.val / 64 = p.val then f r else 0)
  refine Eq.trans e ?_
  have h0 : ∀ d : Fin 64, d.val / 64 = 0 := fun d => by omega
  have h1 : ∀ d : Fin 64, (64 + d.val) / 64 = 1 := fun d => by omega
  have e0 : ∀ d : Fin 64, (Fin.castAdd 64 d).val / 64 = 0 := fun d => h0 d
  have e1 : ∀ d : Fin 64, (Fin.natAdd 64 d).val / 64 = 1 := fun d => h1 d
  simp only [e0, e1]
  fin_cases p
  · simp only [Fin.zero_eta, Fin.val_zero, if_true, one_ne_zero, if_false, Finset.sum_const_zero, add_zero]
    exact Finset.sum_congr rfl fun d _ => congrArg f (Fin.ext (by simp))
  · simp only [Fin.mk_one, Fin.val_one, zero_ne_one, if_true, if_false, Finset.sum_const_zero, zero_add]
    exact Finset.sum_congr rfl fun d _ => congrArg f (Fin.ext (by simp [add_comm]))

/-! ## One block -/

theorem keysTo_succ_skip (g : Fin 32 → ℝ) (own : Fin 32) (x : Fin 256) (n : Fin 32) (h : ¬ (n < own ∧ rank (gates own g) n < 3)) :
    keysTo g own x (n.val + 1) = keysTo g own x n.val := by
  ext p
  simp only [keysTo, Finset.mem_filter, Finset.mem_univ, true_and]
  constructor
  · rintro (k | ⟨h1, h2, h3⟩)
    · exact .inl k
    · refine .inr ⟨h1, ?_, h3⟩
      by_contra hh
      have : p.1 = n := Fin.ext (by omega)
      exact h (this ▸ ⟨h1, h3⟩)
  · rintro (k | ⟨h1, h2, h3⟩)
    · exact .inl k
    · exact .inr ⟨h1, by omega, h3⟩

theorem keysTo_succ_join (g : Fin 32 → ℝ) (own : Fin 32) (x : Fin 256) (n : Fin 32) (h : n < own ∧ rank (gates own g) n < 3) :
    keysTo g own x (n.val + 1) = keysTo g own x n.val ∪ Finset.univ.image (fun kk : Fin 256 => ((n, kk) : Key)) := by
  ext p
  simp only [keysTo, Finset.mem_filter, Finset.mem_univ, true_and, Finset.mem_union, Finset.mem_image]
  constructor
  · rintro (k | ⟨h1, h2, h3⟩)
    · exact .inl (.inl k)
    · by_cases e : p.1 = n
      · exact .inr ⟨p.2, by rw [← e]⟩
      · exact .inl (.inr ⟨h1, by have : p.1.val ≠ n.val := fun k => e (Fin.ext k); omega, h3⟩)
  · rintro ((k | ⟨h1, h2, h3⟩) | ⟨kk, rfl⟩)
    · exact .inl k
    · exact .inr ⟨h1, by omega, h3⟩
    · exact .inr ⟨h.1, Nat.lt_succ_self _, h.2⟩

theorem block_step {S : Key → ℝ} {V : Fin 64 → Key → EReal} (g : Fin 32 → ℝ) (own : Fin 32) (x : Fin 256) (n : Fin 32)
    (ch : IVec S1x256 1) (m l : FVec Ideal S1x256 .f32) (a : FVec Ideal S64x256 .f32) (s : FVec Ideal S256x256 .f32) (vt : FVec Ideal S64x256 .bf16)
    (h : Onl S V (keysTo g own x n.val) (m (ix2 0 x)) (l (ix2 0 x)) (fun d => a (ix2 d x)))
    (hs : ∀ kk, s (ix2 kk x) = (S (n, kk) : EReal)) (hv : ∀ d kk, vt (ix2 d kk) = V d (n, kk))
    (hch : ch (ix2 0 x) = 1#1 ↔ (n < own ∧ rank (gates own g) n < 3)) :
    Onl S V (keysTo g own x (n.val + 1)) (mV ch m s (ix2 0 x)) (lV ch m l s (ix2 0 x)) (fun d => aV ch m a s vt (ix2 d x)) := by
  by_cases hc : n < own ∧ rank (gates own g) n < 3
  · have hc' := hch.mpr hc
    rw [keysTo_succ_join g own x n hc]
    have hm : mV ch m s (ix2 0 x) = mallV m s (ix2 0 x) := by rw [mV_apply, if_pos hc']
    have hmall : mallV m s (ix2 0 x) = max (m (ix2 0 x)) (Finset.univ.fold max ⊥ fun kk => (S (n, kk) : EReal)) := by
      rw [mallV_apply]; simp only [hs]
    refine h.join (fun kk => ((n, kk) : Key)) (fun a b hab => (Prod.mk.inj hab).2) (fun kk hk => ?_) _ _ _ (hm.trans hmall) ?_ fun d => ?_
    · simp only [keysTo, Finset.mem_filter, Finset.mem_univ, true_and] at hk
      rcases hk with ⟨k, -⟩ | ⟨-, k, -⟩
      · exact absurd k hc.1.ne
      · exact lt_irrefl _ k
    · rw [lV_apply, if_pos hc', alphaV_apply, hm]
      simp only [pV_apply, hs]
    · show aV ch m a s vt (ix2 d x) = _
      rw [aV_apply, if_pos hc', alphaV_apply, hm]
      simp only [pV_apply, hs, hv]
  · have hc' : ¬ ch (ix2 0 x) = 1#1 := fun k => hc (hch.mp k)
    rw [keysTo_succ_skip g own x n hc]
    have hm : mV ch m s (ix2 0 x) = m (ix2 0 x) := by rw [mV_apply, if_neg hc']
    rw [hm]
    refine h.skip _ _ ?_ fun d => ?_
    · rw [lV_apply, if_neg hc', alphaV_apply, hm]
    · show aV ch m a s vt (ix2 d x) = _
      rw [aV_apply, if_neg hc', alphaV_apply, hm]

theorem own_start {S : Key → ℝ} {V : Fin 64 → Key → EReal} (g : Fin 32 → ℝ) (own : Fin 32) (x : Fin 256)
    (ch : IVec S1x256 1) (m l : FVec Ideal S1x256 .f32) (a : FVec Ideal S64x256 .f32) (s : FVec Ideal S256x256 .f32) (vt : FVec Ideal S64x256 .bf16)
    (hm0 : m (ix2 0 x) = ⊥) (hl0 : l (ix2 0 x) = 0) (ha0 : ∀ d, a (ix2 d x) = 0) (hch : ch (ix2 0 x) = 1#1)
    (hs : ∀ kk, s (ix2 kk x) = if kk ≤ x then (S (own, kk) : EReal) else ⊥) (hv : ∀ d kk, vt (ix2 d kk) = V d (own, kk)) :
    Onl S V (keysTo g own x 0) (mV ch m s (ix2 0 x)) (lV ch m l s (ix2 0 x)) (fun d => aV ch m a s vt (ix2 d x)) := by
  have hk : keysTo g own x 0 = (Finset.univ.filter fun kk : Fin 256 => kk ≤ x).image (fun kk => ((own, kk) : Key)) := by
    ext p
    simp only [keysTo, Finset.mem_filter, Finset.mem_univ, true_and, Finset.mem_image]
    constructor
    · rintro (⟨h1, h2⟩ | ⟨-, h2, -⟩)
      · exact ⟨p.2, h2, by rw [← h1]⟩
      · omega
    · rintro ⟨kk, h1, rfl⟩
      exact .inl ⟨rfl, h1⟩
  have hm : mV ch m s (ix2 0 x) = mallV m s (ix2 0 x) := by rw [mV_apply, if_pos hch]
  rw [hk]
  refine Onl.start S V (fun kk => ((own, kk) : Key)) (fun a b hab => (Prod.mk.inj hab).2) (fun kk => kk ≤ x) x le_rfl (fun kk => s (ix2 kk x)) hs _ _ _ ?_ ?_ fun d => ?_
  · rw [hm, mallV_apply, hm0]
  · rw [lV_apply, if_pos hch, alphaV_apply, hm, hm0, hl0]
    simp only [pV_apply]
  · show aV ch m a s vt (ix2 d x) = _
    rw [aV_apply, if_pos hch, alphaV_apply, hm, hm0, ha0]
    simp only [pV_apply, hv]

/-! ## Scores -/

theorem score_sum (X3 : S1x256x256.Idx → ℝ) (X4 : S1x8192x256.Idx → ℝ) (h : Fin 4) (x : Fin 256) (p : Key) (k q : Fin 128 → EReal)
    (hk : ∀ r, k r = (X4 (ix3 0 ⟨256 * p.1.val + p.2.val, by omega⟩ ⟨128 * (h.val / 2) + r.val, by omega⟩) : EReal))
    (hq : ∀ r, q r = (if r.val / 64 = h.val % 2 then (X3 (ix3 0 ⟨128 * (h.val / 2) + r.val, by omega⟩ x) : EReal) else 0) * (sc2 : EReal)) :
    ∑ r, k r * q r = (scoreK X3 X4 h x p : EReal) := by
  have e : ∀ r : Fin 128, k r * q r = if r.val / 64 = (⟨h.val % 2, by omega⟩ : Fin 2).val then
      ((X4 (ix3 0 ⟨256 * p.1.val + p.2.val, by omega⟩ ⟨128 * (h.val / 2) + r.val, by omega⟩) * (X3 (ix3 0 ⟨128 * (h.val / 2) + r.val, by omega⟩ x) * sc2) : ℝ) : EReal) else 0 := by
    intro r
    rw [hk, hq]
    show _ = if r.val / 64 = h.val % 2 then _ else _
    split
    · rw [EReal.coe_mul, EReal.coe_mul]
    · rw [zero_mul, mul_zero]
  rw [Finset.sum_congr rfl fun r _ => e r, half_sum, scoreK, coe_sum]
  refine Finset.sum_congr rfl fun d _ => ?_
  have ed : (⟨128 * (h.val / 2) + (64 * (h.val % 2) + d.val), by omega⟩ : Fin 256) = ⟨64 * h.val + d.val, by omega⟩ := Fin.ext (by show 128 * (h.val / 2) + (64 * (h.val % 2) + d.val) = 64 * h.val + d.val; omega)
  show ((X4 (ix3 0 _ ⟨128 * (h.val / 2) + (64 * (h.val % 2) + d.val), _⟩) * (X3 (ix3 0 ⟨128 * (h.val / 2) + (64 * (h.val % 2) + d.val), _⟩ x) * sc2) : ℝ) : EReal) = _
  rw [ed]

theorem sel_iff (own : Fin 32) (g : Fin 32 → ℝ) (n : Fin 32) (v : EReal) (b : BitVec 1) (hb : b = 1#1 ↔ n < own) (hv : v = if n < own ∧ rank (gates own g) n < 3 then 1 else 0) :
    (if ((1/2 : ℝ) : EReal) < v ∧ b = 1#1 then 1#1 else 0#1) = 1#1 ↔ (n < own ∧ rank (gates own g) n < 3) := by
  have h1 : ((1/2 : ℝ) : EReal) < 1 := by rw [← EReal.coe_one]; exact EReal.coe_lt_coe_iff.mpr (by norm_num)
  have h0 : ¬ ((1/2 : ℝ) : EReal) < 0 := by rw [← EReal.coe_zero, EReal.coe_lt_coe_iff]; norm_num
  by_cases hc : n < own ∧ rank (gates own g) n < 3
  · rw [if_pos hc] at hv
    rw [if_pos ⟨hv ▸ h1, hb.mpr hc.1⟩]; simp [hc]
  · rw [if_neg hc] at hv
    rw [if_neg fun k => h0 (hv ▸ k.1)]; simp [hc]

/-! ## A step's contents -/

theorem St_congr {c : Dev nD} {arg10 arg11 : Memref sig .tc .vmem S4x1x256 .f32} {arg12 : Memref sig .tc .vmem S4x64x256 .f32}
    {arg14 arg15 : Memref sig .tc .vmem S4x512x256 .f32} {m m' : Bf (F := Ideal) c arg10} {l l' : Bf (F := Ideal) c arg11} {a a' : Bf (F := Ideal) c arg12}
    {e e' : Bf (F := Ideal) c arg14} {o o' : Bf (F := Ideal) c arg15} (hm : m = m') (hl : l = l') (ha : a = a') (he : e = e') (ho : o = o') :
    (⟨m, l, a, e, o⟩ : St Ideal c arg10 arg11 arg12 arg14 arg15) = ⟨m', l', a', e', o'⟩ := by
  subst hm hl ha he ho; rfl

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
variable (v654 : IVec S1x256 1) (v665 : FVec Ideal S1x256 .f32) (v688 : FVec Ideal S64x256 .f32)
variable (k : Fin (k0_t1_loop i).trips) (f4 : Bf (F := Ideal) c arg4) (f5 : Bf (F := Ideal) c arg5) (f8 : Bf (F := Ideal) c arg8) (f9 : Bf (F := Ideal) c arg9) (s : St Ideal c arg10 arg11 arg12 arg14 arg15)

theorem stepE_eq (hc : k0_cond1 i k = 1#1) :
    step c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 k s
      = ⟨arg10.view.writes (Elt Ideal) s.m (mTop arg10.view (chE1 c i arg9 arg2 k hc f9) (sRd arg14.view s.e 1) (m4 arg10.view s.m (chE0 c i arg9 arg2 k hc f9) (sRd arg14.view s.e 0))),
        arg11.view.writes (Elt Ideal) s.l (lTop arg10.view arg11.view (chE1 c i arg9 arg2 k hc f9) (sRd arg14.view s.e 1) (m4 arg10.view s.m (chE0 c i arg9 arg2 k hc f9) (sRd arg14.view s.e 0)) (l4 arg10.view arg11.view s.m s.l (chE0 c i arg9 arg2 k hc f9) (sRd arg14.view s.e 0))),
        arg12.view.writes (Elt Ideal) s.a (aTop arg10.view arg12.view (chE1 c i arg9 arg2 k hc f9) (sRd arg14.view s.e 1) (vtH (vtE1 c i arg5 k hc f5)) (m4 arg10.view s.m (chE0 c i arg9 arg2 k hc f9) (sRd arg14.view s.e 0)) (a4 arg10.view arg12.view s.m s.a (chE0 c i arg9 arg2 k hc f9) (sRd arg14.view s.e 0) (vtH (vtE0 c i arg5 k hc f5)))),
        s.e,
        arg15.view.writes (Elt Ideal) arg15.view.junk (s4 (scH (kbE c i arg4 k hc f4) (qRd arg8.view f8)))⟩ := by
  unfold step
  rw [dif_pos hc]
  exact St_congr (congrArg (arg10.view.writes (Elt Ideal) s.m) (mE_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e)) (congrArg (arg11.view.writes (Elt Ideal) s.l) (lE_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e))
    (congrArg (arg12.view.writes (Elt Ideal) s.a) (aE_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e)) rfl (congrArg (arg15.view.writes (Elt Ideal) arg15.view.junk) (scE_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.e))

theorem stepO_eq (hc : ¬ k0_cond1 i k = 1#1) :
    step c i arg3 harg3 arg4 harg4 arg5 harg5 arg6 harg6 arg7 harg7 arg8 harg8 arg9 harg9 arg10 harg10 arg11 harg11 arg12 harg12 arg13 harg13 arg14 harg14 arg15 harg15 arg2 v654 v665 v688 f4 f5 f8 f9 k s
      = ⟨arg10.view.writes (Elt Ideal) s.m (mTop arg10.view (chO1 c i arg9 arg2 k hc f9) (sRd arg15.view s.o 1) (m4 arg10.view s.m (chO0 c i arg9 arg2 k hc f9) (sRd arg15.view s.o 0))),
        arg11.view.writes (Elt Ideal) s.l (lTop arg10.view arg11.view (chO1 c i arg9 arg2 k hc f9) (sRd arg15.view s.o 1) (m4 arg10.view s.m (chO0 c i arg9 arg2 k hc f9) (sRd arg15.view s.o 0)) (l4 arg10.view arg11.view s.m s.l (chO0 c i arg9 arg2 k hc f9) (sRd arg15.view s.o 0))),
        arg12.view.writes (Elt Ideal) s.a (aTop arg10.view arg12.view (chO1 c i arg9 arg2 k hc f9) (sRd arg15.view s.o 1) (vtH (vtO1 c i arg5 k hc f5)) (m4 arg10.view s.m (chO0 c i arg9 arg2 k hc f9) (sRd arg15.view s.o 0)) (a4 arg10.view arg12.view s.m s.a (chO0 c i arg9 arg2 k hc f9) (sRd arg15.view s.o 0) (vtH (vtO0 c i arg5 k hc f5)))),
        arg14.view.writes (Elt Ideal) arg14.view.junk (s4 (scH (kbO c i arg4 k hc f4) (qRd arg8.view f8))),
        s.o⟩ := by
  unfold step
  rw [dif_neg hc]
  exact St_congr (congrArg (arg10.view.writes (Elt Ideal) s.m) (mO_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o)) (congrArg (arg11.view.writes (Elt Ideal) s.l) (lO_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o))
    (congrArg (arg12.view.writes (Elt Ideal) s.a) (aO_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o)) (congrArg (arg14.view.writes (Elt Ideal) arg14.view.junk) (scO_eq c i arg3 harg3 arg4 harg4 arg5 harg5 arg6 harg6 arg7 harg7 arg8 harg8 arg9 harg9 arg10 harg10 arg11 harg11 arg12 harg12 arg13 harg13 arg14 harg14 arg15 harg15 arg2 v654 v665 v688 k hc f4 f5 f8 f9 s.m s.l s.a s.o)) rfl

end

/-! ## One step -/

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole) (arg8 : Memref sig .tc .vmem S4x128x256 .bf16) (harg8 : arg8.IsWhole) (arg9 : Memref sig .tc .vmem S4x32x256 .f32) (harg9 : arg9.IsWhole) (arg10 : Memref sig .tc .vmem S4x1x256 .f32) (harg10 : arg10.IsWhole) (arg11 : Memref sig .tc .vmem S4x1x256 .f32) (harg11 : arg11.IsWhole) (arg12 : Memref sig .tc .vmem S4x64x256 .f32) (harg12 : arg12.IsWhole) (arg13 : Memref sig .tc .vmem S4x256x256 .f32) (harg13 : arg13.IsWhole) (arg14 : Memref sig .tc .vmem S4x512x256 .f32) (harg14 : arg14.IsWhole) (arg15 : Memref sig .tc .vmem S4x512x256 .f32) (harg15 : arg15.IsWhole) (arg2 : BitVec 32)
variable (v654 : IVec S1x256 1) (v665 : FVec Ideal S1x256 .f32) (v688 : FVec Ideal S64x256 .f32)
variable (X3 : S1x256x256.Idx → ℝ) (X4 : S1x8192x256.Idx → ℝ) (x5 : Vec Ideal S1x32x256x256 .bf16) (g : Fin 32 → ℝ)
variable (k : Fin (k0_t1_loop i).trips) (f8 : Bf (F := Ideal) c arg8) (f9 : Bf (F := Ideal) c arg9) (s : St Ideal c arg10 arg11 arg12 arg14 arg15) (h : Fin 4) (x : Fin 256)

/-- What the loop has before step `n`, for one head and one query. -/
structure Holds (n : ℕ) (s : St Ideal c arg10 arg11 arg12 arg14 arg15) : Prop where
  onl : Onl (scoreK X3 X4 h x) (valK x5 h) (keysTo g (i 2) x (2 * n)) (rowM (arg10.view.read (Elt Ideal) s.m) h (ix2 0 x))
    (rowM (arg11.view.read (Elt Ideal) s.l) h (ix2 0 x)) (fun d => rowA (arg12.view.read (Elt Ideal) s.a) h (ix2 d x))
  even : n % 2 = 0 → ∀ (hn : n < 16) (kk : Fin 512), arg14.view.read (Elt Ideal) s.e (ix3 h kk x) = (scoreK X3 X4 h x (⟨2 * n + kk.val / 256, by omega⟩, ⟨kk.val % 256, by omega⟩) : EReal)
  odd : n % 2 = 1 → ∀ (hn : n < 16) (kk : Fin 512), arg15.view.read (Elt Ideal) s.o (ix3 h kk x) = (scoreK X3 X4 h x (⟨2 * n + kk.val / 256, by omega⟩, ⟨kk.val % 256, by omega⟩) : EReal)

theorem step_even (hc : k0_cond1 i k = 1#1) (hh : Holds c i arg10 arg11 arg12 arg14 arg15 X3 X4 x5 g h x k.val s)
    (hq : ∀ r : Fin 128, qRd arg8.view f8 h (ix2 r x) = (if r.val / 64 = h.val % 2 then (X3 (ix3 0 ⟨128 * (h.val / 2) + r.val, by omega⟩ x) : EReal) else 0) * (sc2 : EReal))
    (hsel : ∀ n : Fin 32, arg9.view.read (Elt Ideal) f9 (ix3 h n x) = if n < i 2 ∧ rank (gates (i 2) g) n < 3 then 1 else 0) :
    Holds c i arg10 arg11 arg12 arg14 arg15 X3 X4 x5 g h x (k.val + 1) (step c i arg3 harg3 arg4 harg4 arg5 harg5 arg6 harg6 arg7 harg7 arg8 harg8 arg9 harg9 arg10 harg10 arg11 harg11 arg12 harg12 arg13 harg13 arg14 harg14 arg15 harg15 (w2 i) v654 v665 v688 (harg4.unread fun j => (X4 j : EReal)) (harg5.unread x5) f8 f9 k s) := by
  have hk16 := k_lt i k
  have hpar : k.val % 2 = 0 := by
    have := cond_iff i k
    exact this.mp hc

  have hs0 : ∀ kk, sRd arg14.view s.e 0 h (ix2 kk x) = (scoreK X3 X4 h x (⟨2 * k.val, by omega⟩, kk) : EReal) := fun kk => by
    rw [sRd_apply]
    refine (hh.even hpar hk16 ⟨256 * (0 : Fin 2).val + kk.val, by show 256 * 0 + kk.val < 512; omega⟩).trans ?_
    congr 3 <;> refine Fin.ext ?_
    · show 2 * k.val + (256 * 0 + kk.val) / 256 = 2 * k.val; omega
    · show (256 * 0 + kk.val) % 256 = kk.val; omega
  have hs1 : ∀ kk, sRd arg14.view s.e 1 h (ix2 kk x) = (scoreK X3 X4 h x (⟨2 * k.val + 1, by omega⟩, kk) : EReal) := fun kk => by
    rw [sRd_apply]
    refine (hh.even hpar hk16 ⟨256 * (1 : Fin 2).val + kk.val, by show 256 * 1 + kk.val < 512; omega⟩).trans ?_
    congr 3 <;> refine Fin.ext ?_
    · show 2 * k.val + (256 * 1 + kk.val) / 256 = 2 * k.val + 1; omega
    · show (256 * 1 + kk.val) % 256 = kk.val; omega
  have hv0 : ∀ d kk, vtH (vtE0 c i arg5 k hc (harg5.unread x5)) h (ix2 d kk) = valK x5 h d (⟨2 * k.val, by omega⟩, kk) := fun d kk => by
    rw [vtH_apply, vtE0_apply]; exact congrFun (harg5.read_unread x5) _
  have hv1 : ∀ d kk, vtH (vtE1 c i arg5 k hc (harg5.unread x5)) h (ix2 d kk) = valK x5 h d (⟨2 * k.val + 1, by omega⟩, kk) := fun d kk => by
    rw [vtH_apply, vtE1_apply]; exact congrFun (harg5.read_unread x5) _
  have hc0 : chE0 c i arg9 (w2 i) k hc f9 h (ix2 0 x) = 1#1 ↔ ((⟨2 * k.val, by omega⟩ : Fin 32) < i 2 ∧ rank (gates (i 2) g) ⟨2 * k.val, by omega⟩ < 3) := by
    rw [chE0, chV_apply]
    exact sel_iff (i 2) g _ _ _ (slt0 ⟨k.val, hk16⟩ (i 2)) ((selE0_apply c i arg9 k f9 hc h x).trans (hsel _))
  have hc1 : chE1 c i arg9 (w2 i) k hc f9 h (ix2 0 x) = 1#1 ↔ ((⟨2 * k.val + 1, by omega⟩ : Fin 32) < i 2 ∧ rank (gates (i 2) g) ⟨2 * k.val + 1, by omega⟩ < 3) := by
    rw [chE1, chV_apply]
    exact sel_iff (i 2) g _ _ _ (slt1 ⟨k.val, hk16⟩ (i 2)) ((selE1_apply c i arg9 k f9 hc h x).trans (hsel _))
  have b0 := block_step g (i 2) x ⟨2 * k.val, by omega⟩ (chE0 c i arg9 (w2 i) k hc f9 h) _ _ _ (sRd arg14.view s.e 0 h) (vtH (vtE0 c i arg5 k hc (harg5.unread x5)) h) hh.onl hs0 hv0 hc0
  have b1 := block_step g (i 2) x ⟨2 * k.val + 1, by omega⟩ (chE1 c i arg9 (w2 i) k hc f9 h) _ _ _ (sRd arg14.view s.e 1 h) (vtH (vtE1 c i arg5 k hc (harg5.unread x5)) h) b0 hs1 hv1 hc1
  rw [stepE_eq c i arg3 harg3 arg4 harg4 arg5 harg5 arg6 harg6 arg7 harg7 arg8 harg8 arg9 harg9 arg10 harg10 arg11 harg11 arg12 harg12 arg13 harg13 arg14 harg14 arg15 harg15 (w2 i) v654 v665 v688 k _ _ f8 f9 s hc]
  refine ⟨?_, fun hp => ?_, fun hp => ?_⟩
  · rw [mTop_row, lTop_row, aTop_row, m4_row, l4_row, a4_row]
    exact b1
  · exact absurd hp (by omega)
  · intro hn kk
    rw [s4_row, scH_apply]
    refine score_sum X3 X4 h x (⟨2 * (k.val + 1) + kk.val / 256, by omega⟩, ⟨kk.val % 256, by omega⟩) _ _ (fun r => ?_) hq
    rw [kbE_apply]
    refine (congrFun (harg4.read_unread _) _).trans (congrArg (fun t : Fin 8192 => (X4 (ix3 0 t _) : EReal)) (Fin.ext ?_))
    show 256 * min (2 * k.val + 2) 30 + kk.val = 256 * (2 * (k.val + 1) + kk.val / 256) + kk.val % 256
    omega

theorem step_odd (hc : ¬ k0_cond1 i k = 1#1) (hh : Holds c i arg10 arg11 arg12 arg14 arg15 X3 X4 x5 g h x k.val s)
    (hq : ∀ r : Fin 128, qRd arg8.view f8 h (ix2 r x) = (if r.val / 64 = h.val % 2 then (X3 (ix3 0 ⟨128 * (h.val / 2) + r.val, by omega⟩ x) : EReal) else 0) * (sc2 : EReal))
    (hsel : ∀ n : Fin 32, arg9.view.read (Elt Ideal) f9 (ix3 h n x) = if n < i 2 ∧ rank (gates (i 2) g) n < 3 then 1 else 0) :
    Holds c i arg10 arg11 arg12 arg14 arg15 X3 X4 x5 g h x (k.val + 1) (step c i arg3 harg3 arg4 harg4 arg5 harg5 arg6 harg6 arg7 harg7 arg8 harg8 arg9 harg9 arg10 harg10 arg11 harg11 arg12 harg12 arg13 harg13 arg14 harg14 arg15 harg15 (w2 i) v654 v665 v688 (harg4.unread fun j => (X4 j : EReal)) (harg5.unread x5) f8 f9 k s) := by
  have hk16 := k_lt i k
  have hpar : k.val % 2 = 1 := by
    have := cond_iff i k
    have h2 : ¬ k.val % 2 = 0 := fun e => hc (this.mpr e)
    omega
  have hs0 : ∀ kk, sRd arg15.view s.o 0 h (ix2 kk x) = (scoreK X3 X4 h x (⟨2 * k.val, by omega⟩, kk) : EReal) := fun kk => by
    rw [sRd_apply]
    refine (hh.odd hpar hk16 ⟨256 * (0 : Fin 2).val + kk.val, by show 256 * 0 + kk.val < 512; omega⟩).trans ?_
    congr 3 <;> refine Fin.ext ?_
    · show 2 * k.val + (256 * 0 + kk.val) / 256 = 2 * k.val; omega
    · show (256 * 0 + kk.val) % 256 = kk.val; omega
  have hs1 : ∀ kk, sRd arg15.view s.o 1 h (ix2 kk x) = (scoreK X3 X4 h x (⟨2 * k.val + 1, by omega⟩, kk) : EReal) := fun kk => by
    rw [sRd_apply]
    refine (hh.odd hpar hk16 ⟨256 * (1 : Fin 2).val + kk.val, by show 256 * 1 + kk.val < 512; omega⟩).trans ?_
    congr 3 <;> refine Fin.ext ?_
    · show 2 * k.val + (256 * 1 + kk.val) / 256 = 2 * k.val + 1; omega
    · show (256 * 1 + kk.val) % 256 = kk.val; omega
  have hv0 : ∀ d kk, vtH (vtO0 c i arg5 k hc (harg5.unread x5)) h (ix2 d kk) = valK x5 h d (⟨2 * k.val, by omega⟩, kk) := fun d kk => by
    rw [vtH_apply, vtO0_apply]; exact congrFun (harg5.read_unread x5) _
  have hv1 : ∀ d kk, vtH (vtO1 c i arg5 k hc (harg5.unread x5)) h (ix2 d kk) = valK x5 h d (⟨2 * k.val + 1, by omega⟩, kk) := fun d kk => by
    rw [vtH_apply, vtO1_apply]; exact congrFun (harg5.read_unread x5) _
  have hc0 : chO0 c i arg9 (w2 i) k hc f9 h (ix2 0 x) = 1#1 ↔ ((⟨2 * k.val, by omega⟩ : Fin 32) < i 2 ∧ rank (gates (i 2) g) ⟨2 * k.val, by omega⟩ < 3) := by
    rw [chO0, chV_apply]
    exact sel_iff (i 2) g _ _ _ (slt0 ⟨k.val, hk16⟩ (i 2)) ((selO0_apply c i arg9 k f9 hc h x).trans (hsel _))
  have hc1 : chO1 c i arg9 (w2 i) k hc f9 h (ix2 0 x) = 1#1 ↔ ((⟨2 * k.val + 1, by omega⟩ : Fin 32) < i 2 ∧ rank (gates (i 2) g) ⟨2 * k.val + 1, by omega⟩ < 3) := by
    rw [chO1, chV_apply]
    exact sel_iff (i 2) g _ _ _ (slt1 ⟨k.val, hk16⟩ (i 2)) ((selO1_apply c i arg9 k f9 hc h x).trans (hsel _))
  have b0 := block_step g (i 2) x ⟨2 * k.val, by omega⟩ (chO0 c i arg9 (w2 i) k hc f9 h) _ _ _ (sRd arg15.view s.o 0 h) (vtH (vtO0 c i arg5 k hc (harg5.unread x5)) h) hh.onl hs0 hv0 hc0
  have b1 := block_step g (i 2) x ⟨2 * k.val + 1, by omega⟩ (chO1 c i arg9 (w2 i) k hc f9 h) _ _ _ (sRd arg15.view s.o 1 h) (vtH (vtO1 c i arg5 k hc (harg5.unread x5)) h) b0 hs1 hv1 hc1
  rw [stepO_eq c i arg3 harg3 arg4 harg4 arg5 harg5 arg6 harg6 arg7 harg7 arg8 harg8 arg9 harg9 arg10 harg10 arg11 harg11 arg12 harg12 arg13 harg13 arg14 harg14 arg15 harg15 (w2 i) v654 v665 v688 k _ _ f8 f9 s hc]
  refine ⟨?_, fun hp => ?_, fun hp => ?_⟩
  · rw [mTop_row, lTop_row, aTop_row, m4_row, l4_row, a4_row]
    exact b1
  · intro hn kk
    rw [s4_row, scH_apply]
    refine score_sum X3 X4 h x (⟨2 * (k.val + 1) + kk.val / 256, by omega⟩, ⟨kk.val % 256, by omega⟩) _ _ (fun r => ?_) hq
    rw [kbO_apply]
    refine (congrFun (harg4.read_unread _) _).trans (congrArg (fun t : Fin 8192 => (X4 (ix3 0 t _) : EReal)) (Fin.ext ?_))
    show 256 * min (2 * k.val + 2) 30 + kk.val = 256 * (2 * (k.val + 1) + kk.val / 256) + kk.val % 256
    omega
  · exact absurd hp (by omega)

end

end Cert.Proof.Moba

end
-- ==== Proof.Out.lean ====
/- What the program's block of the result holds. -/
module

public import proofs.«01_k».proof.Proof.Inv

@[expose] public section

noncomputable section

namespace Cert.Proof.Moba

open Cert.KernelIdeal Cert.KernelIdeal.Gen
open Idealize.ShloMosaic Idealize.ShloMosaic.TcCoe

set_option maxRecDepth 16384

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole)
variable (X3 : S1x256x256.Idx → ℝ) (X4 : S1x8192x256.Idx → ℝ) (x5 : Vec Ideal S1x32x256x256 .bf16) (X6 : S1x32x256.Idx → ℝ) (h : Fin 4) (x : Fin 256)

theorem hpar_eq (h : Fin 4) : hpar h = BitVec.ofNat 32 (⟨h.val % 2, by omega⟩ : Fin 2).val := by fin_cases h <;> rfl

theorem qm_eq (r : Fin 128) : qm (hpar h) (q3 arg3 harg3 (fun j : S1x256x256.Idx => (X3 j : EReal)) h) (ix2 r x)
    = if r.val / 64 = h.val % 2 then (X3 (ix3 0 ⟨128 * (h.val / 2) + r.val, by omega⟩ x) : EReal) else 0 := by
  rw [qm_apply, hpar_eq, hmask_apply, q3_apply]
  show (if (if r.val / 64 = h.val % 2 then 1#1 else 0#1) = 1#1 then _ else _) = _
  by_cases hc : r.val / 64 = h.val % 2
  · rw [if_pos hc, if_pos hc, if_pos rfl]
  · rw [if_neg hc, if_neg hc, if_neg (by decide)]

theorem q_row (r : Fin 128) : qRd (Memref.whole cc0_scratch0).view (qtB arg3 harg3 (fun j : S1x256x256.Idx => (X3 j : EReal))) h (ix2 r x)
    = (if r.val / 64 = h.val % 2 then (X3 (ix3 0 ⟨128 * (h.val / 2) + r.val, by omega⟩ x) : EReal) else 0) * (sc2 : EReal) := by
  rw [qRd_apply, qtB, qt4_row, qth_apply, qm_eq, scale2_eq]
  rfl

theorem gate_row (n : Fin 32) : gate0 (qm (hpar h) (q3 arg3 harg3 (fun j : S1x256x256.Idx => (X3 j : EReal)) h)) (km6 arg6 harg6 (fun j : S1x32x256.Idx => (X6 j : EReal)) h) (ix2 n x) = (gateK X3 X6 h x n : EReal) := by
  rw [gate0_apply]
  simp only [km6_apply, qm_eq]
  have z1 : ∀ r : Fin 128, ((X6 (ix3 0 n ⟨128 * (h.val / 2) + r.val, by omega⟩) : EReal) - (X6 (ix3 0 n ⟨128 * (h.val / 2) + r.val, by omega⟩) : EReal)) = 0 := fun r => by
    rw [← EReal.coe_sub, sub_self, EReal.coe_zero]
  have z2 : ∀ r : Fin 128, ((if r.val / 64 = h.val % 2 then (X3 (ix3 0 ⟨128 * (h.val / 2) + r.val, by omega⟩ x) : EReal) else 0)
      - (if r.val / 64 = h.val % 2 then (X3 (ix3 0 ⟨128 * (h.val / 2) + r.val, by omega⟩ x) : EReal) else 0)) = 0 := fun r => by
    split
    · rw [← EReal.coe_sub, sub_self, EReal.coe_zero]
    · simp
  simp only [z1, z2, zero_mul, mul_zero, Finset.sum_const_zero, add_zero]
  have e : ∀ r : Fin 128, (X6 (ix3 0 n ⟨128 * (h.val / 2) + r.val, by omega⟩) : EReal) * (if r.val / 64 = h.val % 2 then (X3 (ix3 0 ⟨128 * (h.val / 2) + r.val, by omega⟩ x) : EReal) else 0)
      = if r.val / 64 = (⟨h.val % 2, by omega⟩ : Fin 2).val then
        ((X6 (ix3 0 n ⟨128 * (h.val / 2) + r.val, by omega⟩) * X3 (ix3 0 ⟨128 * (h.val / 2) + r.val, by omega⟩ x) : ℝ) : EReal) else 0 := by
    intro r
    show _ = if r.val / 64 = h.val % 2 then _ else _
    split
    · rw [EReal.coe_mul]
    · rw [mul_zero]
  rw [Finset.sum_congr rfl fun r _ => e r, half_sum, gateK, coe_sum]
  refine Finset.sum_congr rfl fun d _ => ?_
  have ed : (⟨128 * (h.val / 2) + (64 * (h.val % 2) + d.val), by omega⟩ : Fin 256) = ⟨64 * h.val + d.val, by omega⟩ := Fin.ext (by show 128 * (h.val / 2) + (64 * (h.val % 2) + d.val) = 64 * h.val + d.val; omega)
  show ((X6 (ix3 0 n ⟨128 * (h.val / 2) + (64 * (h.val % 2) + d.val), _⟩) * X3 (ix3 0 ⟨128 * (h.val / 2) + (64 * (h.val % 2) + d.val), _⟩ x) : ℝ) : EReal) = _
  rw [ed]

theorem past_row (n : Fin 32) : pastV (w2 i) (ix2 n x) = if n < i 2 then 1#1 else 0#1 := pastV_apply (i 2) n x

theorem gates_col (own : Fin 32) (g : Fin 32 → ℝ) (k : Fin 32) (b : BitVec 1) (hb : b = if k < own then 1#1 else 0#1) :
    (if b = 1#1 then (g k : EReal) else ⊥) = gates own g k := by
  unfold gates
  by_cases hc : k < own
  · rw [if_pos hc] at hb; rw [if_pos hb, if_pos hc]
  · rw [if_neg hc] at hb; rw [if_neg (by rw [hb]; decide), if_neg hc]

theorem sel_fin (own : Fin 32) (g : Fin 32 → ℝ) (n : Fin 32) (G : Fin 32 → EReal) (hG : G = gates own g) (b : BitVec 1) (hb : b = if n < own then 1#1 else 0#1) :
    (if (pick G n ∨ pick (drop G) n ∨ pick (drop (drop G)) n) ∧ b = 1#1 then 1 else 0 : EReal) = if n < own ∧ rank (gates own g) n < 3 then 1 else 0 := by
  subst hG
  by_cases hc : n < own
  · have hp := picks_iff (g := gates own g) (fun k => k < own) (gates_ne own _) n hc
    rw [if_pos hc] at hb
    simp only [hp, hc, hb, and_true, true_and]
  · rw [if_neg hc] at hb
    rw [if_neg fun k => absurd (hb.symm.trans k.2) (by decide), if_neg fun k => hc k.1]

theorem sel_row (n : Fin 32) : (Memref.whole cc0_scratch1).view.read (Elt Ideal) (selB i arg3 harg3 arg6 harg6 (fun j : S1x256x256.Idx => (X3 j : EReal)) (fun j : S1x32x256.Idx => (X6 j : EReal))) (ix3 h n x)
    = (if n < i 2 ∧ rank (gates (i 2) (gateK X3 X6 h x)) n < 3 then 1 else 0 : EReal) := by
  rw [selB, sel4_row, selV_apply]
  refine sel_fin (i 2) (gateK X3 X6 h x) n _ (funext fun k => ?_) _ (past_row i x n)
  refine Eq.trans ?_ (gates_col (i 2) (gateK X3 X6 h x) k _ (past_row i x k))
  rw [gateV_apply, gate_row]

theorem start_holds : Holds c i (Memref.whole cc0_scratch2) (Memref.whole cc0_scratch3) (Memref.whole cc0_scratch4) (Memref.whole cc0_scratch6) (Memref.whole cc0_scratch7) X3 X4 x5 (gateK X3 X6 h x) h x 0 (st0 c i arg3 harg3 arg4 harg4 arg5 harg5 (fun j : S1x256x256.Idx => (X3 j : EReal)) (fun j : S1x8192x256.Idx => (X4 j : EReal)) x5) := by
  refine ⟨?_, fun _ hn kk => ?_, fun hp => absurd hp (by decide)⟩
  · simp only [st0]
    rw [mTop_row, lTop_row, aTop_row, row4_row, row4_row, acc4_row]
    refine own_start (gateK X3 X6 h x) (i 2) x (ones h) _ _ _ (sOwn i arg3 harg3 arg4 harg4 (fun j : S1x256x256.Idx => (X3 j : EReal)) (fun j : S1x8192x256.Idx => (X4 j : EReal)) h) (vtH (vtOwn i arg5 harg5 x5) h) ?_ ?_ (fun d => ?_) rfl (fun kk => ?_) (fun d kk => ?_)
    · exact mask_eq
    · pointwise [zeroRow]
    · pointwise [zeroAcc]
    · rw [sOwn, ownV_apply, getO_apply, ownB, ow4_row, soH_apply]
      by_cases hc : kk ≤ x
      · rw [if_pos hc, if_pos hc]
        exact score_sum X3 X4 h x (i 2, kk) _ _ (fun r => kbOwn_apply i arg4 harg4 _ _ _) (q_row arg3 harg3 X3 h x)
      · rw [if_neg hc, if_neg hc]
    · rw [vtH_apply, vtOwn_apply]; rfl
  · simp only [st0]
    rw [s4_row, scH_apply]
    refine score_sum X3 X4 h x (⟨2 * 0 + kk.val / 256, by omega⟩, ⟨kk.val % 256, by omega⟩) _ _ (fun r => ?_) (q_row arg3 harg3 X3 h x)
    rw [kbEven_apply]
    refine congrArg (fun t : Fin 8192 => (X4 (ix3 0 t _) : EReal)) (Fin.ext ?_)
    show kk.val = 256 * (2 * 0 + kk.val / 256) + kk.val % 256
    omega

theorem stN_succ (x3 : Vec Ideal S1x256x256 .f32) (x4 : Vec Ideal S1x8192x256 .bf16) (x5 : Vec Ideal S1x32x256x256 .bf16) (x6 : Vec Ideal S1x32x256 .f32)
    (n : ℕ) (hn : n < (k0_t1_loop i).trips) :
    stN c i arg3 harg3 arg4 harg4 arg5 harg5 arg6 harg6 arg7 harg7 x3 x4 x5 x6 (n + 1)
      = step c i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (w2 i) u654 u665 u688 (harg4.unread x4) (harg5.unread x5) (qtB arg3 harg3 x3) (selB i arg3 harg3 arg6 harg6 x3 x6) ⟨n, hn⟩
        (stN c i arg3 harg3 arg4 harg4 arg5 harg5 arg6 harg6 arg7 harg7 x3 x4 x5 x6 n) := by
  unfold stN
  exact states_succ c i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (w2 i) u654 u665 u688 (harg4.unread x4) (harg5.unread x5) (qtB arg3 harg3 x3) (selB i arg3 harg3 arg6 harg6 x3 x6)
    (st0 c i arg3 harg3 arg4 harg4 arg5 harg5 x3 x4 x5) ⟨n, hn⟩

theorem holds (n : ℕ) (hn : n ≤ (k0_t1_loop i).trips) :
    Holds c i (Memref.whole cc0_scratch2) (Memref.whole cc0_scratch3) (Memref.whole cc0_scratch4) (Memref.whole cc0_scratch6) (Memref.whole cc0_scratch7) X3 X4 x5 (gateK X3 X6 h x) h x n (stN c i arg3 harg3 arg4 harg4 arg5 harg5 arg6 harg6 arg7 harg7 (fun j : S1x256x256.Idx => (X3 j : EReal)) (fun j : S1x8192x256.Idx => (X4 j : EReal)) x5 (fun j : S1x32x256.Idx => (X6 j : EReal)) n) := by
  induction n with
  | zero => exact start_holds c i arg3 harg3 arg4 harg4 arg5 harg5 X3 X4 x5 X6 h x
  | succ n ih =>
    have hk := ih (by omega)
    rw [stN_succ c i arg3 harg3 arg4 harg4 arg5 harg5 arg6 harg6 arg7 harg7 (fun j : S1x256x256.Idx => (X3 j : EReal)) (fun j : S1x8192x256.Idx => (X4 j : EReal)) x5 (fun j : S1x32x256.Idx => (X6 j : EReal)) n (by omega)]
    by_cases hc : k0_cond1 i ⟨n, by omega⟩ = 1#1
    · exact step_even c i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) u654 u665 u688 X3 X4 x5 (gateK X3 X6 h x) ⟨n, by omega⟩ _ _ _ h x hc hk (q_row arg3 harg3 X3 h x) (sel_row i arg3 harg3 arg6 harg6 X3 X6 h x)
    · exact step_odd c i arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) u654 u665 u688 X3 X4 x5 (gateK X3 X6 h x) ⟨n, by omega⟩ _ _ _ h x hc hk (q_row arg3 harg3 X3 h x) (sel_row i arg3 harg3 arg6 harg6 X3 X6 h x)

/-- The keys a query reads. -/
def keys (g : Fin 32 → ℝ) (own : Fin 32) (x : Fin 256) : Finset Key :=
  Finset.univ.filter fun p => (p.1 = own ∧ p.2 ≤ x) ∨ (p.1 < own ∧ rank (gates own g) p.1 < 3)

theorem keysTo_all (g : Fin 32 → ℝ) (own : Fin 32) (x : Fin 256) (j : ℕ) (hj : own.val ≤ j) : keysTo g own x j = keys g own x := by
  ext p
  simp only [keysTo, keys, Finset.mem_filter, Finset.mem_univ, true_and]
  constructor
  · rintro (k | ⟨h1, -, h3⟩)
    · exact .inl k
    · exact .inr ⟨h1, h3⟩
  · rintro (k | ⟨h1, h3⟩)
    · exact .inl k
    · exact .inr ⟨h1, by have : p.1.val < own.val := h1; omega, h3⟩

theorem own_mem (g : Fin 32 → ℝ) (own : Fin 32) (x : Fin 256) : ((own, x) : Key) ∈ keys g own x :=
  Finset.mem_filter.mpr ⟨Finset.mem_univ _, .inl ⟨rfl, le_rfl⟩⟩

/-- One entry of the block of the result. -/
theorem out_entry (d : Fin 64) :
    outV (getA (Memref.whole cc0_scratch4).view (stN c i arg3 harg3 arg4 harg4 arg5 harg5 arg6 harg6 arg7 harg7 (fun j : S1x256x256.Idx => (X3 j : EReal)) (fun j : S1x8192x256.Idx => (X4 j : EReal)) x5 (fun j : S1x32x256.Idx => (X6 j : EReal)) (k0_t1_loop i).trips).a)
        (getM (Memref.whole cc0_scratch3).view (stN c i arg3 harg3 arg4 harg4 arg5 harg5 arg6 harg6 arg7 harg7 (fun j : S1x256x256.Idx => (X3 j : EReal)) (fun j : S1x8192x256.Idx => (X4 j : EReal)) x5 (fun j : S1x32x256.Idx => (X6 j : EReal)) (k0_t1_loop i).trips).l)
        (ix3 0 x ⟨64 * h.val + d.val, by omega⟩)
      = ∑ p ∈ keys (gateK X3 X6 h x) (i 2) x, valK x5 h d p * (wgt (scoreK X3 X4 h x) (keys (gateK X3 X6 h x) (i 2) x) p : EReal) := by
  have hh := (holds c i arg3 harg3 arg4 harg4 arg5 harg5 arg6 harg6 arg7 harg7 X3 X4 x5 X6 h x _ le_rfl).onl
  rw [keysTo_all _ (i 2) x _ (by rw [trips_eq]; show (i 2).val ≤ 2 * (((i 2).val + 1) / 2); omega)] at hh
  rw [outV_apply, getA_eq, getM_eq]
  exact hh.out (i 2, x) (own_mem _ (i 2) x) d

end

end Cert.Proof.Moba

end
-- ==== Proof.Spec.lean ====
/- What the call computes, written over the arrays of queries, keys and values. -/
module

public import proofs.«01_k».proof.Proof.Out

@[expose] public section

noncomputable section

namespace Cert.Proof.Moba

open Idealize.ShloMosaic

/-- The position in the sequence of key `p.2` of block `p.1`. -/
def posOf (p : Key) : Fin 8192 := ⟨256 * p.1.val + p.2.val, by have := p.1.isLt; have := p.2.isLt; omega⟩
/-- The block a position lies in. -/
def blkOf (t : Fin 8192) : Fin 32 := ⟨t.val / 256, by have := t.isLt; omega⟩
/-- The place of a position inside its block. -/
def inOf (t : Fin 8192) : Fin 256 := ⟨t.val % 256, by omega⟩

/-- The score of a key, in powers of two. -/
def spScore (Q K : Fin 2 → Fin 8192 → Fin 16 → Fin 64 → ℝ) (b : Fin 2) (t : Fin 8192) (H : Fin 16) (p : Key) : ℝ :=
  ∑ d : Fin 64, K b (posOf p) H d * (Q b t H d * sc2)
/-- The gate of a block: the query against the mean of the block's keys. -/
def spGate (Q K : Fin 2 → Fin 8192 → Fin 16 → Fin 64 → ℝ) (b : Fin 2) (t : Fin 8192) (H : Fin 16) (n : Fin 32) : ℝ :=
  ∑ d : Fin 64, ((∑ kk : Fin 256, K b (posOf (n, kk)) H d) * (1 / 256)) * Q b t H d
/-- The keys a query attends to. -/
def spKeys (Q K : Fin 2 → Fin 8192 → Fin 16 → Fin 64 → ℝ) (b : Fin 2) (t : Fin 8192) (H : Fin 16) : Finset Key :=
  keys (spGate Q K b t H) (blkOf t) (inOf t)
/-- The result. -/
def spOut (Q K : Fin 2 → Fin 8192 → Fin 16 → Fin 64 → ℝ) (V : Fin 2 → Fin 8192 → Fin 16 → Fin 64 → EReal)
    (b : Fin 2) (t : Fin 8192) (H : Fin 16) (d : Fin 64) : EReal :=
  ∑ p ∈ spKeys Q K b t H, V b (posOf p) H d * (wgt (spScore Q K b t H) (spKeys Q K b t H) p : EReal)

end Cert.Proof.Moba
-- ==== Proof.RefVals.lean ====
/- The stages of the reference, entry by entry. -/
module

public import proofs.«01_k».proof.Proof.RefStages
public import proofs.«01_k».proof.Proof.Spec

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic

variable (b : Fin 2) (t : Fin 8192) (H : Fin 16) (n : Fin 32) (kk : Fin 256) (d : Fin 64) (j : Fin 4) (j3 : Fin 3)

theorem wbot : Ideal.ofBits FTy.f32 4286578688#32 = (⊥ : EReal) := by
  simp [Ideal.ofBits, Ideal.ieee]
theorem w8 : Ideal.ofBits FTy.f32 1040187392#32 = ((1 / 8 : ℝ) : EReal) := by
  simp [Ideal.ofBits, Ideal.ieee, -EReal.coe_mul]
  norm_num
theorem w256 : Ideal.ofBits FTy.f32 1132462080#32 = ((256 : ℝ) : EReal) := by
  simp [Ideal.ofBits, Ideal.ieee, -EReal.coe_mul]
  norm_num

theorem rBlk_apply (x) : rBlk x (ix5 b H n kk d) = x (ix4 b (Moba.posOf (n, kk)) H d) := by
  pointwise [rBlk]
  congr 2
  exact Fin.ext (by simp only [Moba.posOf]; omega)
theorem rMean_apply (kb) : rMean kb (ix4 b H n d) = Ideal.div (∑ x : Fin 256, (kb (ix5 b H n x d) : EReal)) ((256 : ℝ) : EReal) := by
  pointwise [rMean]
  rw [w256]
theorem rGate_apply (own km q) : rGate own km q (ix4 b t H n)
    = Scalar.select (IntOp.cmpi .slt (BitVec.ofNat 32 n.val) (own (ix1 t))) (∑ x : Fin 64, (km (ix4 b H n x) * q (ix4 b t H x) : EReal)) (⊥ : EReal) := by
  pointwise [rGate]
  rw [wbot]
theorem rSel_apply (top own) : rSel top own (ix4 b t H j) = if h : j.val < 3 then top (ix4 b t H ⟨j.val, h⟩) else own (ix1 t) := by
  pointwise [rSel, fn_main_v32]
theorem rOk_apply (own) : rOk own (ix2 t j) = if j.val < 3 then IntOp.cmpi .slt (BitVec.ofNat 32 j.val) (own (ix1 t)) else 1#1 := by
  pointwise [rOk, fn_main_v34]
  exact dite_eq_ite
theorem rMask_apply (sel ok) : rMask sel ok (ix5 b t H j kk)
    = IntOp.andi (ok (ix2 t j)) (IntOp.cmpi .sle (IntOp.addi (IntOp.muli (sel (ix4 b t H j)) 256#32) (BitVec.ofNat 32 kk.val)) (BitVec.ofNat 32 t.val)) := by
  pointwise [rMask]
theorem rS_apply (mask q kg) : rS mask q kg (ix5 b t H j kk)
    = Scalar.select (mask (ix5 b t H j kk)) ((∑ x : Fin 64, (q (ix4 b t H x) * kg (ix6 b t H j kk x) : EReal)) * ((1 / 8 : ℝ) : EReal)) (⊥ : EReal) := by
  pointwise [rS]
  rw [wbot, w8]
theorem rFl_apply (s) (r : Fin 1024) : rFl s (ix4 b t H r) = s (ix5 b t H ⟨r.val / 256, by omega⟩ ⟨r.val % 256, by omega⟩) := by
  pointwise [rFl]
/-- A maximum along the last axis is a real number when no entry of the row is `⊤` and one is not `⊥`. -/
theorem reduce_real {n0 n1 n2 n3 : ℕ} {t u : Shape} (f : (⟨4, ![n0, n1, n2, n3]⟩ : Shape).Idx → EReal) (init : u.Idx → EReal)
    (h : (⟨4, ![n0, n1, n2, n3]⟩ : Shape).ReducesTo [3] t) (hu : 0 < u.numel) (hi : init (Shape.Idx.first hu) = ⊥) (i : t.Idx)
    (a : Fin n0) (b : Fin n1) (c : Fin n2) (ha : (i ⟨0, h.lt_r4_a3_0⟩).val = a.val) (hb : (i ⟨1, h.lt_r4_a3_1⟩).val = b.val)
    (hc : (i ⟨2, h.lt_r4_a3_2⟩).val = c.val) (ht : ∀ k, f (ix4 a b c k) ≠ ⊤) (k0 : Fin n3) (h0 : f (ix4 a b c k0) ≠ ⊥) :
    ∃ r : ℝ, Host.reduce (max : EReal → EReal → EReal) f init h hu i = (r : EReal) := by
  rw [Host.reduce_eq_fold, hi, h.fold_fiber_r4_a3]
  have ea : (⟨(i ⟨0, h.lt_r4_a3_0⟩).val, Shape.coordLt (i ⟨0, h.lt_r4_a3_0⟩) h.size_r4_a3_0⟩ : Fin n0) = a := Fin.ext ha
  have eb : (⟨(i ⟨1, h.lt_r4_a3_1⟩).val, Shape.coordLt (i ⟨1, h.lt_r4_a3_1⟩) h.size_r4_a3_1⟩ : Fin n1) = b := Fin.ext hb
  have ec : (⟨(i ⟨2, h.lt_r4_a3_2⟩).val, Shape.coordLt (i ⟨2, h.lt_r4_a3_2⟩) h.size_r4_a3_2⟩ : Fin n2) = c := Fin.ext hc
  rw [ea, eb, ec]
  exact Moba.fold_real _ ht k0 h0
theorem maximum_real {n0 n1 n2 n3 : ℕ} {t u : Shape} (f : FVec Ideal (⟨4, ![n0, n1, n2, n3]⟩ : Shape) .f32) (x : FVec Ideal t .f32) (init : FVec Ideal u .f32)
    (h : (⟨4, ![n0, n1, n2, n3]⟩ : Shape).ReducesTo [3] t) (hu : 0 < u.numel) (hi : init (Shape.Idx.first hu) = (⊥ : EReal)) (i : t.Idx) (hx : x i = (⊥ : EReal))
    (a : Fin n0) (b : Fin n1) (c : Fin n2) (ha : (i ⟨0, h.lt_r4_a3_0⟩).val = a.val) (hb : (i ⟨1, h.lt_r4_a3_1⟩).val = b.val)
    (hc : (i ⟨2, h.lt_r4_a3_2⟩).val = c.val) (ht : ∀ k, f (ix4 a b c k) ≠ (⊤ : EReal)) (k0 : Fin n3) (h0 : f (ix4 a b c k0) ≠ (⊥ : EReal)) :
    ∃ r : ℝ, maximumf x (Host.reduce FloatOps.maximumf f init h hu) i = (r : EReal) := by
  obtain ⟨r, hr⟩ := reduce_real f init h hu hi i a b c ha hb hc ht k0 h0
  refine ⟨r, ?_⟩
  show max (x i : EReal) (Host.reduce (max : EReal → EReal → EReal) f init h hu i) = _
  rw [hx, hr]
  exact max_eq_right bot_le
theorem rMx_real (f : FVec Ideal S2x8192x16x1024 .f32) (ht : ∀ r, f (ix4 b t H r) ≠ (⊤ : EReal)) (r0 : Fin 1024) (h0 : f (ix4 b t H r0) ≠ (⊥ : EReal)) :
    ∃ r : ℝ, rMx f (ix3 b t H) = (r : EReal) :=
  maximum_real f _ _ reducesTo_S2x8192x16x1024_S2x8192x16_d3 h_S_ wbot (ix3 b t H) wbot b t H rfl rfl rfl ht r0 h0
theorem rE_apply (f mx) (r : Fin 1024) : rE f mx (ix4 b t H r) = Ideal.exp ((f (ix4 b t H r) - mx (ix3 b t H) : EReal)) := by
  pointwise [rE]
theorem rSum_apply (e) : rSum e (ix3 b t H) = ∑ r : Fin 1024, (e (ix4 b t H r) : EReal) := by
  pointwise [rSum]
theorem rP_apply (e z) : rP e z (ix5 b t H j kk) = Ideal.div (e (ix4 b t H ⟨j.val * 256 + kk.val, by omega⟩)) (z (ix3 b t H)) := by
  pointwise [rP]
theorem rOut_apply (p vg) (r : Fin 1024) : rOut p vg (ix3 b t r)
    = ∑ j : Fin 4, ∑ kk : Fin 256, (p (ix5 b t ⟨r.val / 64, by omega⟩ j kk) * vg (ix6 b t ⟨r.val / 64, by omega⟩ j kk ⟨r.val % 64, by omega⟩) : EReal) := by
  pointwise [rOut]

end Cert.Proof.Ref
-- ==== Proof.RefInts.lean ====
/- The integer stages of the reference: the own block, the places to gather from, the gather. -/
module

public import proofs.«01_k».proof.Proof.RefStages
public import proofs.«01_k».proof.Proof.Spec

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic

variable (b : Fin 2) (t : Fin 8192) (H : Fin 16) (n : Fin 32) (kk : Fin 256) (d : Fin 64) (j : Fin 4) (j3 : Fin 3)

theorem ownWord : ∀ t : Fin 8192, Scalar.select
      (IntOp.andi
        (IntOp.cmpi CmpIPredicate.ne
          (if BitVec.ofNat 32 t.val = 0 then (0 : BitVec 32) else if (BitVec.ofNat 32 t.val).msb = true then -1 else 1)
          (if 256#32 = 0 then (0 : BitVec 32) else if (256#32).msb = true then -1 else 1))
        (IntOp.cmpi CmpIPredicate.ne (IntOp.remsi ArithUnit.host (BitVec.ofNat 32 t.val) 256#32) 0#32))
      (IntOp.subi (IntOp.divsi ArithUnit.host (BitVec.ofNat 32 t.val) 256#32) 1#32)
      (IntOp.divsi ArithUnit.host (BitVec.ofNat 32 t.val) 256#32) =
    BitVec.ofNat 32 (t.val / 256) := by
  decide +kernel

theorem rOwn_apply : rOwn (ix1 t) = BitVec.ofNat 32 (t.val / 256) := by
  pointwise [rOwn]
  exact ownWord t

theorem wrap2 : ∀ b : Fin 2, Scalar.select (IntOp.cmpi CmpIPredicate.slt (BitVec.ofNat 32 b.val) 0#32) (IntOp.addi (BitVec.ofNat 32 b.val) 2#32) (BitVec.ofNat 32 b.val) = BitVec.ofNat 32 b.val := by decide
theorem wrap16 : ∀ b : Fin 16, Scalar.select (IntOp.cmpi CmpIPredicate.slt (BitVec.ofNat 32 b.val) 0#32) (IntOp.addi (BitVec.ofNat 32 b.val) 16#32) (BitVec.ofNat 32 b.val) = BitVec.ofNat 32 b.val := by decide
theorem wrap32 : ∀ b : Fin 32, Scalar.select (IntOp.cmpi CmpIPredicate.slt (BitVec.ofNat 32 b.val) 0#32) (IntOp.addi (BitVec.ofNat 32 b.val) 32#32) (BitVec.ofNat 32 b.val) = BitVec.ofNat 32 b.val := by decide

theorem rIx_b (sel) : rIx sel (ix5 b t H j 0) = BitVec.ofNat 32 b.val := by
  pointwise [rIx, fn_main_v55]
  exact wrap2 b
theorem rIx_H (sel) : rIx sel (ix5 b t H j 1) = BitVec.ofNat 32 H.val := by
  pointwise [rIx, fn_main_v55]
  exact wrap16 H
theorem rIx_n (sel) (hs : sel (ix4 b t H j) = BitVec.ofNat 32 n.val) : rIx sel (ix5 b t H j 2) = BitVec.ofNat 32 n.val := by
  pointwise [rIx, fn_main_v55]
  rw [hs]
  exact wrap32 n

local notation "gd" => gather_S2x16x32x256x64_S2x8192x16x4x3_S2x8192x16x4x256x64_45_012_n_n_012_4_11125664

theorem rGat_apply (kb) (ix : IVec S2x8192x16x4x3 32) : rGat kb ix (ix6 b t H j kk d)
    = kb (ix5 ⟨min (ix (ix5 b t H j 0)).toInt.toNat 1, by omega⟩ ⟨min (ix (ix5 b t H j 1)).toInt.toNat 15, by omega⟩ ⟨min (ix (ix5 b t H j 2)).toInt.toNat 31, by omega⟩ kk d) := by
  unfold rGat Host.gather
  congr 1
  have hs : ∀ (c : Fin 3) , gather_S2x16x32x256x64_S2x8192x16x4x3_S2x8192x16x4x256x64_45_012_n_n_012_4_11125664.siIdx (ix6 b t H j kk d) c = ix5 b t H j c := by
    intro c
    funext a
    refine Fin.ext ?_
    match a with
    | ⟨0, _⟩ => rfl
    | ⟨1, _⟩ => rfl
    | ⟨2, _⟩ => rfl
    | ⟨3, _⟩ => rfl
    | ⟨4, _⟩ => rfl
  funext a
  refine Fin.ext ?_
  match a with
  | ⟨0, _⟩ =>
    refine Eq.trans ?_ (congrArg (fun i => min (ix i).toInt.toNat 1) (hs 0))
    rfl
  | ⟨1, _⟩ =>
    refine Eq.trans ?_ (congrArg (fun i => min (ix i).toInt.toNat 15) (hs 1))
    rfl
  | ⟨2, _⟩ =>
    refine Eq.trans ?_ (congrArg (fun i => min (ix i).toInt.toNat 31) (hs 2))
    rfl
  | ⟨3, _⟩ =>
    show 0 + 0 + kk.val = kk.val
    omega
  | ⟨4, _⟩ =>
    show 0 + 0 + d.val = d.val
    omega

theorem toInt32 (n : ℕ) (hn : n < 2147483648) : (BitVec.ofNat 32 n).toInt.toNat = n := by
  rw [BitVec.toInt_eq_toNat_of_lt (by rw [BitVec.toNat_ofNat]; omega), BitVec.toNat_ofNat]
  omega

/-- The gather reads the block the slot names. -/
theorem gat_apply (kb sel) (hs : sel (ix4 b t H j) = BitVec.ofNat 32 n.val) : rGat kb (rIx sel) (ix6 b t H j kk d) = kb (ix5 b H n kk d) := by
  have e0 : (⟨min (rIx sel (ix5 b t H j 0)).toInt.toNat 1, by omega⟩ : Fin 2) = b := Fin.ext (by simp only; rw [rIx_b, toInt32 _ (by omega)]; omega)
  have e1 : (⟨min (rIx sel (ix5 b t H j 1)).toInt.toNat 15, by omega⟩ : Fin 16) = H := Fin.ext (by simp only; rw [rIx_H, toInt32 _ (by omega)]; omega)
  have e2 : (⟨min (rIx sel (ix5 b t H j 2)).toInt.toNat 31, by omega⟩ : Fin 32) = n := Fin.ext (by simp only; rw [rIx_n b t H n j sel hs, toInt32 _ (by omega)]; omega)
  rw [rGat_apply, e0, e1, e2]

/-- The order of the gates. -/
def gtB (g : Fin 32 → EReal) (a c : Fin 32) : Bool := (FloatOps.cmpfTotal (F := Ideal) (φ := .f32) .gt (g a) (g c) == 1#1)

theorem gtB_iff (g : Fin 32 → EReal) (a c : Fin 32) : gtB g a c = true ↔ g c < g a := by
  unfold gtB
  rw [Ideal.cmpfTotal_def]
  show (BitVec.ofBool (decide (g c < g a)) == 1#1) = true ↔ _
  by_cases h : g c < g a
  · simp [h]
  · simp [h]

theorem topK_at {α : Type} {s t : Shape} (d : Nat) (hd : d < s.rank) (gt : α → α → BitVec 1) (x : s.Idx → α) (h : s.Slices (fun _ => 0) t)
    (j : t.Idx) (i : s.Idx) (hi : ∀ a : Fin s.rank, (i a).val = (j (a.cast h.1.symm)).val) :
    (Host.topK t d gt x h).2 j
      = iotaInDim s 32 ⟨d, hd⟩ (i.along ⟨d, hd⟩ (sortedFrom (fun k k' => gt (x (i.along ⟨d, hd⟩ k)) (x (i.along ⟨d, hd⟩ k')) == 1#1) (i ⟨d, hd⟩))) := by
  have e : i = fun a : Fin s.rank => ⟨0 + (j (a.cast h.1.symm)).val, Nat.lt_of_lt_of_le (Nat.add_lt_add_left (j _).isLt _) (h.2 a)⟩ :=
    funext fun a => Fin.ext ((hi a).trans (Nat.zero_add _).symm)
  subst e
  unfold Host.topK Host.sort2 extractStridedSlice
  simp only [dif_pos hd]

theorem rTop_apply (g : FVec Ideal S2x8192x16x32 .f32) : rTop g (ix4 b t H j3)
    = BitVec.ofNat 32 (sortedFrom (gtB fun n => g (ix4 b t H n)) ⟨j3.val, by omega⟩).val := by
  have h3 : 3 < S2x8192x16x32.rank := by decide
  have hal : ∀ (y : Fin 32) (n : Fin 32), (ix4 b t H y : S2x8192x16x32.Idx).along ⟨3, h3⟩ n = ix4 b t H n := by
    intro y n
    unfold Shape.Idx.along
    funext a
    match a with
    | ⟨0, _⟩ => rfl
    | ⟨1, _⟩ => rfl
    | ⟨2, _⟩ => rfl
    | ⟨3, _⟩ => rfl
  refine (topK_at 3 h3 _ g _ (ix4 b t H j3) (ix4 b t H (⟨j3.val, by omega⟩ : Fin 32)) ?_).trans ?_
  · intro a
    match a with
    | ⟨0, _⟩ => rfl
    | ⟨1, _⟩ => rfl
    | ⟨2, _⟩ => rfl
    | ⟨3, _⟩ => rfl
  have hR : (fun k k' : Fin 32 => FloatOps.cmpfTotal (F := Ideal) (φ := .f32) .gt (g ((ix4 b t H (⟨j3.val, by omega⟩ : Fin 32) : S2x8192x16x32.Idx).along ⟨3, h3⟩ k)) (g ((ix4 b t H (⟨j3.val, by omega⟩ : Fin 32) : S2x8192x16x32.Idx).along ⟨3, h3⟩ k')) == 1#1)
      = gtB fun n => g (ix4 b t H n) := by
    funext k k'
    unfold gtB
    rw [hal, hal]
  refine (congrArg (fun R : Fin 32 → Fin 32 → Bool => iotaInDim S2x8192x16x32 32 ⟨3, h3⟩ ((ix4 b t H (⟨j3.val, by omega⟩ : Fin 32) : S2x8192x16x32.Idx).along ⟨3, h3⟩ (sortedFrom R (⟨j3.val, by omega⟩ : Fin 32)))) hR).trans ?_
  exact (congrArg (iotaInDim S2x8192x16x32 32 ⟨3, h3⟩) (hal _ _)).trans rfl

end Cert.Proof.Ref
-- ==== Proof.RefMath.lean ====
/- The softmax over four blocks of keys, as one over the keys a query attends to. -/
module

public import proofs.«01_k».proof.Proof.Spec

@[expose] public section

noncomputable section

namespace Cert.Proof.Ref

open Idealize.ShloMosaic Cert.Proof.Moba

/-- A place among the keys of the four blocks. -/
abbrev Slot := Fin 4 × Fin 256

/-- The place of a slot in one row of 1024. -/
def flat (p : Slot) : Fin 1024 := ⟨p.1.val * 256 + p.2.val, by have := p.1.isLt; have := p.2.isLt; omega⟩

theorem sum_flat {M : Type} [AddCommMonoid M] (f : Fin 1024 → M) : ∑ r, f r = ∑ p : Slot, f (flat p) := by
  symm
  refine Fintype.sum_bijective flat ⟨?_, ?_⟩ _ _ fun _ => rfl
  · rintro ⟨a, x⟩ ⟨b, y⟩ h
    have h' := congrArg Fin.val h
    simp only [flat] at h'
    have := x.isLt; have := y.isLt
    exact Prod.ext (Fin.ext (by show a.val = b.val; omega)) (Fin.ext (by show x.val = y.val; omega))
  · intro r
    have := r.isLt
    exact ⟨(⟨r.val / 256, by omega⟩, ⟨r.val % 256, by omega⟩), Fin.ext (by simp only [flat]; omega)⟩

/-- The slots that count: those of an admitted block, up to the position. -/
def live (own : Fin 32) (x : Fin 256) (n : Fin 4 → Fin 32) (p : Slot) : Prop :=
  (p.1.val < 3 → p.1.val < own.val) ∧ 256 * (n p.1).val + p.2.val ≤ 256 * own.val + x.val

instance (own : Fin 32) (x : Fin 256) (n : Fin 4 → Fin 32) : DecidablePred (live own x n) := fun p => by unfold live; infer_instance

section
variable (own : Fin 32) (x : Fin 256) (g : Fin 32 → ℝ) (n : Fin 4 → Fin 32)
  (hn : ∀ j : Fin 4, j.val < 3 → rank (gates own g) (n j) = j.val) (h3 : n 3 = own)
include hn h3

theorem past_iff (k : Fin 32) : rank (gates own g) k < own.val ↔ k.val < own.val :=
  rank_past own.val (by have := own.isLt; omega) (fun k => gates_ne own g k) k

theorem sum_live {M : Type} [AddCommMonoid M] (X : Key → M) :
    ∑ p ∈ Finset.univ.filter (live own x n), X (n p.1, p.2) = ∑ p ∈ keys g own x, X p := by
  have hp := past_iff own g n hn h3
  have three : ∀ j : Fin 4, ¬ j.val < 3 → j = 3 := fun j h => Fin.ext (by have := j.isLt; show j.val = 3; omega)
  refine Finset.sum_bij (fun p _ => (n p.1, p.2)) ?_ ?_ ?_ fun _ _ => rfl
  · rintro ⟨j, kk⟩ h
    obtain ⟨-, h1, h2⟩ := Finset.mem_filter.mp h
    refine Finset.mem_filter.mpr ⟨Finset.mem_univ _, ?_⟩
    by_cases hj : j.val < 3
    · right
      exact ⟨(hp (n j)).mp (by rw [hn j hj]; exact h1 hj), by show rank (gates own g) (n j) < 3; rw [hn j hj]; exact hj⟩
    · left
      obtain rfl := three j hj
      simp only [h3] at h2 ⊢
      exact ⟨trivial, by show kk.val ≤ x.val; omega⟩
  · rintro ⟨j, kk⟩ h ⟨j', kk'⟩ h' e
    obtain ⟨-, h1, h2⟩ := Finset.mem_filter.mp h
    obtain ⟨-, h1', h2'⟩ := Finset.mem_filter.mp h'
    have en : n j = n j' := congrArg Prod.fst e
    have ek : kk = kk' := congrArg Prod.snd e
    subst ek
    have past : ∀ i : Fin 4, i.val < 3 → (i.val < 3 → i.val < own.val) → n i ≠ own := fun i hi hi' eo => by
      have := (hp (n i)).mp (by rw [hn i hi]; exact hi' hi)
      rw [eo] at this
      exact lt_irrefl _ this
    have ej : j = j' := by
      by_cases hj : j.val < 3
      · by_cases hj' : j'.val < 3
        · exact Fin.ext (by rw [← hn j hj, ← hn j' hj', en])
        · obtain rfl := three j' hj'
          exact absurd (en.trans h3) (past j hj h1)
      · obtain rfl := three j hj
        by_cases hj' : j'.val < 3
        · exact absurd (en.symm.trans h3) (past j' hj' h1')
        · exact (three j' hj').symm
    rw [ej]
  · rintro ⟨m, kk⟩ h
    obtain ⟨-, h⟩ := Finset.mem_filter.mp h
    rcases h with ⟨h1, h2⟩ | ⟨h1, h2⟩
    · refine ⟨(3, kk), Finset.mem_filter.mpr ⟨Finset.mem_univ _, fun h => absurd h (by decide : ¬ (3 : Fin 4).val < 3), ?_⟩, ?_⟩
      · rw [h3]; have : kk.val ≤ x.val := h2; show 256 * own.val + kk.val ≤ _; omega
      · rw [h3]; exact Prod.ext (Eq.symm h1) rfl
    · have h1' : m.val < own.val := h1
      have h2' : rank (gates own g) m < 3 := h2
      have hr := (hp m).mpr h1'
      have e : n ⟨rank (gates own g) m, by omega⟩ = m := rank_inj (hn _ h2')
      refine ⟨(⟨rank (gates own g) m, by omega⟩, kk), Finset.mem_filter.mpr ⟨Finset.mem_univ _, fun _ => hr, ?_⟩, ?_⟩
      · rw [e]; have := kk.isLt; show 256 * m.val + kk.val ≤ _; omega
      · rw [e]

theorem live_own : live own x n (3, 0) := ⟨fun h => absurd h (by decide : ¬ (3 : Fin 4).val < 3), by rw [h3]; show 256 * own.val + 0 ≤ _; omega⟩

theorem weight_eq (σ : Slot → ℝ) (S : Key → ℝ) (hσ : ∀ p, Real.exp (σ p) = (2 : ℝ) ^ S (n p.1, p.2)) (M : ℝ) (p : Slot) :
    Real.exp (σ p - M) / ∑ q ∈ Finset.univ.filter (live own x n), Real.exp (σ q - M) = wgt S (keys g own x) (n p.1, p.2) := by
  unfold wgt
  rw [← sum_live own x g n hn h3 (fun k => (2 : ℝ) ^ S k)]
  simp only [Real.exp_sub, hσ]
  rw [← Finset.sum_div, div_div_div_cancel_right₀ (Real.exp_pos M).ne']
end

/-- The softmax of a row whose entries are real where `A` holds and `⊥` elsewhere. -/
theorem soft (A : Slot → Prop) [DecidablePred A] (σ : Slot → ℝ) (f : Fin 1024 → EReal) (hf : ∀ p, f (flat p) = if A p then (σ p : EReal) else ⊥)
    (M : ℝ) (hne : ∃ p, A p) (p : Slot) :
    Ideal.div (Ideal.exp (f (flat p) - (M : EReal))) (∑ r, Ideal.exp (f r - (M : EReal)))
      = ((if A p then Real.exp (σ p - M) / ∑ q ∈ Finset.univ.filter A, Real.exp (σ q - M) else 0 : ℝ) : EReal) := by
  have he : ∀ q, Ideal.exp (f (flat q) - (M : EReal)) = ((if A q then Real.exp (σ q - M) else 0 : ℝ) : EReal) := by
    intro q
    rw [hf]
    by_cases h : A q
    · rw [if_pos h, if_pos h, ← EReal.coe_sub, Ideal.exp_coe]
    · rw [if_neg h, if_neg h, EReal.bot_sub, Ideal.exp_bot, EReal.coe_zero]
  have hs : (∑ r, Ideal.exp (f r - (M : EReal))) = ((∑ q ∈ Finset.univ.filter A, Real.exp (σ q - M) : ℝ) : EReal) := by
    rw [sum_flat, Finset.sum_congr rfl fun q _ => he q, ← coe_sum, Finset.sum_filter]
  have hpos : 0 < ∑ q ∈ Finset.univ.filter A, Real.exp (σ q - M) := by
    obtain ⟨q, hq⟩ := hne
    exact Finset.sum_pos (fun _ _ => Real.exp_pos _) ⟨q, Finset.mem_filter.mpr ⟨Finset.mem_univ _, hq⟩⟩
  rw [hs, he, Ideal.div_coe hpos.ne', ← EReal.coe_mul]
  by_cases h : A p
  · rw [if_pos h, if_pos h, mul_one_div]
  · rw [if_neg h, if_neg h, zero_mul]

/-- The result of the softmax, summed over the slots, is the sum over the keys attended to. -/
theorem soft_out (own : Fin 32) (x : Fin 256) (g : Fin 32 → ℝ) (n : Fin 4 → Fin 32)
    (hn : ∀ j : Fin 4, j.val < 3 → rank (gates own g) (n j) = j.val) (h3 : n 3 = own)
    (σ : Slot → ℝ) (S : Key → ℝ) (hσ : ∀ p, Real.exp (σ p) = (2 : ℝ) ^ S (n p.1, p.2))
    (f : Fin 1024 → EReal) (hf : ∀ p, f (flat p) = if live own x n p then (σ p : EReal) else ⊥) (mx : EReal) (hmx : ∃ M : ℝ, mx = (M : EReal))
    (v : Key → EReal) :
    ∑ j : Fin 4, ∑ kk : Fin 256, Ideal.div (Ideal.exp (f (flat (j, kk)) - mx)) (∑ r, Ideal.exp (f r - mx)) * v (n j, kk)
      = ∑ p ∈ keys g own x, v p * (wgt S (keys g own x) p : EReal) := by
  obtain ⟨M, rfl⟩ := hmx
  rw [← sum_live own x g n hn h3 (fun p => v p * (wgt S (keys g own x) p : EReal)), Finset.sum_filter, Fintype.sum_prod_type]
  refine Finset.sum_congr rfl fun j _ => Finset.sum_congr rfl fun kk _ => ?_
  rw [soft (live own x n) σ f hf M ⟨_, live_own own x g n hn h3⟩ (j, kk)]
  by_cases h : live own x n (j, kk)
  · rw [if_pos h, if_pos h, weight_eq own x g n hn h3 σ S hσ M (j, kk), mul_comm]
  · rw [if_neg h, if_neg h, EReal.coe_zero, zero_mul]

/-- A dot product over eight, in powers of two. -/
theorem score_exp (q k : Fin 64 → ℝ) : Real.exp ((∑ d, q d * k d) * (1 / 8)) = (2 : ℝ) ^ (∑ d, k d * (q d * sc2)) := by
  have h2 : Real.log 2 ≠ 0 := (Real.log_pos (by norm_num)).ne'
  rw [Real.rpow_def_of_pos (by norm_num), Finset.sum_mul, Finset.mul_sum]
  congr 1
  refine Finset.sum_congr rfl fun d _ => ?_
  unfold sc2
  field_simp

end Cert.Proof.Ref
-- ==== Proof.Blocks.lean ====
/- The blocks of a grid point, read at their entries in the arrays. -/
module

public import proofs.«01_k».proof.Proof.Spec
public import proofs.«01_k».proof.Proof.Frame
public import Idealize.ShloMosaic.Lib.Pipeline.ValueKit

@[expose] public section

set_option maxRecDepth 16384

noncomputable section

namespace Cert.Proof.Moba

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The blocks' indices at a grid point. -/
theorem idx : ∀ t : Fin cfg0.N,
    win0_0.index t = ![(grid0.coords t 0).val, (grid0.coords t 1).val, (grid0.coords t 2).val]
    ∧ win0_1.index t = ![(grid0.coords t 0).val, 0, (grid0.coords t 1).val]
    ∧ win0_2.index t = ![(grid0.coords t 0).val, 0, (grid0.coords t 1).val, 0]
    ∧ win0_3.index t = ![(grid0.coords t 0).val, 0, (grid0.coords t 1).val]
    ∧ win0_4.index t = ![(grid0.coords t 0).val, (grid0.coords t 2).val, (grid0.coords t 1).val]
    ∧ (grid0.coords t 0).val < 2 ∧ (grid0.coords t 1).val < 4 ∧ (grid0.coords t 2).val < 32 :=
  (by decide +kernel : ∀ t : Fin grid0.N, _)

theorem w256 : Ideal.ofBits FTy.f32 1132462080#32 = ((256 : ℝ) : EReal) := by
  simp [Ideal.ofBits, Ideal.ieee, -EReal.coe_mul]
  norm_num

theorem blk0 (c : Dev nD) (t : Fin cfg0.N) (r : Fin 256) (x : Fin 256) (b : Fin 2) (row : Fin 8192) (H : Fin 16) (d : Fin 64)
    (hb : b.val = (grid0.coords t 0).val) (hrow : row.val = 256 * (grid0.coords t 2).val + x.val)
    (hr : 64 * H.val + d.val = 256 * (grid0.coords t 1).val + r.val) :
    (iblk m c 0 t : FVec Ideal S1x256x256 .f32) (ix3 0 r x) = (m ((c : Thread nD τ).loc main_arg0) : FVec Ideal S2x8192x16x64 .f32) (ix4 b row H d) := by
  blk_simp [iblk, idx t]
  entry_read
  pointwise
  blk_ext [idx t]

theorem blk1 (c : Dev nD) (t : Fin cfg0.N) (y : Fin 8192) (r : Fin 256) (b : Fin 2) (H : Fin 16) (d : Fin 64)
    (hb : b.val = (grid0.coords t 0).val)
    (hr : 64 * H.val + d.val = 256 * (grid0.coords t 1).val + r.val) :
    (iblk m c 1 t : FVec Ideal S1x8192x256 .bf16) (ix3 0 y r) = (m ((c : Thread nD τ).loc main_arg1) : FVec Ideal S2x8192x16x64 .f32) (ix4 b y H d) := by
  blk_simp [iblk, idx t]
  entry_read
  pointwise
  blk_ext [idx t]

theorem blk2 (c : Dev nD) (t : Fin cfg0.N) (n : Fin 32) (r x : Fin 256) (b : Fin 2) (y : Fin 8192) (H : Fin 16) (d : Fin 64)
    (hb : b.val = (grid0.coords t 0).val) (hy : y.val = 256 * n.val + x.val)
    (hr : 64 * H.val + d.val = 256 * (grid0.coords t 1).val + r.val) :
    (iblk m c 2 t : FVec Ideal S1x32x256x256 .bf16) (ix4 0 n r x) = (m ((c : Thread nD τ).loc main_arg2) : FVec Ideal S2x8192x16x64 .f32) (ix4 b y H d) := by
  blk_simp [iblk, idx t]
  entry_read
  pointwise
  blk_ext [idx t]

theorem blk3 (c : Dev nD) (t : Fin cfg0.N) (n : Fin 32) (r : Fin 256) (b : Fin 2) (H : Fin 16) (d : Fin 64)
    (hb : b.val = (grid0.coords t 0).val)
    (hr : 64 * H.val + d.val = 256 * (grid0.coords t 1).val + r.val) :
    (iblk m c 3 t : FVec Ideal S1x32x256 .f32) (ix3 0 n r)
      = Ideal.div (∑ kk : Fin 256, (m ((c : Thread nD τ).loc main_arg1) : FVec Ideal S2x8192x16x64 .f32) (ix4 b (posOf (n, kk)) H d)) ((256 : ℝ) : EReal) := by
  blk_simp [iblk, idx t]
  entry_read
  pointwise
  rw [w256]
  blk_point [idx t]
  simp only [posOf]; omega

end Cert.Proof.Moba
-- ==== Proof.KArr.lean ====
/- The array the program leaves: the attention over the chosen keys, at every entry. -/
module

public import proofs.«01_k».proof.Proof.Blocks

@[expose] public section

set_option maxRecDepth 16384

noncomputable section

namespace Cert.Proof.Moba

open Cert.KernelIdeal Cert.KernelIdeal.Gen
open Idealize.ShloMosaic Idealize.ShloMosaic.TcCoe Idealize.SL.Sem
open Idealize.ShloMosaic.Pipeline (Dat)

section
variable (c : Dev nD) (i : grid0.Coords) (arg3 : Memref sig .tc .vmem S1x256x256 .f32) (harg3 : arg3.IsWhole) (arg4 : Memref sig .tc .vmem S1x8192x256 .bf16) (harg4 : arg4.IsWhole) (arg5 : Memref sig .tc .vmem S1x32x256x256 .bf16) (harg5 : arg5.IsWhole) (arg6 : Memref sig .tc .vmem S1x32x256 .f32) (harg6 : arg6.IsWhole) (arg7 : Memref sig .tc .vmem S1x256x256 .f32) (harg7 : arg7.IsWhole)

/-- One entry of the block a grid point stores. -/
theorem body_entry (x3 : Vec Ideal S1x256x256 .f32) (x4 : Vec Ideal S1x8192x256 .bf16) (x5 : Vec Ideal S1x32x256x256 .bf16) (x6 : Vec Ideal S1x32x256 .f32)
    (X3 : S1x256x256.Idx → ℝ) (X4 : S1x8192x256.Idx → ℝ) (X6 : S1x32x256.Idx → ℝ)
    (h3 : x3 = fun j : S1x256x256.Idx => (X3 j : EReal)) (h4 : x4 = fun j : S1x8192x256.Idx => (X4 j : EReal)) (h6 : x6 = fun j : S1x32x256.Idx => (X6 j : EReal))
    (f : arg7.view.ty.Contents (Elt Ideal)) (h : Fin 4) (x : Fin 256) (d : Fin 64) :
    arg7.view.read (Elt Ideal) (arg7.view.writes (Elt Ideal) f (bodyRun c i arg3 harg3 arg4 harg4 arg5 harg5 arg6 harg6 arg7 harg7 x3 x4 x5 x6).1)
        (ix3 0 x ⟨64 * h.val + d.val, by omega⟩)
      = ∑ p ∈ keys (gateK X3 X6 h x) (i 2) x, valK x5 h d p * (wgt (scoreK X3 X4 h x) (keys (gateK X3 X6 h x) (i 2) x) p : EReal) := by
  subst h3 h4 h6
  rw [body_eq]
  refine (View.read_writes_cons_unit_of_mem arg7.view f _ _ [] (ix3 0 x ⟨64 * h.val + d.val, by omega⟩) (ix3 0 x ⟨64 * h.val + d.val, by omega⟩) rfl fun a => ?_).trans ?_
  · fin_cases a <;> simp
  · exact out_entry c i arg3 harg3 arg4 harg4 arg5 harg5 arg6 harg6 arg7 harg7 X3 X4 x5 X6 h x d
end

variable (m : (ℓ : Loc nD τ sig) → Buf (Elt Ideal) ℓ)
variable (Q K : Fin 2 → Fin 8192 → Fin 16 → Fin 64 → ℝ)

/-- The sum of the keys of a block, as a real number. -/
theorem mean_real (f : Fin 256 → ℝ) : Ideal.div (∑ kk : Fin 256, (f kk : EReal)) ((256 : ℝ) : EReal) = (((∑ kk, f kk) * (1 / 256) : ℝ) : EReal) := by
  rw [Ideal.div_coe (by norm_num), EReal.coe_mul, coe_sum]

theorem keys_congr (g g' : Fin 32 → ℝ) (o o' : Fin 32) (x x' : Fin 256) (hg : g = g') (ho : o = o') (hx : x = x') : keys g o x = keys g' o' x' := by
  rw [hg, ho, hx]

theorem out_congr (T T' : Finset Key) (S S' : Key → ℝ) (W W' : Key → EReal) (hT : T = T') (hS : S = S') (hW : W = W') :
    ∑ p ∈ T, W p * (wgt S T p : EReal) = ∑ p ∈ T', W' p * (wgt S' T' p : EReal) := by
  rw [hT, hS, hW]

/-- The head a row of the block of a group of four heads belongs to. -/
def hdOf (c1 : Fin 4) (r : Fin 256) : Fin 16 := ⟨(256 * c1.val + r.val) / 64, by omega⟩
/-- Its place in the head. -/
def dmOf (r : Fin 256) : Fin 64 := ⟨r.val % 64, by omega⟩

theorem hd_eq (c1 : Fin 4) (r : Fin 256) : 64 * (hdOf c1 r).val + (dmOf r).val = 256 * c1.val + r.val := by
  simp only [hdOf, dmOf]; omega
theorem hdOf_at (c1 : Fin 4) (h : Fin 4) (d : Fin 64) (H : Fin 16) (hH : H.val = 4 * c1.val + h.val) : hdOf c1 ⟨64 * h.val + d.val, by omega⟩ = H :=
  Fin.ext (by simp only [hdOf]; omega)
theorem dmOf_at (h : Fin 4) (d : Fin 64) : dmOf ⟨64 * h.val + d.val, by omega⟩ = d :=
  Fin.ext (by simp only [dmOf]; omega)

/-- The block of queries, of keys and of means, of real arrays. -/
def B3 (b : Fin 2) (c1 : Fin 4) (c2 : Fin 32) : S1x256x256.Idx → ℝ := fun j => Q b (posOf (c2, j 2)) (hdOf c1 (j 1)) (dmOf (j 1))
def B4 (b : Fin 2) (c1 : Fin 4) : S1x8192x256.Idx → ℝ := fun j => K b (j 1) (hdOf c1 (j 2)) (dmOf (j 2))
def B6 (b : Fin 2) (c1 : Fin 4) : S1x32x256.Idx → ℝ := fun j => (∑ kk : Fin 256, K b (posOf (j 1, kk)) (hdOf c1 (j 2)) (dmOf (j 2))) * (1 / 256)

theorem B3_apply (b : Fin 2) (c1 : Fin 4) (c2 : Fin 32) (y0 : Fin 1) (r x : Fin 256) : B3 Q b c1 c2 (ix3 y0 r x) = Q b (posOf (c2, x)) (hdOf c1 r) (dmOf r) := rfl
theorem B4_apply (b : Fin 2) (c1 : Fin 4) (y0 : Fin 1) (y : Fin 8192) (r : Fin 256) : B4 K b c1 (ix3 y0 y r) = K b y (hdOf c1 r) (dmOf r) := rfl
theorem B6_apply (b : Fin 2) (c1 : Fin 4) (y0 : Fin 1) (n : Fin 32) (r : Fin 256) : B6 K b c1 (ix3 y0 n r) = (∑ kk : Fin 256, K b (posOf (n, kk)) (hdOf c1 r) (dmOf r)) * (1 / 256) := rfl

theorem scoreB (b : Fin 2) (c1 : Fin 4) (c2 : Fin 32) (h : Fin 4) (x : Fin 256) (H : Fin 16) (hH : H.val = 4 * c1.val + h.val) :
    scoreK (B3 Q b c1 c2) (B4 K b c1) h x = spScore Q K b (posOf (c2, x)) H := funext fun p => Finset.sum_congr rfl fun d _ => by
  rw [B3_apply, B4_apply, hdOf_at c1 h d H hH, dmOf_at]; rfl
theorem gateB (b : Fin 2) (c1 : Fin 4) (c2 : Fin 32) (h : Fin 4) (x : Fin 256) (H : Fin 16) (hH : H.val = 4 * c1.val + h.val) :
    gateK (B3 Q b c1 c2) (B6 K b c1) h x = spGate Q K b (posOf (c2, x)) H := funext fun n => Finset.sum_congr rfl fun d _ => by
  rw [B3_apply, B6_apply, hdOf_at c1 h d H hH, dmOf_at]

theorem iblk0 (c : Dev nD) (t : Fin cfg0.N) (b : Fin 2) (c1 : Fin 4) (c2 : Fin 32)
    (hQ : ∀ b t H d, (m ((c : Thread nD τ).loc main_arg0) : FVec Ideal S2x8192x16x64 .f32) (ix4 b t H d) = (Q b t H d : EReal))
    (hb : b.val = (grid0.coords t 0).val) (h1 : c1.val = (grid0.coords t 1).val) (h2 : c2.val = (grid0.coords t 2).val) :
    (iblk m c 0 t : FVec Ideal S1x256x256 .f32) = fun j : S1x256x256.Idx => (B3 Q b c1 c2 j : EReal) := by
  funext j
  idx_vars j
  obtain rfl : j0 = 0 := Subsingleton.elim _ _
  exact (blk0 m c t j1 j2 b (posOf (c2, j2)) (hdOf c1 j1) (dmOf j1) hb (by simp only [posOf]; omega) (by rw [hd_eq, h1])).trans (hQ _ _ _ _)
theorem iblk1 (c : Dev nD) (t : Fin cfg0.N) (b : Fin 2) (c1 : Fin 4)
    (hK : ∀ b t H d, (m ((c : Thread nD τ).loc main_arg1) : FVec Ideal S2x8192x16x64 .f32) (ix4 b t H d) = (K b t H d : EReal))
    (hb : b.val = (grid0.coords t 0).val) (h1 : c1.val = (grid0.coords t 1).val) :
    (iblk m c 1 t : FVec Ideal S1x8192x256 .bf16) = fun j : S1x8192x256.Idx => (B4 K b c1 j : EReal) := by
  funext j
  idx_vars j
  obtain rfl : j0 = 0 := Subsingleton.elim _ _
  exact (blk1 m c t j1 j2 b (hdOf c1 j2) (dmOf j2) hb (by rw [hd_eq, h1])).trans (hK _ _ _ _)
theorem iblk3 (c : Dev nD) (t : Fin cfg0.N) (b : Fin 2) (c1 : Fin 4)
    (hK : ∀ b t H d, (m ((c : Thread nD τ).loc main_arg1) : FVec Ideal S2x8192x16x64 .f32) (ix4 b t H d) = (K b t H d : EReal))
    (hb : b.val = (grid0.coords t 0).val) (h1 : c1.val = (grid0.coords t 1).val) :
    (iblk m c 3 t : FVec Ideal S1x32x256 .f32) = fun j : S1x32x256.Idx => (B6 K b c1 j : EReal) := by
  funext j
  idx_vars j
  obtain rfl : j0 = 0 := Subsingleton.elim _ _
  refine (blk3 m c t j1 j2 b (hdOf c1 j2) (dmOf j2) hb (by rw [hd_eq, h1])).trans ?_
  exact (congrArg (fun s : EReal => Ideal.div s ((256 : ℝ) : EReal)) (Finset.sum_congr (M := EReal) rfl fun kk _ => hK b (posOf (j1, kk)) (hdOf c1 j2) (dmOf j2))).trans (mean_real _)

theorem keysB (Qb Kb : Fin 2 → Fin 8192 → Fin 16 → Fin 64 → ℝ) (b : Fin 2) (c2 o : Fin 32) (x : Fin 256) (H : Fin 16) (g : Fin 32 → ℝ)
    (hg : g = spGate Qb Kb b (posOf (c2, x)) H) (ho : o.val = c2.val) : keys g o x = spKeys Qb Kb b (posOf (c2, x)) H := by
  subst hg
  refine keys_congr _ _ _ _ _ _ rfl (Fin.ext ?_) (Fin.ext ?_)
  · simp only [blkOf, posOf]; omega
  · simp only [inOf, posOf]; omega

theorem outAt_entry (c : Dev nD) (t : Fin cfg0.N)
    (hQ : ∀ b t H d, (m ((c : Thread nD τ).loc main_arg0) : FVec Ideal S2x8192x16x64 .f32) (ix4 b t H d) = (Q b t H d : EReal))
    (hK : ∀ b t H d, (m ((c : Thread nD τ).loc main_arg1) : FVec Ideal S2x8192x16x64 .f32) (ix4 b t H d) = (K b t H d : EReal))
    (h : Fin 4) (x : Fin 256) (d : Fin 64) (b : Fin 2) (c1 : Fin 4) (c2 : Fin 32) (H : Fin 16)
    (hb : b.val = (grid0.coords t 0).val) (h1 : c1.val = (grid0.coords t 1).val) (h2 : c2.val = (grid0.coords t 2).val)
    (hH : H.val = 4 * c1.val + h.val) :
    outAt m c t (ix3 0 x ⟨64 * h.val + d.val, by omega⟩)
      = spOut Q K (fun b t H d => (m ((c : Thread nD τ).loc main_arg2) : FVec Ideal S2x8192x16x64 .f32) (ix4 b t H d)) b (posOf (c2, x)) H d := by
  have e := body_entry c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
    (iblk m c 0 t) (iblk m c 1 t) (iblk m c 2 t) (iblk m c 3 t) (B3 Q b c1 c2) (B4 K b c1) (B6 K b c1) (iblk0 m Q c t b c1 c2 hQ hb h1 h2) (iblk1 m K c t b c1 hK hb h1) (iblk3 m K c t b c1 hK hb h1) (win0_4.stage (cfg0.slots t 4)).view.junk h x d
  refine e.trans ?_
  refine out_congr _ _ _ _ _ _ (keysB Q K b c2 (grid0.coords t 2) x H _ (gateB Q K b c1 c2 h x H hH) h2.symm) (scoreB Q K b c1 c2 h x H hH) (funext fun p => ?_)
  exact blk2 m c t p.1 ⟨64 * h.val + d.val, by omega⟩ p.2 b (posOf p) H d hb rfl (by rw [← h1]; simp only; omega)

/-- The result array. -/
def kArr (V : Fin 2 → Fin 8192 → Fin 16 → Fin 64 → EReal) : FVec Ideal S2x8192x1024 .f32 := fun j =>
  spOut Q K V (j 0) (j 1) ⟨(j 2).val / 64, by have := (j 2).isLt; change _ < 1024 at this; omega⟩ ⟨(j 2).val % 64, by omega⟩

theorem final (c : Dev nD)
    (hQ : ∀ b t H d, (m ((c : Thread nD τ).loc main_arg0) : FVec Ideal S2x8192x16x64 .f32) (ix4 b t H d) = (Q b t H d : EReal))
    (hK : ∀ b t H d, (m ((c : Thread nD τ).loc main_arg1) : FVec Ideal S2x8192x16x64 .f32) (ix4 b t H d) = (K b t H d : EReal)) :
    (dats m 0 c).arrAt 4 (cfgs 0).N
      = kArr Q K (fun b t H d => (m ((c : Thread nD τ).loc main_arg2) : FVec Ideal S2x8192x16x64 .f32) (ix4 b t H d)) := by
  refine (dats m 0 c).arrAt_eq_of_covers 4 _ (by decide +kernel) fun t _ y => ?_
  blk_simp
  rw [after0_4]
  idx_vars y
  obtain rfl : y0 = 0 := Subsingleton.elim _ _
  obtain ⟨i0, i1, i2, i3, i4, hc0, hc1, hc2⟩ := idx t
  have hy := outAt_entry m Q K c t hQ hK ⟨y2.val / 64, by omega⟩ y1 ⟨y2.val % 64, by omega⟩ ⟨_, hc0⟩ ⟨_, hc1⟩ ⟨_, hc2⟩ ⟨4 * (grid0.coords t 1).val + y2.val / 64, by omega⟩ rfl rfl rfl rfl
  refine (congrArg (outAt m c t) (congrArg (ix3 0 y1) (Fin.ext (by simp only; omega)))).trans (hy.trans ?_)
  unfold kArr
  have e0 : ((((View.whole main_v11).slice (win0_4.rect t)).emb (ix3 0 y1 y2)) 0).val = (grid0.coords t 0).val := by
    blk_simp [idx t]
    exact Nat.add_zero _
  have e1 : ((((View.whole main_v11).slice (win0_4.rect t)).emb (ix3 0 y1 y2)) 1).val = (grid0.coords t 2).val * 256 + y1.val := by blk_simp [idx t]
  have e2 : ((((View.whole main_v11).slice (win0_4.rect t)).emb (ix3 0 y1 y2)) 2).val = (grid0.coords t 1).val * 256 + y2.val := by blk_simp [idx t]
  have hsp : ∀ (V : Fin 2 → Fin 8192 → Fin 16 → Fin 64 → EReal) b b' r r' H H' d d', b = b' → r = r' → H = H' → d = d' → spOut Q K V b r H d = spOut Q K V b' r' H' d' := by
    rintro V b b' r r' H H' d d' rfl rfl rfl rfl; rfl
  refine hsp _ _ _ _ _ _ _ _ _ (Fin.ext ?_) (Fin.ext ?_) (Fin.ext ?_) (Fin.ext ?_)
  · exact e0.symm
  · refine Eq.trans ?_ e1.symm
    simp only [posOf]; omega
  · simp only [e2]; omega
  · simp only [e2]; omega

end Cert.Proof.Moba
-- ==== Proof.RefArr.lean ====
/- The reference's result, as the array the call computes. -/
module

public import proofs.«01_k».proof.Proof.RefVals
public import proofs.«01_k».proof.Proof.RefInts
public import proofs.«01_k».proof.Proof.RefMath
public import proofs.«01_k».proof.Proof.KArr

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic

theorem toInt_small (n : ℕ) (hn : n < 2147483648) : (BitVec.ofNat 32 n).toInt = (n : ℤ) := by
  rw [BitVec.toInt_ofNat']
  simp only [Int.bmod]
  omega

theorem slt_small (a b : ℕ) (ha : a < 2147483648) (hb : b < 2147483648) :
    IntOp.cmpi .slt (BitVec.ofNat 32 a) (BitVec.ofNat 32 b) = BitVec.ofBool (decide (a < b)) := by
  show BitVec.ofBool (BitVec.slt _ _) = _
  congr 1
  rw [Bool.eq_iff_iff, BitVec.slt_iff_toInt_lt, toInt_small a ha, toInt_small b hb, decide_eq_true_iff]
  omega

theorem sle_small (a b : ℕ) (ha : a < 2147483648) (hb : b < 2147483648) :
    IntOp.cmpi .sle (BitVec.ofNat 32 a) (BitVec.ofNat 32 b) = BitVec.ofBool (decide (a ≤ b)) := by
  show BitVec.ofBool (BitVec.sle _ _) = _
  congr 1
  rw [Bool.eq_iff_iff, BitVec.sle_iff_toInt_le, toInt_small a ha, toInt_small b hb, decide_eq_true_iff]
  omega

theorem place (a c : ℕ) : IntOp.addi (IntOp.muli (BitVec.ofNat 32 a) 256#32) (BitVec.ofNat 32 c) = BitVec.ofNat 32 (256 * a + c) := by
  show BitVec.ofNat 32 a * BitVec.ofNat 32 256 + BitVec.ofNat 32 c = _
  rw [← BitVec.ofNat_mul, ← BitVec.ofNat_add, Nat.mul_comm]

theorem ofBool_one (p : Prop) [Decidable p] : BitVec.ofBool (decide p) = 1#1 ↔ p := by
  by_cases h : p <;> simp [h]

theorem select_iff {α : Type} (w : BitVec 1) (p : Prop) [Decidable p] (h : w = 1#1 ↔ p) (x y : α) : Scalar.select w x y = if p then x else y := by
  unfold Scalar.select
  by_cases hp : p
  · rw [if_pos hp]; exact if_pos (h.mpr hp)
  · rw [if_neg hp]; exact if_neg fun e => hp (h.mp e)

/-- The block in a query's slot. -/
def slotOf (q k : FVec Ideal S2x8192x16x64 .f32) (b : Fin 2) (t : Fin 8192) (H : Fin 16) (j : Fin 4) : Fin 32 :=
  if h : j.val < 3 then sortedFrom (gtB fun n => rGate rOwn (rMean (rBlk k)) q (ix4 b t H n)) ⟨j.val, by omega⟩ else Moba.blkOf t

section
variable (q k : FVec Ideal S2x8192x16x64 .f32) (Q K : Fin 2 → Fin 8192 → Fin 16 → Fin 64 → ℝ)
  (hq : ∀ b t H d, q (ix4 b t H d) = (Q b t H d : EReal)) (hk : ∀ b t H d, k (ix4 b t H d) = (K b t H d : EReal))
  (b : Fin 2) (t : Fin 8192) (H : Fin 16) (n : Fin 32) (j : Fin 4) (kk : Fin 256)

theorem sel_eq : rSel4 q k (ix4 b t H j) = BitVec.ofNat 32 (slotOf q k b t H j).val := by
  unfold rSel4 slotOf
  rw [rSel_apply]
  by_cases h : j.val < 3
  · rw [dif_pos h, dif_pos h, rTop_apply]
  · rw [dif_neg h, dif_neg h, rOwn_apply]; rfl

theorem mask_iff : rM4 q k (ix5 b t H j kk) = 1#1 ↔ live (Moba.blkOf t) (Moba.inOf t) (slotOf q k b t H) (j, kk) := by
  unfold rM4
  have hs := (slotOf q k b t H j).isLt
  have ht := t.isLt
  have hkk := kk.isLt
  have hj := j.isLt
  rw [rMask_apply, rOk_apply, rOwn_apply, sel_eq, place, sle_small _ _ (by omega) (by omega), slt_small _ _ (by omega) (by omega)]
  have e : (256 * (Moba.blkOf t).val + (Moba.inOf t).val) = t.val := by simp only [Moba.blkOf, Moba.inOf]; omega
  unfold live
  rw [e]
  show (if j.val < 3 then BitVec.ofBool (decide (j.val < t.val / 256)) else 1#1) &&& BitVec.ofBool (decide (256 * (slotOf q k b t H j).val + kk.val ≤ t.val)) = 1#1
    ↔ (j.val < 3 → j.val < t.val / 256) ∧ 256 * (slotOf q k b t H j).val + kk.val ≤ t.val
  by_cases h1 : j.val < 3 <;> by_cases h2 : j.val < t.val / 256 <;> by_cases h3 : 256 * (slotOf q k b t H j).val + kk.val ≤ t.val <;> simp [h1, h2, h3]

include hk in
theorem mean_eq (d : Fin 64) : rMean (rBlk k) (ix4 b H n d) = (((∑ x : Fin 256, K b (Moba.posOf (n, x)) H d) * (1 / 256) : ℝ) : EReal) := by
  rw [rMean_apply, Finset.sum_congr rfl fun x _ => (rBlk_apply b H n x d k).trans (hk b (Moba.posOf (n, x)) H d)]
  exact Moba.mean_real _

include hq hk in
theorem gate_eq : rGate rOwn (rMean (rBlk k)) q (ix4 b t H n) = Moba.gates (Moba.blkOf t) (Moba.spGate Q K b t H) n := by
  have ht := t.isLt
  have hn := n.isLt
  rw [rGate_apply, rOwn_apply, slt_small _ _ (by omega) (by omega), select_iff _ (n.val < t.val / 256) (ofBool_one _)]
  unfold Moba.gates
  refine if_congr Iff.rfl ?_ rfl
  unfold Moba.spGate
  rw [Moba.coe_sum]
  refine Finset.sum_congr rfl fun d _ => ?_
  rw [mean_eq k K hk, hq, ← EReal.coe_mul]

include hq hk in
theorem slot_rank (hj : j.val < 3) : Moba.rank (Moba.gates (Moba.blkOf t) (Moba.spGate Q K b t H)) (slotOf q k b t H j) = j.val := by
  unfold slotOf
  have e : (fun n => rGate rOwn (rMean (rBlk k)) q (ix4 b t H n)) = Moba.gates (Moba.blkOf t) (Moba.spGate Q K b t H) := funext fun n => gate_eq q k Q K hq hk b t H n
  rw [dif_pos hj, e]
  have h := Moba.sorted_rank (g := Moba.gates (Moba.blkOf t) (Moba.spGate Q K b t H)) (gtB (Moba.gates (Moba.blkOf t) (Moba.spGate Q K b t H)))
    (gtB_iff (Moba.gates (Moba.blkOf t) (Moba.spGate Q K b t H))) (⟨j.val, by omega⟩ : Fin 32)
  exact h

theorem slot_own : slotOf q k b t H 3 = Moba.blkOf t := dif_neg (by decide : ¬ (3 : Fin 4).val < 3)

theorem gat_eq (x : FVec Ideal S2x8192x16x64 .f32) (d : Fin 64) :
    rGat (rBlk x) (rIx (rSel4 q k)) (ix6 b t H j kk d) = x (ix4 b (Moba.posOf (slotOf q k b t H j, kk)) H d) :=
  (gat_apply b t H (slotOf q k b t H j) kk d j (rBlk x) (rSel4 q k) (sel_eq q k b t H j)).trans (rBlk_apply b H (slotOf q k b t H j) kk d x)

/-- The score of a slot. -/
def sig (Q K : Fin 2 → Fin 8192 → Fin 16 → Fin 64 → ℝ) (n : Fin 4 → Fin 32) (b : Fin 2) (t : Fin 8192) (H : Fin 16) (p : Slot) : ℝ :=
  (∑ d : Fin 64, Q b t H d * K b (Moba.posOf (n p.1, p.2)) H d) * (1 / 8)

include hq hk in
theorem row_eq (p : Slot) : rF4 q k (ix4 b t H (flat p))
    = if live (Moba.blkOf t) (Moba.inOf t) (slotOf q k b t H) p then (sig Q K (slotOf q k b t H) b t H p : EReal) else ⊥ := by
  obtain ⟨j, kk⟩ := p
  have hj := j.isLt
  have hkk := kk.isLt
  have e1 : (⟨(flat (j, kk)).val / 256, by omega⟩ : Fin 4) = j := Fin.ext (by simp only [flat]; omega)
  have e2 : (⟨(flat (j, kk)).val % 256, by omega⟩ : Fin 256) = kk := Fin.ext (by simp only [flat]; omega)
  unfold rF4
  rw [rFl_apply, e1, e2, rS_apply, select_iff _ _ (mask_iff q k b t H j kk)]
  refine if_congr Iff.rfl ?_ rfl
  unfold sig
  rw [EReal.coe_mul, Moba.coe_sum]
  congr 1
  refine Finset.sum_congr rfl fun d _ => ?_
  rw [hq, gat_eq, hk, EReal.coe_mul]

include hq hk in
theorem max_real : ∃ M : ℝ, rMx (rF4 q k) (ix3 b t H) = (M : EReal) := by
  refine rMx_real b t H (rF4 q k) (fun r => ?_) (flat (3, 0)) ?_
  · have hr := r.isLt
    have e : r = flat (⟨r.val / 256, by omega⟩, ⟨r.val % 256, by omega⟩) := Fin.ext (by simp only [flat]; omega)
    rw [e, row_eq q k Q K hq hk]
    split
    · exact EReal.coe_ne_top _
    · exact bot_ne_top
  · rw [row_eq q k Q K hq hk, if_pos (live_own (Moba.blkOf t) (Moba.inOf t) (Moba.spGate Q K b t H) (slotOf q k b t H) (fun j hj => slot_rank q k Q K hq hk b t H j hj) (slot_own q k b t H))]
    exact EReal.coe_ne_bot _

include hq hk in
theorem all_eq (v : FVec Ideal S2x8192x16x64 .f32) : rAll q k v = Moba.kArr Q K (fun b t H d => v (ix4 b t H d)) := by
  funext y
  obtain ⟨b, t, r, rfl⟩ : ∃ (b : Fin 2) (t : Fin 8192) (r : Fin 1024), y = ix3 b t r := ⟨y 0, y 1, y 2, by
    funext a
    match a with
    | ⟨0, _⟩ => rfl
    | ⟨1, _⟩ => rfl
    | ⟨2, _⟩ => rfl⟩
  have hr := r.isLt
  obtain ⟨H, hH⟩ : ∃ H : Fin 16, H = ⟨r.val / 64, by omega⟩ := ⟨_, rfl⟩
  obtain ⟨d, hd⟩ : ∃ d : Fin 64, d = ⟨r.val % 64, by omega⟩ := ⟨_, rfl⟩
  have h := soft_out (Moba.blkOf t) (Moba.inOf t) (Moba.spGate Q K b t H) (slotOf q k b t H) (fun j hj => slot_rank q k Q K hq hk b t H j hj) (slot_own q k b t H)
    (sig Q K (slotOf q k b t H) b t H) (Moba.spScore Q K b t H)
    (fun p => score_exp (fun d => Q b t H d) (fun d => K b (Moba.posOf (slotOf q k b t H p.1, p.2)) H d))
    (fun r => rF4 q k (ix4 b t H r)) (fun p => row_eq q k Q K hq hk b t H p) (rMx (rF4 q k) (ix3 b t H)) (max_real q k Q K hq hk b t H)
    (fun p => v (ix4 b (Moba.posOf p) H d))
  have hk' : Moba.kArr Q K (fun b t H d => v (ix4 b t H d)) (ix3 b t r) = Moba.spOut Q K (fun b t H d => v (ix4 b t H d)) b t H d := by
    rw [hH, hd]; rfl
  rw [hk']
  refine Eq.trans ?_ h
  unfold rAll
  rw [rOut_apply, ← hH, ← hd]
  refine Finset.sum_congr rfl fun j _ => Finset.sum_congr rfl fun kk _ => ?_
  rw [gat_eq, rP_apply, rSum_apply]
  unfold rE4
  rw [rE_apply, Finset.sum_congr rfl fun r _ => rE_apply b t H (rF4 q k) (rMx (rF4 q k)) r]
  rfl
end

end Cert.Proof.Ref
-- ==== Proof.Value.lean ====
/- The call and the reference compute one array. -/
module

public import proofs.«01_k».proof.Proof.Frames
public import proofs.«01_k».proof.Proof.RefArr
public import Idealize.ShloMosaic.Lib.ReduceAll

@[expose] public section

set_option maxRecDepth 16384

noncomputable section

namespace Cert.Proof

open Idealize.ShloMosaic Idealize.ShloMosaic.TcCoe Idealize.ShloMosaic.Tactic Idealize.SL.Sem

/-- The shape relations of the precondition. -/
theorem preFacts : Cert.Pre_finite.Facts := ⟨by decide, by decide, by decide⟩

theorem wtop : Ideal.ofBits FTy.f32 0x7F800000#32 = (⊤ : EReal) := by
  simp [Ideal.ofBits, Ideal.ieee]

/-- An absolute value below `⊤` is that of a real number. -/
theorem abs_real (a : EReal) (h : FloatOps.cmpf (F := Ideal) (φ := .f32) .olt (FloatOps.absf (F := Ideal) (φ := .f32) a) (FloatOps.ofBits (F := Ideal) .f32 0x7F800000#32) = 1#1) : ∃ r : ℝ, a = (r : EReal) := by
  have h' : (FloatOps.absf (F := Ideal) (φ := .f32) a : EReal) < ⊤ := by
    have h2 : FloatOps.cmpf (F := Ideal) (φ := .f32) .olt (FloatOps.absf (F := Ideal) (φ := .f32) a) (⊤ : EReal) = 1#1 := wtop ▸ h
    by_contra hn
    have : FloatOps.cmpf (F := Ideal) (φ := .f32) .olt (FloatOps.absf (F := Ideal) (φ := .f32) a) (⊤ : EReal) = BitVec.ofBool (decide ((FloatOps.absf (F := Ideal) (φ := .f32) a : EReal) < ⊤)) := rfl
    rw [this, decide_eq_false hn] at h2
    exact absurd h2 (by decide)
  induction a using EReal.rec with
  | bot =>
    have h3 : max (⊥ : EReal) (-⊥) < ⊤ := h'
    simp at h3
  | top =>
    have h3 : max (⊤ : EReal) (-⊤) < ⊤ := h'
    simp at h3
  | coe r => exact ⟨r, rfl⟩

/-- Under the precondition the queries and the keys are real numbers. -/
theorem finite_real [Cert.Pre_finite.Facts] (q k v : FVec Ideal Cert.Pre_finite.S2x8192x16x64 .f32) (h : Cert.Pre_finite.fn (F := Ideal) q k v = fun _ => 1#1) :
    (∀ i, ∃ r : ℝ, q i = (r : EReal)) ∧ ∀ i, ∃ r : ℝ, k i = (r : EReal) := by
  have h0 := congrFun h ix0
  unfold Cert.Pre_finite.fn at h0
  obtain ⟨h1, h2⟩ := IntOp.andi_eq_one.1 h0
  haveI : Subsingleton Cert.Pre_finite.S_.Idx := ⟨fun a b => funext fun x => x.elim0⟩
  exact ⟨fun i => abs_real _ (Host.reduce_andi_all _ _ _ _ ix0 h1 i), fun i => abs_real _ (Host.reduce_andi_all _ _ _ _ ix0 h2 i)⟩

/-- An array of real numbers, by its four coordinates. -/
def realOf (x : FVec Ideal Cert.Pre_finite.S2x8192x16x64 .f32) (b : Fin 2) (t : Fin 8192) (H : Fin 16) (d : Fin 64) : ℝ := (x (ix4 b t H d) : EReal).toReal

theorem realOf_eq (x : FVec Ideal Cert.Pre_finite.S2x8192x16x64 .f32) (hx : ∀ i, ∃ r : ℝ, x i = (r : EReal)) (b : Fin 2) (t : Fin 8192) (H : Fin 16) (d : Fin 64) :
    x (ix4 b t H d) = (realOf x b t H d : EReal) := by
  obtain ⟨r, hr⟩ := hx (ix4 b t H d)
  unfold realOf
  rw [hr]
  rfl

/-- The array both programs end with. -/
def value (q k v : FVec Ideal Cert.Pre_finite.S2x8192x16x64 .f32) : FVec Ideal Cert.KernelIdeal.S2x8192x1024 .f32 :=
  Moba.kArr (realOf q) (realOf k) (fun b t H d => v (ix4 b t H d))

theorem algebraic [Cert.Pre_finite.Facts] : Cert.algebraic_KernelIdeal_ReferenceIdeal_pre_finite := fun m g m' g' hpre hargs => by
  refine ⟨fun c => value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · refine (θ_run Cert.KernelIdeal.defs _ _).mono (fun r h c => ?_) (Moba.run_main (F := Ideal) m g)
    obtain ⟨hq, hk⟩ := finite_real _ _ _ (hpre c)
    refine ⟨?_, ((h.1 c).2 Cert.KernelIdeal.main_arg0 (Pipeline.mem_restRefs_of Cert.KernelIdeal.main_arg0 (by decide) (by decide))).trans (Cert.KernelIdeal.Gen.V_main_arg0 m c),
      ((h.1 c).2 Cert.KernelIdeal.main_arg1 (Pipeline.mem_restRefs_of Cert.KernelIdeal.main_arg1 (by decide) (by decide))).trans (Cert.KernelIdeal.Gen.V_main_arg1 m c),
      ((h.1 c).2 Cert.KernelIdeal.main_arg2 (Pipeline.mem_restRefs_of Cert.KernelIdeal.main_arg2 (by decide) (by decide))).trans (Cert.KernelIdeal.Gen.V_main_arg2 m c)⟩
    exact ((h.1 c).1 4).trans (Moba.final m _ _ c (realOf_eq _ hq) (realOf_eq _ hk))
  · refine (θ_run Cert.ReferenceIdeal.defs _ _).mono (fun r h c => ?_) (Cert.ReferenceIdeal.Value.run (F := Ideal) m' g')
    obtain ⟨hq, hk⟩ := finite_real _ _ _ (hpre c)
    obtain ⟨e0, e1, e2⟩ := hargs c
    refine ⟨(h c).1.trans ((Ref.res_eq m' c).trans ?_), (h c).2⟩
    rw [e0, e1, e2]
    exact Ref.all_eq _ _ _ _ (realOf_eq _ hq) (realOf_eq _ hk) _

end Cert.Proof
-- ==== Proof.FPay.lean ====
/- What the feed-forward call's pure sections compute, entry by entry. -/
module

public import proofs.«01_k».proof.Proof.Gen.Kernel2Ideal.Frame
public import Idealize.ShloMosaic.Lib.Pointwise
public import Idealize.ShloMosaic.Lib.Pipeline.ValueKit
public import Idealize.ShloMosaic.PureOps.Ideal
public import Idealize.ShloMosaic.Lib.Tactic

@[expose] public section

set_option maxRecDepth 16384

noncomputable section

namespace Cert.Proof.Ffn

open Idealize.ShloMosaic Idealize.ShloMosaic.TcCoe Idealize.ShloMosaic.Tactic

/-- One row, normalised by its root mean square and modulated. -/
def modRow (h g a b : Fin 1024 → EReal) (k : Fin 1024) : EReal :=
  h k * Ideal.rsqrt (Ideal.div (∑ l, h l * h l) (Ideal.ofBits FTy.f32 1149239296#32) + Ideal.ofBits FTy.f32 897988541#32) * g k * (1 + b k) + a k

/-- The gated hidden row. -/
def actRow (u : Fin 1024 → EReal) (wg wu : Fin 1024 → Fin 2816 → EReal) (f : Fin 2816) : EReal :=
  (∑ k, u k * wg k f) * Ideal.logistic (∑ k, u k * wg k f) * ∑ k, u k * wu k f

/-- The row after the feed-forward step. -/
def outRow (h gt : Fin 1024 → EReal) (act : Fin 2816 → EReal) (wd : Fin 2816 → Fin 1024 → EReal) (y : Fin 1024) : EReal :=
  h y + Ideal.ofBits FTy.f32 1056964608#32 * gt y * ∑ f, act f * wd f y

/-- The feed-forward step of every row: `X` the rows, `A B T` the modulation's shift, scale and gate, `G` the norm's weights. -/
def step (X : Fin 2 → Fin 8192 → Fin 1024 → EReal) (A B T : Fin 2 → Fin 1024 → EReal) (G : Fin 1024 → EReal)
    (WG WU : Fin 1024 → Fin 2816 → EReal) (WD : Fin 2816 → Fin 1024 → EReal) (b : Fin 2) (r : Fin 8192) (y : Fin 1024) : EReal :=
  outRow (X b r) (T b) (actRow (modRow (X b r) G (A b) (B b)) WG WU) WD y

/-- Column `k` of group `n` of the modulation. -/
def colM (n : Fin 9) (k : Fin 1024) : Fin 9216 := ⟨1024 * n.val + k.val, by omega⟩

open Cert.Kernel2Ideal Cert.Kernel2Ideal.Gen

theorem chunk_apply (u : FVec Ideal S1024x1024 .bf16) (v w : FVec Ideal S1x1x1024x256 .bf16) (x : Fin 1024) (j : Fin 256) :
    k0_pay5 (F := Ideal) u v w (ix2 x j) = (∑ k : Fin 1024, (u (ix2 x k) * v (ix4 0 0 k j) : EReal))
      * Ideal.logistic (∑ k : Fin 1024, (u (ix2 x k) * v (ix4 0 0 k j) : EReal)) * ∑ k : Fin 1024, (u (ix2 x k) * w (ix4 0 0 k j) : EReal) := by
  unfold k0_pay5
  pointwise

theorem mod_apply (h : FVec Ideal S1024x1024 .f32) (g : FVec Ideal S1x1024 .f32) (a b : FVec Ideal S1x1x1024 .f32) (x k : Fin 1024) :
    k0_pay2 (F := Ideal) h g a b (ix2 x k)
      = modRow (fun k => h (ix2 x k)) (fun k => g (ix2 0 k)) (fun k => a (ix3 0 0 k)) (fun k => b (ix3 0 0 k)) k := by
  unfold k0_pay2 modRow
  pointwise

theorem down_apply (act : FVec Ideal S1024x2816 .bf16) (wd : FVec Ideal S1x1x2816x512 .bf16) (h : FVec Ideal S1024x512 .f32) (gt : FVec Ideal S1x1x512 .f32) (x : Fin 1024) (j : Fin 512) :
    k0_pay23 (F := Ideal) act wd h gt (ix2 x j)
      = (h (ix2 x j) + Ideal.ofBits FTy.f32 1056964608#32 * gt (ix3 0 0 j) * ∑ f : Fin 2816, act (ix2 x f) * wd (ix4 0 0 f j) : EReal) := by
  unfold k0_pay23
  pointwise

/-! The other sections are these two, cut in other places. -/

section
variable {F : FTy → Type} [FloatOps F] (u : FVec F S1024x1024 .bf16) (v w : FVec F S1x1x1024x256 .bf16)
theorem c0 : k0_pay4 u (k0_pay3 u v) w = k0_pay5 u v w := rfl
theorem c2 : k0_pay7 u (k0_pay6 u v) w = k0_pay5 u v w := rfl
theorem c3 : k0_pay8 u v w = k0_pay5 u v w := rfl
theorem c4 : k0_pay10 u (k0_pay9 u v) w = k0_pay5 u v w := rfl
theorem c5 : k0_pay11 u v w = k0_pay5 u v w := rfl
theorem c6 : k0_pay14 u (k0_pay12 u v) (k0_pay13 w) = k0_pay5 u v w := rfl
theorem c7 : k0_pay15 u v w = k0_pay5 u v w := rfl
theorem c8 : k0_pay18 (k0_pay16 u v) (k0_pay17 u w) = k0_pay5 u v w := rfl
theorem c9 : k0_pay19 u v w = k0_pay5 u v w := rfl
theorem c10 : k0_pay22 (k0_pay20 u w) (k0_pay21 u v) = k0_pay5 u v w := rfl
theorem d1 (act : FVec F S1024x2816 .bf16) (wd : FVec F S1x1x2816x512 .bf16) (h : FVec F S1024x512 .f32) (gt : FVec F S1x1x512 .f32) :
    k0_pay1 (k0_pay24 act wd) (k0_pay25 h) (k0_pay26 gt) (k0_pay27 (F := F)) = k0_pay23 act wd h gt := rfl
end

/-! Over the tile: the sections at whole tiles. -/

section
variable (X0 : FVec Ideal S1024x1024 .f32) (U : FVec Ideal S1024x1024 .bf16) (G5 G6 : FVec Ideal S1x1x1024x2816 .bf16)

/-- The gated hidden tile. -/
def actT : FVec Ideal S1024x2816 .bf16 := fun y =>
  actRow (fun k => U (ix2 (y 0) k)) (fun k f => G5 (ix4 0 0 k f)) (fun k f => G6 (ix4 0 0 k f)) (y 1)

theorem col_lt (o : ℕ) (h2 : ∀ a, (![0, o] : Fin 2 → ℕ) a + S1024x256.size a ≤ S1024x2816.size a) (j : Fin 256) : o + j.val < 2816 := by
  have h : o + 256 ≤ 2816 := h2 1
  have := j.isLt
  omega

theorem ld_chunk (G : FVec Ideal S1x1x1024x2816 .bf16) (o : ℕ) (ho : ∀ a, (![0, 0, 0, o] : Fin 4 → ℕ) a + S1x1x1024x256.size a ≤ S1x1x1024x2816.size a)
    (k : Fin 1024) (j : Fin 256) (hj : o + j.val < 2816) :
    View.ld (Val := Elt Ideal) (e' := .bf16) G (Rect.unit (s := S1x1x1024x2816) ![0, 0, 0, o] S1x1x1024x256.size ho) (ix4 0 0 k j) = G (ix4 0 0 k ⟨o + j.val, hj⟩) := by
  refine congrArg G (funext fun a => Fin.ext ?_)
  match a with
  | ⟨0, _⟩ => rfl
  | ⟨1, _⟩ => rfl
  | ⟨2, _⟩ => exact (Nat.zero_add _).trans (Nat.one_mul _)
  | ⟨3, _⟩ => exact congrArg (o + ·) (Nat.one_mul _)

theorem emb_chunk (o : ℕ) (h2 : ∀ a, (![0, o] : Fin 2 → ℕ) a + S1024x256.size a ≤ S1024x2816.size a) (x : Fin 1024) (j : Fin 256) :
    (Rect.unit (s := S1024x2816) ![0, o] S1024x256.size h2).emb (ix2 x j) = ix2 x ⟨o + j.val, col_lt o h2 j⟩ := by
  funext a
  apply Fin.ext
  match a with
  | ⟨0, _⟩ => exact (Nat.zero_add _).trans (Nat.one_mul _)
  | ⟨1, _⟩ => exact congrArg (o + ·) (Nat.one_mul _)

/-- One chunk of 256 columns of it. -/
theorem chunk_eq (o : ℕ) (ho : ∀ a, (![0, 0, 0, o] : Fin 4 → ℕ) a + S1x1x1024x256.size a ≤ S1x1x1024x2816.size a)
    (h2 : ∀ a, (![0, o] : Fin 2 → ℕ) a + S1024x256.size a ≤ S1024x2816.size a) (x : S1024x256.Idx) :
    k0_pay5 (F := Ideal) U (View.ld (Val := Elt Ideal) (e' := .bf16) G5 (Rect.unit (s := S1x1x1024x2816) ![0, 0, 0, o] S1x1x1024x256.size ho))
        (View.ld (Val := Elt Ideal) (e' := .bf16) G6 (Rect.unit (s := S1x1x1024x2816) ![0, 0, 0, o] S1x1x1024x256.size ho)) x
      = actT U G5 G6 ((Rect.unit (s := S1024x2816) ![0, o] S1024x256.size h2).emb x) := by
  idx_vars x
  rw [chunk_apply, emb_chunk]
  have hs (G : FVec Ideal S1x1x1024x2816 .bf16) :
      (∑ k : Fin 1024, (U (ix2 x0 k) * View.ld (Val := Elt Ideal) (e' := .bf16) G (Rect.unit (s := S1x1x1024x2816) ![0, 0, 0, o] S1x1x1024x256.size ho) (ix4 0 0 k x1) : EReal))
        = ∑ k : Fin 1024, (U (ix2 x0 k) * G (ix4 0 0 k ⟨o + x1.val, col_lt o h2 x1⟩) : EReal) :=
    Finset.sum_congr rfl fun k _ => congrArg (fun z : EReal => (U (ix2 x0 k) : EReal) * z) (ld_chunk G o ho k x1 (col_lt o h2 x1))
  exact congrArg₂ (fun p q : EReal => p * Ideal.logistic p * q) (hs G5) (hs G6)

/-- The stored tile. -/
def outT (X0 : FVec Ideal S1024x1024 .f32) (A : FVec Ideal S1024x2816 .bf16) (D : FVec Ideal S1x1x2816x1024 .bf16) (T : FVec Ideal S1x1x1024 .f32) : FVec Ideal S1024x1024 .f32 := fun y =>
  outRow (fun k => X0 (ix2 (y 0) k)) (fun k => T (ix3 0 0 k)) (fun f => A (ix2 (y 0) f)) (fun f k => D (ix4 0 0 f k)) (y 1)

theorem col_lt' (o : ℕ) (h2 : ∀ a, (![0, o] : Fin 2 → ℕ) a + S1024x512.size a ≤ S1024x1024.size a) (j : Fin 512) : o + j.val < 1024 := by
  have h : o + 512 ≤ 1024 := h2 1
  have := j.isLt
  omega

theorem ld_half (G : FVec Ideal S1x1x2816x1024 .bf16) (o : ℕ) (ho : ∀ a, (![0, 0, 0, o] : Fin 4 → ℕ) a + S1x1x2816x512.size a ≤ S1x1x2816x1024.size a)
    (k : Fin 2816) (j : Fin 512) (hj : o + j.val < 1024) :
    View.ld (Val := Elt Ideal) (e' := .bf16) G (Rect.unit (s := S1x1x2816x1024) ![0, 0, 0, o] S1x1x2816x512.size ho) (ix4 0 0 k j) = G (ix4 0 0 k ⟨o + j.val, hj⟩) := by
  refine congrArg G (funext fun a => Fin.ext ?_)
  match a with
  | ⟨0, _⟩ => rfl
  | ⟨1, _⟩ => rfl
  | ⟨2, _⟩ => exact (Nat.zero_add _).trans (Nat.one_mul _)
  | ⟨3, _⟩ => exact congrArg (o + ·) (Nat.one_mul _)

theorem ld_gate (G : FVec Ideal S1x1x1024 .f32) (o : ℕ) (ho : ∀ a, (![0, 0, o] : Fin 3 → ℕ) a + S1x1x512.size a ≤ S1x1x1024.size a)
    (j : Fin 512) (hj : o + j.val < 1024) :
    View.ld (Val := Elt Ideal) (e' := .f32) G (Rect.unit (s := S1x1x1024) ![0, 0, o] S1x1x512.size ho) (ix3 0 0 j) = G (ix3 0 0 ⟨o + j.val, hj⟩) := by
  refine congrArg G (funext fun a => Fin.ext ?_)
  match a with
  | ⟨0, _⟩ => rfl
  | ⟨1, _⟩ => rfl
  | ⟨2, _⟩ => exact congrArg (o + ·) (Nat.one_mul _)

theorem emb_half (o : ℕ) (h2 : ∀ a, (![0, o] : Fin 2 → ℕ) a + S1024x512.size a ≤ S1024x1024.size a) (x : Fin 1024) (j : Fin 512) :
    (Rect.unit (s := S1024x1024) ![0, o] S1024x512.size h2).emb (ix2 x j) = ix2 x ⟨o + j.val, col_lt' o h2 j⟩ := by
  funext a
  apply Fin.ext
  match a with
  | ⟨0, _⟩ => exact (Nat.zero_add _).trans (Nat.one_mul _)
  | ⟨1, _⟩ => exact congrArg (o + ·) (Nat.one_mul _)

/-- One half of the stored tile. -/
theorem half_eq (A : FVec Ideal S1024x2816 .bf16) (D : FVec Ideal S1x1x2816x1024 .bf16) (T : FVec Ideal S1x1x1024 .f32) (o : ℕ)
    (hd : ∀ a, (![0, 0, 0, o] : Fin 4 → ℕ) a + S1x1x2816x512.size a ≤ S1x1x2816x1024.size a)
    (h2 : ∀ a, (![0, o] : Fin 2 → ℕ) a + S1024x512.size a ≤ S1024x1024.size a)
    (hg : ∀ a, (![0, 0, o] : Fin 3 → ℕ) a + S1x1x512.size a ≤ S1x1x1024.size a) (x : S1024x512.Idx) :
    k0_pay23 (F := Ideal) A (View.ld (Val := Elt Ideal) (e' := .bf16) D (Rect.unit (s := S1x1x2816x1024) ![0, 0, 0, o] S1x1x2816x512.size hd))
        (View.ld (Val := Elt Ideal) (e' := .f32) X0 (Rect.unit (s := S1024x1024) ![0, o] S1024x512.size h2))
        (View.ld (Val := Elt Ideal) (e' := .f32) T (Rect.unit (s := S1x1x1024) ![0, 0, o] S1x1x512.size hg)) x
      = outT X0 A D T ((Rect.unit (s := S1024x1024) ![0, o] S1024x512.size h2).emb x) := by
  idx_vars x
  rw [down_apply, emb_half]
  have hs : (∑ f : Fin 2816, (A (ix2 x0 f) * View.ld (Val := Elt Ideal) (e' := .bf16) D (Rect.unit (s := S1x1x2816x1024) ![0, 0, 0, o] S1x1x2816x512.size hd) (ix4 0 0 f x1) : EReal))
      = ∑ f : Fin 2816, (A (ix2 x0 f) * D (ix4 0 0 f ⟨o + x1.val, col_lt' o h2 x1⟩) : EReal) :=
    Finset.sum_congr rfl fun f _ => congrArg (fun z : EReal => (A (ix2 x0 f) : EReal) * z) (ld_half D o hd f x1 (col_lt' o h2 x1))
  have hx : View.ld (Val := Elt Ideal) (e' := .f32) X0 (Rect.unit (s := S1024x1024) ![0, o] S1024x512.size h2) (ix2 x0 x1) = X0 (ix2 x0 ⟨o + x1.val, col_lt' o h2 x1⟩) :=
    congrArg X0 (emb_half o h2 x0 x1)
  exact congrArg₂ (fun p q : EReal => p + q) hx
    (congrArg₂ (fun p q : EReal => Ideal.ofBits FTy.f32 1056964608#32 * p * q) (ld_gate T o hg x1 (col_lt' o h2 x1)) hs)

end

end Cert.Proof.Ffn

end
-- ==== Proof.FBlk.lean ====
/- The tile the feed-forward call stores at a grid point. -/
module

public import proofs.«01_k».proof.Proof.FPay

@[expose] public section

set_option maxRecDepth 16384

noncomputable section

namespace Cert.Proof.Ffn

open Cert.Kernel2Ideal Cert.Kernel2Ideal.Gen Idealize.ShloMosaic Idealize.ShloMosaic.TcCoe Idealize.ShloMosaic.Tactic

theorem zero2 : (![0, 0] : Fin 2 → ℕ) = fun _ => 0 := by decide
theorem zero3 : (![0, 0, 0] : Fin 3 → ℕ) = fun _ => 0 := by decide

theorem ld_f32 (X : S1024x1024.Idx → Elt Ideal .f32) (h) : View.ld X (Rect.unit (s := S1024x1024) ![0, 0] S1024x1024.size h) = X :=
  View.ld_unit_zero (S := S1024x1024) zero2 h X
theorem ld_row (X : S1x1024.Idx → Elt Ideal .f32) (h) : View.ld X (Rect.unit (s := S1x1024) ![0, 0] S1x1024.size h) = X :=
  View.ld_unit_zero (S := S1x1024) zero2 h X
theorem ld_row3 (X : S1x1x1024.Idx → Elt Ideal .f32) (h) : View.ld X (Rect.unit (s := S1x1x1024) ![0, 0, 0] S1x1x1024.size h) = X :=
  View.ld_unit_zero (S := S1x1x1024) zero3 h X
theorem cov_u {κ : Kind} {sp : Space} (v : View sig κ sp S1024x1024 .bf16) (w : S1024x1024.Idx → Elt Ideal .bf16) (h) :
    v.readCov [(⟨Rect.unit (s := S1024x1024) ![0, 0] S1024x1024.size h, w⟩ : View.Piece (Elt Ideal) S1024x1024 .bf16)] (Rect.unit (s := S1024x1024) ![0, 0] S1024x1024.size h).toLoadRect = w :=
  View.readCov_unit_zero (S := S1024x1024) v zero2 h w

/-- One stored chunk. -/
abbrev pc (U : FVec Ideal S1024x1024 .bf16) (G5 G6 : FVec Ideal S1x1x1024x2816 .bf16) (o : ℕ)
    (ho : ∀ a, (![0, 0, 0, o] : Fin 4 → ℕ) a + S1x1x1024x256.size a ≤ S1x1x1024x2816.size a)
    (h2 : ∀ a, (![0, o] : Fin 2 → ℕ) a + S1024x256.size a ≤ S1024x2816.size a) : View.Piece (Elt Ideal) S1024x2816 .bf16 :=
  ⟨Rect.unit (s := S1024x2816) ![0, o] S1024x256.size h2,
    k0_pay5 (F := Ideal) U (View.ld (Val := Elt Ideal) (e' := .bf16) G5 (Rect.unit (s := S1x1x1024x2816) ![0, 0, 0, o] S1x1x1024x256.size ho))
      (View.ld (Val := Elt Ideal) (e' := .bf16) G6 (Rect.unit (s := S1x1x1024x2816) ![0, 0, 0, o] S1x1x1024x256.size ho))⟩

abbrev pcs (U : FVec Ideal S1024x1024 .bf16) (G5 G6 : FVec Ideal S1x1x1024x2816 .bf16) : List (View.Piece (Elt Ideal) S1024x2816 .bf16) :=
  [pc U G5 G6 2560 inb_S1x1x1024x2816_S1x1x1024x256_0_0_0_2560 inb_S1024x2816_S1024x256_0_2560,
    pc U G5 G6 2304 inb_S1x1x1024x2816_S1x1x1024x256_0_0_0_2304 inb_S1024x2816_S1024x256_0_2304,
    pc U G5 G6 2048 inb_S1x1x1024x2816_S1x1x1024x256_0_0_0_2048 inb_S1024x2816_S1024x256_0_2048,
    pc U G5 G6 1792 inb_S1x1x1024x2816_S1x1x1024x256_0_0_0_1792 inb_S1024x2816_S1024x256_0_1792,
    pc U G5 G6 1536 inb_S1x1x1024x2816_S1x1x1024x256_0_0_0_1536 inb_S1024x2816_S1024x256_0_1536,
    pc U G5 G6 1280 inb_S1x1x1024x2816_S1x1x1024x256_0_0_0_1280 inb_S1024x2816_S1024x256_0_1280,
    pc U G5 G6 1024 inb_S1x1x1024x2816_S1x1x1024x256_0_0_0_1024 inb_S1024x2816_S1024x256_0_1024,
    pc U G5 G6 768 inb_S1x1x1024x2816_S1x1x1024x256_0_0_0_768 inb_S1024x2816_S1024x256_0_768,
    pc U G5 G6 512 inb_S1x1x1024x2816_S1x1x1024x256_0_0_0_512 inb_S1024x2816_S1024x256_0_512,
    pc U G5 G6 256 inb_S1x1x1024x2816_S1x1x1024x256_0_0_0_256 inb_S1024x2816_S1024x256_0_256,
    pc U G5 G6 0 inb_S1x1x1024x2816_S1x1x1024x256_0_0_0_0 inb_S1024x2816_S1024x256_0_0]

theorem pcs_cover (U G5 G6) (y : S1024x2816.Idx) : ∃ p ∈ pcs U G5 G6, y ∈ p.1.set :=
  View.cover_of_tiledL (pcs U G5 G6) S1024x256.size (by sl_kernel_rfl) y

/-- The hidden tile read back after its eleven stores. -/
theorem cov_act {sg : RefSig} {κ : Kind} {sp : Space} (v : View sg κ sp S1024x2816 .bf16) (U G5 G6) (h) :
    v.readCov (pcs U G5 G6) (Rect.unit (s := S1024x2816) ![0, 0] S1024x2816.size h).toLoadRect = actT U G5 G6 := by
  rw [View.readCov_eq_canon_ld _ _ _ (pcs_cover U G5 G6), View.ld_unit_zero (S := S1024x2816) zero2]
  funext y
  refine View.canon_apply_of_pieces _ _ ?_ y (pcs_cover U G5 G6 y)
  intro p hp
  simp only [pcs, List.mem_cons, List.not_mem_nil, or_false] at hp
  rcases hp with rfl | rfl | rfl | rfl | rfl | rfl | rfl | rfl | rfl | rfl | rfl
  · exact chunk_eq U G5 G6 2560 inb_S1x1x1024x2816_S1x1x1024x256_0_0_0_2560 inb_S1024x2816_S1024x256_0_2560
  · exact chunk_eq U G5 G6 2304 inb_S1x1x1024x2816_S1x1x1024x256_0_0_0_2304 inb_S1024x2816_S1024x256_0_2304
  · exact chunk_eq U G5 G6 2048 inb_S1x1x1024x2816_S1x1x1024x256_0_0_0_2048 inb_S1024x2816_S1024x256_0_2048
  · exact chunk_eq U G5 G6 1792 inb_S1x1x1024x2816_S1x1x1024x256_0_0_0_1792 inb_S1024x2816_S1024x256_0_1792
  · exact chunk_eq U G5 G6 1536 inb_S1x1x1024x2816_S1x1x1024x256_0_0_0_1536 inb_S1024x2816_S1024x256_0_1536
  · exact chunk_eq U G5 G6 1280 inb_S1x1x1024x2816_S1x1x1024x256_0_0_0_1280 inb_S1024x2816_S1024x256_0_1280
  · exact chunk_eq U G5 G6 1024 inb_S1x1x1024x2816_S1x1x1024x256_0_0_0_1024 inb_S1024x2816_S1024x256_0_1024
  · exact chunk_eq U G5 G6 768 inb_S1x1x1024x2816_S1x1x1024x256_0_0_0_768 inb_S1024x2816_S1024x256_0_768
  · exact chunk_eq U G5 G6 512 inb_S1x1x1024x2816_S1x1x1024x256_0_0_0_512 inb_S1024x2816_S1024x256_0_512
  · exact chunk_eq U G5 G6 256 inb_S1x1x1024x2816_S1x1x1024x256_0_0_0_256 inb_S1024x2816_S1024x256_0_256
  · exact chunk_eq U G5 G6 0 inb_S1x1x1024x2816_S1x1x1024x256_0_0_0_0 inb_S1024x2816_S1024x256_0_0

theorem outs_eq (m : (ℓ : Loc nD τ sig) → Buf (Elt Ideal) ℓ) (c : Dev nD) (t : Fin cfg0.N) :
    outsAt0 m c t = outT (iblk m c 0 t) (actT (k0_pay2 (F := Ideal) (iblk m c 0 t) (iblk m c 4 t) (iblk m c 1 t) (iblk m c 2 t)) (iblk m c 5 t) (iblk m c 6 t))
      (iblk m c 7 t) (iblk m c 3 t) := by
  unfold outsAt0 out0_A_8
  rw [View.read_writes_eq_canon _ _ _ (cover0_A_8 c _ _ _ _ _ _ _ _ _ _ _ _ _ _ _ _ _ _ _ _ _ _ _ _ _ _ _ _ _ _ _)]
  have hc := cover0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t)
  revert hc
  unfold kernelRun0_A
  dsimp only
  sl_unfold_words
  intro hc
  funext y
  refine View.canon_apply_of_pieces _ _ ?_ y (hc y)
  clear hc
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    c0, c2, c3, c4, c5, c6, c7, c8, c9, c10, d1]
  rw [ld_f32, ld_row, ld_row3, ld_row3, cov_u]
  intro p hp
  simp only [List.mem_cons, List.not_mem_nil, or_false] at hp
  rcases hp with rfl | rfl
  all_goals
    intro x
    refine (congrArg (fun A => k0_pay23 (F := Ideal) A _ _ _ x) (cov_act _ _ _ _ _)).trans ?_
    exact half_eq _ _ _ _ _ _ _ _ x

end Cert.Proof.Ffn

end
-- ==== Proof.FBlocks.lean ====
/- The blocks of a grid point of the feed-forward call, read at their entries in the arguments. -/
module

public import proofs.«01_k».proof.Proof.FBlk

@[expose] public section

set_option maxRecDepth 16384

noncomputable section

namespace Cert.Proof.Ffn

open Cert.Kernel2Ideal Cert.Kernel2Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' indices at a grid point. -/
theorem idx : ∀ t : Fin cfg0.N,
    win0_0.index t = ![(grid0.coords t 0).val, 0]
    ∧ win0_1.index t = ![(grid0.coords t 0).val / 8, 0, 0]
    ∧ win0_2.index t = ![(grid0.coords t 0).val / 8, 0, 1]
    ∧ win0_3.index t = ![(grid0.coords t 0).val / 8, 0, 2]
    ∧ win0_4.index t = ![0, 0]
    ∧ win0_5.index t = ![0, 0, 0, 0]
    ∧ win0_6.index t = ![0, 0, 0, 0]
    ∧ win0_7.index t = ![0, 0, 0, 0]
    ∧ win0_8.index t = ![(grid0.coords t 0).val, 0]
    ∧ (grid0.coords t 0).val < 16 :=
  (by decide +kernel : ∀ t : Fin grid0.N, _)

theorem blk0 (c : Dev nD) (t : Fin cfg0.N) (x k : Fin 1024) (b : Fin 2) (r : Fin 8192)
    (hb : 8192 * b.val + r.val = 1024 * (grid0.coords t 0).val + x.val) :
    (iblk m c 0 t : FVec Ideal S1024x1024 .f32) (ix2 x k) = (m ((c : Thread nD τ).loc main_arg0) : FVec Ideal S2x8192x1024 .f32) (ix3 b r k) := by
  blk_simp [iblk, idx t]
  entry_read
  pointwise
  blk_ext [idx t]

theorem blk1 (c : Dev nD) (t : Fin cfg0.N) (k : Fin 1024) (b : Fin 2) (hb : b.val = (grid0.coords t 0).val / 8) :
    (iblk m c 1 t : FVec Ideal S1x1x1024 .f32) (ix3 0 0 k) = (m ((c : Thread nD τ).loc main_arg1) : FVec Ideal S2x9216 .f32) (ix2 b (colM 0 k)) := by
  blk_simp [iblk, idx t]
  entry_read
  pointwise
  blk_ext [idx t, colM]

theorem blk2 (c : Dev nD) (t : Fin cfg0.N) (k : Fin 1024) (b : Fin 2) (hb : b.val = (grid0.coords t 0).val / 8) :
    (iblk m c 2 t : FVec Ideal S1x1x1024 .f32) (ix3 0 0 k) = (m ((c : Thread nD τ).loc main_arg1) : FVec Ideal S2x9216 .f32) (ix2 b (colM 1 k)) := by
  blk_simp [iblk, idx t]
  entry_read
  pointwise
  blk_ext [idx t, colM]

theorem blk3 (c : Dev nD) (t : Fin cfg0.N) (k : Fin 1024) (b : Fin 2) (hb : b.val = (grid0.coords t 0).val / 8) :
    (iblk m c 3 t : FVec Ideal S1x1x1024 .f32) (ix3 0 0 k) = (m ((c : Thread nD τ).loc main_arg1) : FVec Ideal S2x9216 .f32) (ix2 b (colM 2 k)) := by
  blk_simp [iblk, idx t]
  entry_read
  pointwise
  blk_ext [idx t, colM]

theorem blk4 (c : Dev nD) (t : Fin cfg0.N) (k : Fin 1024) :
    (iblk m c 4 t : FVec Ideal S1x1024 .f32) (ix2 0 k) = (m ((c : Thread nD τ).loc main_arg2) : FVec Ideal S2x3x1024 .f32) (ix3 0 0 k) := by
  blk_simp [iblk, idx t]
  entry_read
  pointwise
  blk_ext [idx t]

theorem blk5 (c : Dev nD) (t : Fin cfg0.N) (k : Fin 1024) (f : Fin 2816) :
    (iblk m c 5 t : FVec Ideal S1x1x1024x2816 .bf16) (ix4 0 0 k f) = (m ((c : Thread nD τ).loc main_arg3) : FVec Ideal S2x2x1024x2816 .f32) (ix4 0 0 k f) := by
  blk_simp [iblk, idx t]
  entry_read
  pointwise
  blk_ext [idx t]

theorem blk6 (c : Dev nD) (t : Fin cfg0.N) (k : Fin 1024) (f : Fin 2816) :
    (iblk m c 6 t : FVec Ideal S1x1x1024x2816 .bf16) (ix4 0 0 k f) = (m ((c : Thread nD τ).loc main_arg4) : FVec Ideal S2x2x1024x2816 .f32) (ix4 0 0 k f) := by
  blk_simp [iblk, idx t]
  entry_read
  pointwise
  blk_ext [idx t]

theorem blk7 (c : Dev nD) (t : Fin cfg0.N) (f : Fin 2816) (k : Fin 1024) :
    (iblk m c 7 t : FVec Ideal S1x1x2816x1024 .bf16) (ix4 0 0 f k) = (m ((c : Thread nD τ).loc main_arg5) : FVec Ideal S2x2x2816x1024 .f32) (ix4 0 0 f k) := by
  blk_simp [iblk, idx t]
  entry_read
  pointwise
  blk_ext [idx t]

end Cert.Proof.Ffn

end
-- ==== Proof.FKArr.lean ====
/- The array the feed-forward call leaves. -/
module

public import proofs.«01_k».proof.Proof.FBlocks
public import proofs.«01_k».proof.Proof.Gen.Kernel2Ideal.Value

@[expose] public section

set_option maxRecDepth 16384

noncomputable section

namespace Cert.Proof.Ffn

open Idealize.ShloMosaic Idealize.ShloMosaic.TcCoe Idealize.SL.Sem
open Idealize.ShloMosaic.Pipeline (Dat)

/-- The step's array over the six arguments, entry by entry. -/
def spec (x : FVec Ideal ⟨3, ![2, 8192, 1024]⟩ .f32) (md : FVec Ideal ⟨2, ![2, 9216]⟩ .f32) (g : FVec Ideal ⟨3, ![2, 3, 1024]⟩ .f32)
    (wg wu : FVec Ideal ⟨4, ![2, 2, 1024, 2816]⟩ .f32) (wd : FVec Ideal ⟨4, ![2, 2, 2816, 1024]⟩ .f32) (b : Fin 2) (r : Fin 8192) (y : Fin 1024) : EReal :=
  step (fun b r k => x (ix3 b r k)) (fun b k => md (ix2 b (colM 0 k))) (fun b k => md (ix2 b (colM 1 k))) (fun b k => md (ix2 b (colM 2 k)))
    (fun k => g (ix3 0 0 k)) (fun k f => wg (ix4 0 0 k f)) (fun k f => wu (ix4 0 0 k f)) (fun f k => wd (ix4 0 0 f k)) b r y

open Cert.Kernel2Ideal Cert.Kernel2Ideal.Gen

variable (m : (ℓ : Loc nD τ sig) → Buf (Elt Ideal) ℓ)

/-- The step over the launch contents. -/
def specM (c : Dev nD) : Fin 2 → Fin 8192 → Fin 1024 → EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem outs_entry (c : Dev nD) (t : Fin cfg0.N) (x y : Fin 1024) (b : Fin 2) (r : Fin 8192)
    (hb : b.val = (grid0.coords t 0).val / 8) (hr : 8192 * b.val + r.val = 1024 * (grid0.coords t 0).val + x.val) :
    outsAt0 m c t (ix2 x y) = specM m c b r y := by
  rw [outs_eq]
  have e0 : (fun k => (iblk m c 0 t : FVec Ideal S1024x1024 .f32) (ix2 x k)) = fun k => (m ((c : Thread nD τ).loc main_arg0) : FVec Ideal S2x8192x1024 .f32) (ix3 b r k) :=
    funext fun k => blk0 m c t x k b r hr
  have e1 := funext fun k => blk1 m c t k b hb
  have e2 := funext fun k => blk2 m c t k b hb
  have e3 := funext fun k => blk3 m c t k b hb
  have e4 := funext fun k => blk4 m c t k
  have e5 := funext fun k => funext fun f => blk5 m c t k f
  have e6 := funext fun k => funext fun f => blk6 m c t k f
  have e7 := funext fun f => funext fun k => blk7 m c t f k
  have eu : (fun k => k0_pay2 (F := Ideal) (iblk m c 0 t) (iblk m c 4 t) (iblk m c 1 t) (iblk m c 2 t) (ix2 x k)) = modRow _ _ _ _ :=
    funext fun k => mod_apply _ _ _ _ x k
  rw [e0, e4, e1, e2] at eu
  show outRow (fun k => (iblk m c 0 t : FVec Ideal S1024x1024 .f32) (ix2 x k)) (fun k => (iblk m c 3 t : FVec Ideal S1x1x1024 .f32) (ix3 0 0 k))
    (actRow (fun k => k0_pay2 (F := Ideal) (iblk m c 0 t) (iblk m c 4 t) (iblk m c 1 t) (iblk m c 2 t) (ix2 x k))
      (fun k f => (iblk m c 5 t : FVec Ideal S1x1x1024x2816 .bf16) (ix4 0 0 k f)) (fun k f => (iblk m c 6 t : FVec Ideal S1x1x1024x2816 .bf16) (ix4 0 0 k f)))
    (fun f k => (iblk m c 7 t : FVec Ideal S1x1x2816x1024 .bf16) (ix4 0 0 f k)) y = _
  rw [e0, e3, eu, e5, e6, e7]
  rfl

/-- The result array. -/
def kArr (S : Fin 2 → Fin 8192 → Fin 1024 → EReal) : FVec Ideal S16384x1024 .f32 := fun j =>
  S ⟨(j 0).val / 8192, by have := (j 0).isLt; change _ < 16384 at this; omega⟩ ⟨(j 0).val % 8192, by omega⟩ (j 1)

theorem final (c : Dev nD) : (dats m 0 c).arrAt 8 cfg0.N = kArr (specM m c) := by
  refine (dats m 0 c).arrAt_eq_of_covers 8 _ (by decide +kernel) fun t _ y => ?_
  blk_simp
  rw [after0_8]
  idx_vars y
  obtain ⟨-, -, -, -, -, -, -, -, i8, hc0⟩ := idx t
  have e0 : ((((View.whole main_v8).slice (win0_8.rect t)).emb (ix2 y0 y1)) 0).val = (grid0.coords t 0).val * 1024 + y0.val := by blk_simp [i8]
  have e1 : ((((View.whole main_v8).slice (win0_8.rect t)).emb (ix2 y0 y1)) 1).val = y1.val := by blk_simp [i8]
  refine (outs_entry m c t y0 y1 ⟨(grid0.coords t 0).val / 8, by omega⟩ ⟨(grid0.coords t 0).val % 8 * 1024 + y0.val, by omega⟩ rfl (by simp only; omega)).trans ?_
  unfold kArr
  have hsp : ∀ b b' r r' y y', b = b' → r = r' → y = y' → specM m c b r y = specM m c b' r' y' := by
    rintro b b' r r' y y' rfl rfl rfl; rfl
  refine hsp _ _ _ _ _ _ (Fin.ext ?_) (Fin.ext ?_) (Fin.ext e1.symm)
  · simp only [e0]; omega
  · simp only [e0]; omega

end Cert.Proof.Ffn

end
-- ==== Proof.FRef.lean ====
/- The reference of the feed-forward step, entry by entry. -/
module

public import proofs.«01_k».proof.Proof.FKArr
public import proofs.«01_k».proof.Proof.Gen.Reference2Ideal.Run

@[expose] public section

set_option maxRecDepth 16384

noncomputable section

namespace Cert.Proof.Ffn

open Cert.Reference2Ideal Cert.Reference2Ideal.Gen Cert.Reference2Ideal.Value
open Idealize.ShloMosaic Idealize.ShloMosaic.TcCoe Idealize.ShloMosaic.Tactic

/-- The normalised and modulated rows. -/
def rU (A0 : FVec Ideal S2x8192x1024 .f32) (A1 : FVec Ideal S2x9216 .f32) (A2 : FVec Ideal S2x3x1024 .f32) : FVec Ideal S2x8192x1024 .f32 :=
  (addf (mulf (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1x1024 ![0, 0, 0] A2 slices_S2x3x1024_S1x1x1024_0_0_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1x1024 ![0, 0, 1, 0] (shapeCast _ A1 shapeCasts_S2x9216_S2x3x3x1024) slices_S2x3x3x1024_S2x1x1x1024_0_0_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1x1024 ![0, 0, 0, 0] (shapeCast _ A1 shapeCasts_S2x9216_S2x3x3x1024) slices_S2x3x3x1024_S2x1x1x1024_0_0_0_0) shapeCasts_S2x1x1x1024_S2x1024))))

/-- The gated hidden rows. -/
def rH (U : FVec Ideal S2x8192x1024 .f32) (A3 : FVec Ideal S2x2x1024x2816 .f32) (A4 : FVec Ideal S2x2x1024x2816 .f32) : FVec Ideal S2x8192x2816 .f32 :=
  (mulf (mulf (Host.dotGeneral dot_S2x8192x1024_S1024x2816_S2x8192x2816_2_0_01_1_n_n none U (shapeCast _ (extractStridedSlice S1x1x1024x2816 ![0, 0, 0, 0] A3 slices_S2x2x1024x2816_S1x1x1024x2816_0_0_0_0) shapeCasts_S1x1x1024x2816_S1024x2816)) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none U (shapeCast _ (extractStridedSlice S1x1x1024x2816 ![0, 0, 0, 0] A3 slices_S2x2x1024x2816_S1x1x1024x2816_0_0_0_0) shapeCasts_S1x1x1024x2816_S1024x2816))))))) (Host.dotGeneral dot_S2x8192x1024_S1024x2816_S2x8192x2816_2_0_01_1_n_n none U (shapeCast _ (extractStridedSlice S1x1x1024x2816 ![0, 0, 0, 0] A4 slices_S2x2x1024x2816_S1x1x1024x2816_0_0_0_0) shapeCasts_S1x1x1024x2816_S1024x2816)))

/-- The rows after the step, in one list. -/
def rO (A0 : FVec Ideal S2x8192x1024 .f32) (A1 : FVec Ideal S2x9216 .f32) (H : FVec Ideal S2x8192x2816 .f32) (A5 : FVec Ideal S2x2x2816x1024 .f32) : FVec Ideal S16384x1024 .f32 :=
  shapeCast _ (addf A0 (mulf (broadcastInDim S2x8192x1024 ![0, 1, 2] bcast_S2x1x1024_S2x8192x1024_0_1_2 (mulf (broadcastInDim S2x1x1024 ![] bcast_S_S2x1x1024 (constant S_ .f32 0x3F000000#32)) (broadcastInDim S2x1x1024 ![0, 2] bcast_S2x1024_S2x1x1024_0_2 (shapeCast _ (extractStridedSlice S2x1x1x1024 ![0, 0, 2, 0] (shapeCast _ A1 shapeCasts_S2x9216_S2x3x3x1024) slices_S2x3x3x1024_S2x1x1x1024_0_0_2_0) shapeCasts_S2x1x1x1024_S2x1024)))) (Host.dotGeneral dot_S2x8192x2816_S2816x1024_S2x8192x1024_2_0_01_1_n_n none H (shapeCast _ (extractStridedSlice S1x1x2816x1024 ![0, 0, 0, 0] A5 slices_S2x2x2816x1024_S1x1x2816x1024_0_0_0_0) shapeCasts_S1x1x2816x1024_S2816x1024)))) shapeCasts_S2x8192x1024_S16384x1024

theorem rU_apply (A0 : FVec Ideal S2x8192x1024 .f32) (A1 : FVec Ideal S2x9216 .f32) (A2 : FVec Ideal S2x3x1024 .f32) (b : Fin 2) (r : Fin 8192) (k : Fin 1024) : rU A0 A1 A2 (ix3 b r k)
    = modRow (fun k => A0 (ix3 b r k)) (fun k => A2 (ix3 0 0 k)) (fun k => A1 (ix2 b (colM 0 k))) (fun k => A1 (ix2 b (colM 1 k))) k := by
  pointwise [rU, modRow]
  rw [show colM 1 k = ⟨1024 + k.val, by omega⟩ from Fin.ext (by simp [colM]), show colM 0 k = ⟨k.val, by omega⟩ from Fin.ext (by simp [colM])]

theorem rH_apply (U : FVec Ideal S2x8192x1024 .f32) (A3 : FVec Ideal S2x2x1024x2816 .f32) (A4 : FVec Ideal S2x2x1024x2816 .f32) (b : Fin 2) (r : Fin 8192) (f : Fin 2816) : rH U A3 A4 (ix3 b r f)
    = actRow (fun k => U (ix3 b r k)) (fun k f => A3 (ix4 0 0 k f)) (fun k f => A4 (ix4 0 0 k f)) f := by
  pointwise [rH, actRow]
  rfl

theorem seq_lt (R : Fin 16384) : R.val / 8192 < 2 := by omega
theorem pos_lt (R : Fin 16384) : R.val % 8192 < 8192 := by omega

theorem rO_apply (A0 : FVec Ideal S2x8192x1024 .f32) (A1 : FVec Ideal S2x9216 .f32) (H : FVec Ideal S2x8192x2816 .f32) (A5 : FVec Ideal S2x2x2816x1024 .f32) (R : Fin 16384) (y : Fin 1024) (b : Fin 2) (r : Fin 8192)
    (hb : b.val = R.val / 8192) (hr : r.val = R.val % 8192) : rO A0 A1 H A5 (ix2 R y)
    = outRow (fun k => A0 (ix3 b r k)) (fun k => A1 (ix2 b (colM 2 k))) (fun f => H (ix3 b r f)) (fun f k => A5 (ix4 0 0 f k)) y := by
  pointwise [rO, outRow]
  obtain rfl : b = ⟨R.val / 8192, seq_lt R⟩ := Fin.ext hb
  obtain rfl : r = ⟨R.val % 8192, pos_lt R⟩ := Fin.ext hr
  rw [show colM 2 y = ⟨2048 + y.val, by omega⟩ from Fin.ext (by simp [colM])]

set_option maxHeartbeats 2000000 in
theorem res_eq (m : (ℓ : Loc nD τ sig) → Buf (Elt Ideal) ℓ) (c : Dev nD) :
    res_out0 (F := Ideal) m c = rO (m ((c.tc : Thread nD τ).loc main_arg0)) (m ((c.tc : Thread nD τ).loc main_arg1))
      (rH (rU (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))) (m ((c.tc : Thread nD τ).loc main_arg5)) := by
  sl_kernel_rfl

/-- The reference's array. -/
theorem ref_arr (A0 : FVec Ideal S2x8192x1024 .f32) (A1 : FVec Ideal S2x9216 .f32) (A2 : FVec Ideal S2x3x1024 .f32) (A3 : FVec Ideal S2x2x1024x2816 .f32) (A4 : FVec Ideal S2x2x1024x2816 .f32) (A5 : FVec Ideal S2x2x2816x1024 .f32) : rO A0 A1 (rH (rU A0 A1 A2) A3 A4) A5 = kArr (spec A0 A1 A2 A3 A4 A5) := by
  funext j
  idx_vars j
  rw [rO_apply A0 A1 _ A5 j0 j1 ⟨j0.val / 8192, by omega⟩ ⟨j0.val % 8192, by omega⟩ rfl rfl]
  have eh : (fun f => rH (rU A0 A1 A2) A3 A4 (ix3 ⟨j0.val / 8192, by omega⟩ ⟨j0.val % 8192, by omega⟩ f)) = actRow _ _ _ :=
    funext fun f => rH_apply (rU A0 A1 A2) A3 A4 _ _ f
  have eu : (fun k => rU A0 A1 A2 (ix3 ⟨j0.val / 8192, by omega⟩ ⟨j0.val % 8192, by omega⟩ k)) = modRow _ _ _ _ :=
    funext fun k => rU_apply A0 A1 A2 _ _ k
  rw [eu] at eh
  rw [eh]
  rfl

end Cert.Proof.Ffn

end
-- ==== Proof.FValue.lean ====
/- The feed-forward step: the frames, and the value both programs end with. -/
module

public import proofs.«01_k».proof.Defs
public import proofs.«01_k».proof.Proof.Gen.Kernel2
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FKArr
public import proofs.«01_k».proof.Proof.FRef
public import Idealize.ShloMosaic.Lib.Quiescent
public import Idealize.ShloMosaic.Lib.Tactic

@[expose] public section

noncomputable section

namespace Cert.Proof.Ffn

open Idealize.ShloMosaic Idealize.ShloMosaic.Tactic Idealize.SL.Sem

theorem frame_kernel2Ideal : Cert.quiescent_Kernel2Ideal := fun m ρ _ => Cert.Kernel2Ideal.Gen.frame (F := Ideal) m ρ

/-- The frame's statement for the idealized text, read over the machine's own floats. -/
def quiescentBits2 : Prop :=
  ∀ (m : (ℓ : Loc Cert.Kernel2Ideal.nD Cert.Kernel2Ideal.τ Cert.Kernel2Ideal.sig) → Buf (Elt Bits) ℓ) (g : Dev Cert.Kernel2Ideal.nD → PrngReg), True →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

theorem quiescentBits2_holds : quiescentBits2 := fun m ρ _ => Cert.Kernel2Ideal.Gen.frame (F := Bits) m ρ

/-- The two texts are one program over the machine's own floats. -/
theorem texts_same2 : Cert.quiescent_Kernel2 = quiescentBits2 := by sl_kernel_rfl

theorem frame_kernel2 : Cert.quiescent_Kernel2 := texts_same2 ▸ quiescentBits2_holds

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic2 : Cert.algebraic_Kernel2Ideal_Reference2Ideal := fun m g m' g' _ hargs => by
  refine ⟨fun c => kArr (specM m c), ?_, ?_⟩
  · exact (θ_run Cert.Kernel2Ideal.defs _ _).mono (fun r h c => ⟨(h c).1.trans (final m c), (h c).2⟩) (Cert.Kernel2Ideal.Value.run_blocks (F := Ideal) m g)
  · refine (θ_run Cert.Reference2Ideal.defs _ _).mono (fun r h c => ?_) (Cert.Reference2Ideal.Value.run (F := Ideal) m' g')
    obtain ⟨e0, e1, e2, e3, e4, e5⟩ := hargs c
    refine ⟨(h c).1.trans ((res_eq m' c).trans ?_), (h c).2⟩
    rw [e0, e1, e2, e3, e4, e5]
    exact ref_arr _ _ _ _ _ _

end Cert.Proof.Ffn

end
-- ==== Proof.GBlk.lean ====
/- The tile the feed-forward call that ends with the final norm stores at a grid point. -/
module

public import proofs.«01_k».proof.Proof.FBlk
public import proofs.«01_k».proof.Proof.Gen.Kernel3Ideal.Frame

@[expose] public section

set_option maxRecDepth 16384

noncomputable section

namespace Cert.Proof.Last

open Cert.Kernel3Ideal Cert.Kernel3Ideal.Gen Idealize.ShloMosaic Idealize.ShloMosaic.TcCoe Idealize.ShloMosaic.Tactic
open Cert.Proof.Ffn (modRow actRow outRow colM actT outT zero2 zero3 ld_f32 ld_row ld_row3 cov_u cov_act half_eq)

/-- One row, normalised by its root mean square. -/
def normRow (h g : Fin 1024 → EReal) (k : Fin 1024) : EReal :=
  h k * Ideal.rsqrt (Ideal.div (∑ l, h l * h l) (Ideal.ofBits FTy.f32 1149239296#32) + Ideal.ofBits FTy.f32 897988541#32) * g k

theorem norm_apply (h : FVec Ideal S1024x1024 .f32) (g : FVec Ideal S1x1024 .f32) (x k : Fin 1024) :
    k0_pay2 (F := Ideal) h g (ix2 x k) = normRow (fun k => h (ix2 x k)) (fun k => g (ix2 0 k)) k := by
  unfold k0_pay2 normRow
  pointwise

/-! The sections before the final norm are those of the step without it. -/

section
variable {F : FTy → Type} [FloatOps F] (u : FVec F S1024x1024 .bf16) (v w : FVec F S1x1x1024x256 .bf16)
theorem m0 (h : FVec F S1024x1024 .f32) (g : FVec F S1x1024 .f32) (a b : FVec F S1x1x1024 .f32) :
    k0_pay3 h g a b = Cert.Kernel2Ideal.Gen.k0_pay2 h g a b := rfl
theorem c0 : k0_pay5 u (k0_pay4 u v) w = Cert.Kernel2Ideal.Gen.k0_pay5 u v w := rfl
theorem c1 : k0_pay6 u v w = Cert.Kernel2Ideal.Gen.k0_pay5 u v w := rfl
theorem c2 : k0_pay8 u (k0_pay7 u v) w = Cert.Kernel2Ideal.Gen.k0_pay5 u v w := rfl
theorem c3 : k0_pay9 u v w = Cert.Kernel2Ideal.Gen.k0_pay5 u v w := rfl
theorem c4 : k0_pay11 u (k0_pay10 u v) w = Cert.Kernel2Ideal.Gen.k0_pay5 u v w := rfl
theorem c5 : k0_pay12 u v w = Cert.Kernel2Ideal.Gen.k0_pay5 u v w := rfl
theorem c6 : k0_pay15 u (k0_pay13 u v) (k0_pay14 w) = Cert.Kernel2Ideal.Gen.k0_pay5 u v w := rfl
theorem c7 : k0_pay16 u v w = Cert.Kernel2Ideal.Gen.k0_pay5 u v w := rfl
theorem c8 : k0_pay19 (k0_pay17 u v) (k0_pay18 u w) = Cert.Kernel2Ideal.Gen.k0_pay5 u v w := rfl
theorem c9 : k0_pay20 u v w = Cert.Kernel2Ideal.Gen.k0_pay5 u v w := rfl
theorem c10 : k0_pay23 (k0_pay21 u w) (k0_pay22 u v) = Cert.Kernel2Ideal.Gen.k0_pay5 u v w := rfl
variable (act : FVec F S1024x2816 .bf16) (wd : FVec F S1x1x2816x512 .bf16) (h : FVec F S1024x512 .f32) (gt : FVec F S1x1x512 .f32)
theorem d0 : k0_pay24 act wd h gt = Cert.Kernel2Ideal.Gen.k0_pay23 act wd h gt := rfl
theorem d1 : k0_pay1 (k0_pay25 act wd) (k0_pay26 h) (k0_pay27 gt) (k0_pay28 (F := F)) = Cert.Kernel2Ideal.Gen.k0_pay23 act wd h gt := rfl
end

/-- One stored half. -/
abbrev ph (X0 : FVec Ideal S1024x1024 .f32) (A : FVec Ideal S1024x2816 .bf16) (D : FVec Ideal S1x1x2816x1024 .bf16) (T : FVec Ideal S1x1x1024 .f32) (o : ℕ)
    (hd : ∀ a, (![0, 0, 0, o] : Fin 4 → ℕ) a + S1x1x2816x512.size a ≤ S1x1x2816x1024.size a)
    (h2 : ∀ a, (![0, o] : Fin 2 → ℕ) a + S1024x512.size a ≤ S1024x1024.size a)
    (hg : ∀ a, (![0, 0, o] : Fin 3 → ℕ) a + S1x1x512.size a ≤ S1x1x1024.size a) : View.Piece (Elt Ideal) S1024x1024 .f32 :=
  ⟨Rect.unit (s := S1024x1024) ![0, o] S1024x512.size h2,
    Cert.Kernel2Ideal.Gen.k0_pay23 (F := Ideal) A (View.ld (Val := Elt Ideal) (e' := .bf16) D (Rect.unit (s := S1x1x2816x1024) ![0, 0, 0, o] S1x1x2816x512.size hd))
        (View.ld (Val := Elt Ideal) (e' := .f32) X0 (Rect.unit (s := S1024x1024) ![0, o] S1024x512.size h2))
        (View.ld (Val := Elt Ideal) (e' := .f32) T (Rect.unit (s := S1x1x1024) ![0, 0, o] S1x1x512.size hg))⟩

abbrev phs (X0 : FVec Ideal S1024x1024 .f32) (A : FVec Ideal S1024x2816 .bf16) (D : FVec Ideal S1x1x2816x1024 .bf16) (T : FVec Ideal S1x1x1024 .f32) : List (View.Piece (Elt Ideal) S1024x1024 .f32) :=
  [ph X0 A D T 512 inb_S1x1x2816x1024_S1x1x2816x512_0_0_0_512 inb_S1024x1024_S1024x512_0_512 inb_S1x1x1024_S1x1x512_0_0_512,
    ph X0 A D T 0 inb_S1x1x2816x1024_S1x1x2816x512_0_0_0_0 inb_S1024x1024_S1024x512_0_0 inb_S1x1x1024_S1x1x512_0_0_0]

theorem phs_cover (X0 A D T) (y : S1024x1024.Idx) : ∃ p ∈ phs X0 A D T, y ∈ p.1.set :=
  View.cover_of_tiledL (phs X0 A D T) S1024x512.size (by sl_kernel_rfl) y

/-- The stream's tile read back after its two stores. -/
theorem cov_out {κ : Kind} {sp : Space} (v : View sig κ sp S1024x1024 .f32) (X0 A D T) (h) :
    v.readCov (phs X0 A D T) (Rect.unit (s := S1024x1024) ![0, 0] S1024x1024.size h).toLoadRect = outT X0 A D T := by
  rw [View.readCov_eq_canon_ld _ _ _ (phs_cover X0 A D T), View.ld_unit_zero (S := S1024x1024) zero2]
  funext y
  refine View.canon_apply_of_pieces _ _ ?_ y (phs_cover X0 A D T y)
  intro p hp
  simp only [phs, List.mem_cons, List.not_mem_nil, or_false] at hp
  rcases hp with rfl | rfl
  · exact half_eq X0 A D T 512 inb_S1x1x2816x1024_S1x1x2816x512_0_0_0_512 inb_S1024x1024_S1024x512_0_512 inb_S1x1x1024_S1x1x512_0_0_512
  · exact half_eq X0 A D T 0 inb_S1x1x2816x1024_S1x1x2816x512_0_0_0_0 inb_S1024x1024_S1024x512_0_0 inb_S1x1x1024_S1x1x512_0_0_0

theorem cov_u3 {κ : Kind} {sp : Space} (v : View sig κ sp S1024x1024 .bf16) (w : S1024x1024.Idx → Elt Ideal .bf16) (h) :
    v.readCov [(⟨Rect.unit (s := S1024x1024) ![0, 0] S1024x1024.size h, w⟩ : View.Piece (Elt Ideal) S1024x1024 .bf16)] (Rect.unit (s := S1024x1024) ![0, 0] S1024x1024.size h).toLoadRect = w :=
  View.readCov_unit_zero (S := S1024x1024) v zero2 h w

theorem canon_last (w : S1024x1024.Idx → Elt Ideal .f32) (h) (L : List (View.Piece (Elt Ideal) S1024x1024 .f32)) :
    View.canon ((⟨Rect.unit (s := S1024x1024) ![0, 0] S1024x1024.size h, w⟩ : View.Piece (Elt Ideal) S1024x1024 .f32) :: L) = w :=
  View.canon_cons_unit_zero (S := S1024x1024) zero2 h w L

theorem outs_eq (m : (ℓ : Loc nD τ sig) → Buf (Elt Ideal) ℓ) (c : Dev nD) (t : Fin cfg0.N) :
    outsAt0 m c t = k0_pay2 (F := Ideal) (outT (iblk m c 0 t) (actT (Cert.Kernel2Ideal.Gen.k0_pay2 (F := Ideal) (iblk m c 0 t) (iblk m c 4 t) (iblk m c 1 t) (iblk m c 2 t)) (iblk m c 5 t) (iblk m c 6 t))
      (iblk m c 7 t) (iblk m c 3 t)) (iblk m c 8 t) := by
  unfold outsAt0 out0_A_9
  rw [View.read_writes_eq_canon _ _ _ (cover0_A_9 c _ _ _ _ _ _ _ _ _ _ _ _ _ _ _ _ _ _ _ _ _ _ _ _ _ _ _ _ _ _ _ _ _ _)]
  unfold kernelRun0_A
  dsimp only
  sl_unfold_words
  rw [canon_last]
  simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread,
    m0, c0, c1, c2, c3, c4, c5, c6, c7, c8, c9, c10, d0, d1]
  refine congrArg₂ (k0_pay2 (F := Ideal)) ?_ ?_
  · rw [ld_f32, ld_row, ld_row3, ld_row3, cov_u3]
    have e := cov_act scM0_1.view (Cert.Kernel2Ideal.Gen.k0_pay2 (F := Ideal) (iblk m c 0 t) (iblk m c 4 t) (iblk m c 1 t) (iblk m c 2 t)) (iblk m c 5 t) (iblk m c 6 t) inb_S1024x2816_S1024x2816_0_0
    rw [e]
    exact cov_out _ _ _ _ _ _
  · exact ld_row _ _

end Cert.Proof.Last

end
-- ==== Proof.GBlocks.lean ====
/- The blocks of a grid point of the feed-forward call that ends with the final norm, read at their entries in the arguments. -/
module

public import proofs.«01_k».proof.Proof.GBlk

@[expose] public section

set_option maxRecDepth 16384

noncomputable section

namespace Cert.Proof.Last

open Cert.Kernel3Ideal Cert.Kernel3Ideal.Gen
open Idealize.ShloMosaic Idealize.ShloMosaic.TcCoe Idealize.SL.Sem
open Idealize.ShloMosaic.Pipeline (Dat)

open Cert.Proof.Ffn (colM)

variable (m : (ℓ : Loc nD τ sig) → Buf (Elt Ideal) ℓ)

/-- The blocks' indices at a grid point. -/
theorem idx : ∀ t : Fin cfg0.N,
    win0_0.index t = ![(grid0.coords t 0).val, 0]
    ∧ win0_1.index t = ![(grid0.coords t 0).val / 8, 0, 6]
    ∧ win0_2.index t = ![(grid0.coords t 0).val / 8, 0, 7]
    ∧ win0_3.index t = ![(grid0.coords t 0).val / 8, 0, 8]
    ∧ win0_4.index t = ![0, 0]
    ∧ win0_5.index t = ![1, 1, 0, 0]
    ∧ win0_6.index t = ![1, 1, 0, 0]
    ∧ win0_7.index t = ![1, 1, 0, 0]
    ∧ win0_8.index t = ![0, 0]
    ∧ win0_9.index t = ![(grid0.coords t 0).val, 0]
    ∧ (grid0.coords t 0).val < 16 :=
  (by decide +kernel : ∀ t : Fin grid0.N, _)

theorem blk0 (c : Dev nD) (t : Fin cfg0.N) (x k : Fin 1024) (b : Fin 2) (r : Fin 8192)
    (hb : 8192 * b.val + r.val = 1024 * (grid0.coords t 0).val + x.val) :
    (iblk m c 0 t : FVec Ideal S1024x1024 .f32) (ix2 x k) = (m ((c : Thread nD τ).loc main_arg0) : FVec Ideal S2x8192x1024 .f32) (ix3 b r k) := by
  blk_simp [iblk, idx t]
  entry_read
  pointwise
  blk_ext [idx t]

theorem blk1 (c : Dev nD) (t : Fin cfg0.N) (k : Fin 1024) (b : Fin 2) (hb : b.val = (grid0.coords t 0).val / 8) :
    (iblk m c 1 t : FVec Ideal S1x1x1024 .f32) (ix3 0 0 k) = (m ((c : Thread nD τ).loc main_arg1) : FVec Ideal S2x9216 .f32) (ix2 b (colM 6 k)) := by
  blk_simp [iblk, idx t]
  entry_read
  pointwise
  blk_ext [idx t, colM]

theorem blk2 (c : Dev nD) (t : Fin cfg0.N) (k : Fin 1024) (b : Fin 2) (hb : b.val = (grid0.coords t 0).val / 8) :
    (iblk m c 2 t : FVec Ideal S1x1x1024 .f32) (ix3 0 0 k) = (m ((c : Thread nD τ).loc main_arg1) : FVec Ideal S2x9216 .f32) (ix2 b (colM 7 k)) := by
  blk_simp [iblk, idx t]
  entry_read
  pointwise
  blk_ext [idx t, colM]

theorem blk3 (c : Dev nD) (t : Fin cfg0.N) (k : Fin 1024) (b : Fin 2) (hb : b.val = (grid0.coords t 0).val / 8) :
    (iblk m c 3 t : FVec Ideal S1x1x1024 .f32) (ix3 0 0 k) = (m ((c : Thread nD τ).loc main_arg1) : FVec Ideal S2x9216 .f32) (ix2 b (colM 8 k)) := by
  blk_simp [iblk, idx t]
  entry_read
  pointwise
  blk_ext [idx t, colM]

theorem blk4 (c : Dev nD) (t : Fin cfg0.N) (k : Fin 1024) :
    (iblk m c 4 t : FVec Ideal S1x1024 .f32) (ix2 0 k) = (m ((c : Thread nD τ).loc main_arg2) : FVec Ideal S2x3x1024 .f32) (ix3 1 2 k) := by
  blk_simp [iblk, idx t]
  entry_read
  pointwise
  blk_ext [idx t]

theorem blk5 (c : Dev nD) (t : Fin cfg0.N) (k : Fin 1024) (f : Fin 2816) :
    (iblk m c 5 t : FVec Ideal S1x1x1024x2816 .bf16) (ix4 0 0 k f) = (m ((c : Thread nD τ).loc main_arg3) : FVec Ideal S2x2x1024x2816 .f32) (ix4 1 1 k f) := by
  blk_simp [iblk, idx t]
  entry_read
  pointwise
  blk_ext [idx t]

theorem blk6 (c : Dev nD) (t : Fin cfg0.N) (k : Fin 1024) (f : Fin 2816) :
    (iblk m c 6 t : FVec Ideal S1x1x1024x2816 .bf16) (ix4 0 0 k f) = (m ((c : Thread nD τ).loc main_arg4) : FVec Ideal S2x2x1024x2816 .f32) (ix4 1 1 k f) := by
  blk_simp [iblk, idx t]
  entry_read
  pointwise
  blk_ext [idx t]

theorem blk7 (c : Dev nD) (t : Fin cfg0.N) (f : Fin 2816) (k : Fin 1024) :
    (iblk m c 7 t : FVec Ideal S1x1x2816x1024 .bf16) (ix4 0 0 f k) = (m ((c : Thread nD τ).loc main_arg5) : FVec Ideal S2x2x2816x1024 .f32) (ix4 1 1 f k) := by
  blk_simp [iblk, idx t]
  entry_read
  pointwise
  blk_ext [idx t]

theorem blk8 (c : Dev nD) (t : Fin cfg0.N) (k : Fin 1024) :
    (iblk m c 8 t : FVec Ideal S1x1024 .f32) (ix2 0 k) = (m ((c : Thread nD τ).loc main_arg6) : FVec Ideal S1024 .f32) (ix1 k) := by
  blk_simp [iblk, idx t]
  entry_read
  pointwise
  blk_ext [idx t]

end Cert.Proof.Last

end
-- ==== Proof.GKArr.lean ====
/- The array the feed-forward call that ends with the final norm leaves. -/
module

public import proofs.«01_k».proof.Proof.GBlocks
public import proofs.«01_k».proof.Proof.Gen.Kernel3Ideal.Value

@[expose] public section

set_option maxRecDepth 16384

noncomputable section

namespace Cert.Proof.Last

open Idealize.ShloMosaic Idealize.ShloMosaic.TcCoe Idealize.SL.Sem
open Idealize.ShloMosaic.Pipeline (Dat)

open Cert.Proof.Ffn (modRow actRow outRow step colM mod_apply actT outT)

/-- The array over the seven arguments, entry by entry. -/
def spec (x : FVec Ideal ⟨3, ![2, 8192, 1024]⟩ .f32) (md : FVec Ideal ⟨2, ![2, 9216]⟩ .f32) (g : FVec Ideal ⟨3, ![2, 3, 1024]⟩ .f32)
    (wg wu : FVec Ideal ⟨4, ![2, 2, 1024, 2816]⟩ .f32) (wd : FVec Ideal ⟨4, ![2, 2, 2816, 1024]⟩ .f32) (fg : FVec Ideal ⟨1, ![1024]⟩ .f32) (b : Fin 2) (r : Fin 8192) (y : Fin 1024) : EReal :=
  normRow (step (fun b r k => x (ix3 b r k)) (fun b k => md (ix2 b (colM 6 k))) (fun b k => md (ix2 b (colM 7 k))) (fun b k => md (ix2 b (colM 8 k)))
    (fun k => g (ix3 1 2 k)) (fun k f => wg (ix4 1 1 k f)) (fun k f => wu (ix4 1 1 k f)) (fun f k => wd (ix4 1 1 f k)) b r) (fun k => fg (ix1 k)) y

open Cert.Kernel3Ideal Cert.Kernel3Ideal.Gen

variable (m : (ℓ : Loc nD τ sig) → Buf (Elt Ideal) ℓ)

/-- The step over the launch contents. -/
def specM (c : Dev nD) : Fin 2 → Fin 8192 → Fin 1024 → EReal :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem outs_entry (c : Dev nD) (t : Fin cfg0.N) (x y : Fin 1024) (b : Fin 2) (r : Fin 8192)
    (hb : b.val = (grid0.coords t 0).val / 8) (hr : 8192 * b.val + r.val = 1024 * (grid0.coords t 0).val + x.val) :
    outsAt0 m c t (ix2 x y) = specM m c b r y := by
  rw [outs_eq, norm_apply]
  have e0 : (fun k => (iblk m c 0 t : FVec Ideal S1024x1024 .f32) (ix2 x k)) = fun k => (m ((c : Thread nD τ).loc main_arg0) : FVec Ideal S2x8192x1024 .f32) (ix3 b r k) :=
    funext fun k => blk0 m c t x k b r hr
  have e1 := funext fun k => blk1 m c t k b hb
  have e2 := funext fun k => blk2 m c t k b hb
  have e3 := funext fun k => blk3 m c t k b hb
  have e4 := funext fun k => blk4 m c t k
  have e5 := funext fun k => funext fun f => blk5 m c t k f
  have e6 := funext fun k => funext fun f => blk6 m c t k f
  have e7 := funext fun f => funext fun k => blk7 m c t f k
  have e8 := funext fun k => blk8 m c t k
  have eu : (fun k => Cert.Kernel2Ideal.Gen.k0_pay2 (F := Ideal) (iblk m c 0 t) (iblk m c 4 t) (iblk m c 1 t) (iblk m c 2 t) (ix2 x k)) = modRow _ _ _ _ :=
    funext fun k => mod_apply _ _ _ _ x k
  rw [e0, e4, e1, e2] at eu
  have eo : (fun y => outT (iblk m c 0 t) (actT (Cert.Kernel2Ideal.Gen.k0_pay2 (F := Ideal) (iblk m c 0 t) (iblk m c 4 t) (iblk m c 1 t) (iblk m c 2 t)) (iblk m c 5 t) (iblk m c 6 t)) (iblk m c 7 t) (iblk m c 3 t) (ix2 x y))
      = outRow _ _ (actRow (modRow _ _ _ _) _ _) _ := funext fun y => by
    show outRow (fun k => (iblk m c 0 t : FVec Ideal S1024x1024 .f32) (ix2 x k)) (fun k => (iblk m c 3 t : FVec Ideal S1x1x1024 .f32) (ix3 0 0 k))
      (actRow (fun k => Cert.Kernel2Ideal.Gen.k0_pay2 (F := Ideal) (iblk m c 0 t) (iblk m c 4 t) (iblk m c 1 t) (iblk m c 2 t) (ix2 x k))
        (fun k f => (iblk m c 5 t : FVec Ideal S1x1x1024x2816 .bf16) (ix4 0 0 k f)) (fun k f => (iblk m c 6 t : FVec Ideal S1x1x1024x2816 .bf16) (ix4 0 0 k f)))
      (fun f k => (iblk m c 7 t : FVec Ideal S1x1x2816x1024 .bf16) (ix4 0 0 f k)) y = _
    rw [e0, e3, eu, e5, e6, e7]
  rw [eo, e8]
  rfl

/-- The result array. -/
def kArr (S : Fin 2 → Fin 8192 → Fin 1024 → EReal) : FVec Ideal S16384x1024 .f32 := fun j =>
  S ⟨(j 0).val / 8192, by have := (j 0).isLt; change _ < 16384 at this; omega⟩ ⟨(j 0).val % 8192, by omega⟩ (j 1)

theorem final (c : Dev nD) : (dats m 0 c).arrAt 9 cfg0.N = kArr (specM m c) := by
  refine (dats m 0 c).arrAt_eq_of_covers 9 _ (by decide +kernel) fun t _ y => ?_
  blk_simp
  rw [after0_9]
  idx_vars y
  obtain ⟨-, -, -, -, -, -, -, -, -, i8, hc0⟩ := idx t
  have e0 : ((((View.whole main_v9).slice (win0_9.rect t)).emb (ix2 y0 y1)) 0).val = (grid0.coords t 0).val * 1024 + y0.val := by blk_simp [i8]
  have e1 : ((((View.whole main_v9).slice (win0_9.rect t)).emb (ix2 y0 y1)) 1).val = y1.val := by blk_simp [i8]
  refine (outs_entry m c t y0 y1 ⟨(grid0.coords t 0).val / 8, by omega⟩ ⟨(grid0.coords t 0).val % 8 * 1024 + y0.val, by omega⟩ rfl (by simp only; omega)).trans ?_
  unfold kArr
  have hsp : ∀ b b' r r' y y', b = b' → r = r' → y = y' → specM m c b r y = specM m c b' r' y' := by
    rintro b b' r r' y y' rfl rfl rfl; rfl
  refine hsp _ _ _ _ _ _ (Fin.ext ?_) (Fin.ext ?_) (Fin.ext e1.symm)
  · simp only [e0]; omega
  · simp only [e0]; omega

end Cert.Proof.Last

end
-- ==== Proof.GRef.lean ====
/- The reference of the feed-forward step that ends with the final norm, entry by entry. -/
module

public import proofs.«01_k».proof.Proof.GKArr
public import proofs.«01_k».proof.Proof.Gen.Reference3Ideal.Run

@[expose] public section

set_option maxRecDepth 16384

noncomputable section

namespace Cert.Proof.Last

open Cert.Reference3Ideal Cert.Reference3Ideal.Gen Cert.Reference3Ideal.Value
open Idealize.ShloMosaic Idealize.ShloMosaic.TcCoe Idealize.ShloMosaic.Tactic
open Cert.Proof.Ffn (modRow actRow outRow step colM)

/-- The normalised and modulated rows. -/
def rU (A0 : FVec Ideal S2x8192x1024 .f32) (A1 : FVec Ideal S2x9216 .f32) (A2 : FVec Ideal S2x3x1024 .f32) : FVec Ideal S2x8192x1024 .f32 :=
  (addf (mulf (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast _ (extractStridedSlice S1x1x1024 ![1, 2, 0] A2 slices_S2x3x1024_S1x1x1024_1_2_0) shapeCasts_S1x1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1x1024 ![0, 2, 1, 0] (shapeCast _ A1 shapeCasts_S2x9216_S2x3x3x1024) slices_S2x3x3x1024_S2x1x1x1024_0_2_1_0) shapeCasts_S2x1x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1x1024 ![0, 2, 0, 0] (shapeCast _ A1 shapeCasts_S2x9216_S2x3x3x1024) slices_S2x3x3x1024_S2x1x1x1024_0_2_0_0) shapeCasts_S2x1x1x1024_S2x1024))))

/-- The gated hidden rows. -/
def rH (U : FVec Ideal S2x8192x1024 .f32) (A3 : FVec Ideal S2x2x1024x2816 .f32) (A4 : FVec Ideal S2x2x1024x2816 .f32) : FVec Ideal S2x8192x2816 .f32 :=
  (mulf (mulf (Host.dotGeneral dot_S2x8192x1024_S1024x2816_S2x8192x2816_2_0_01_1_n_n none U (shapeCast _ (extractStridedSlice S1x1x1024x2816 ![1, 1, 0, 0] A3 slices_S2x2x1024x2816_S1x1x1024x2816_1_1_0_0) shapeCasts_S1x1x1024x2816_S1024x2816)) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none U (shapeCast _ (extractStridedSlice S1x1x1024x2816 ![1, 1, 0, 0] A3 slices_S2x2x1024x2816_S1x1x1024x2816_1_1_0_0) shapeCasts_S1x1x1024x2816_S1024x2816))))))) (Host.dotGeneral dot_S2x8192x1024_S1024x2816_S2x8192x2816_2_0_01_1_n_n none U (shapeCast _ (extractStridedSlice S1x1x1024x2816 ![1, 1, 0, 0] A4 slices_S2x2x1024x2816_S1x1x1024x2816_1_1_0_0) shapeCasts_S1x1x1024x2816_S1024x2816)))

/-- The rows after the step. -/
def rX (A0 : FVec Ideal S2x8192x1024 .f32) (A1 : FVec Ideal S2x9216 .f32) (H : FVec Ideal S2x8192x2816 .f32) (A5 : FVec Ideal S2x2x2816x1024 .f32) : FVec Ideal S2x8192x1024 .f32 :=
  (addf A0 (mulf (broadcastInDim S2x8192x1024 ![0, 1, 2] bcast_S2x1x1024_S2x8192x1024_0_1_2 (mulf (broadcastInDim S2x1x1024 ![] bcast_S_S2x1x1024 (constant S_ .f32 0x3F000000#32)) (broadcastInDim S2x1x1024 ![0, 2] bcast_S2x1024_S2x1x1024_0_2 (shapeCast _ (extractStridedSlice S2x1x1x1024 ![0, 2, 2, 0] (shapeCast _ A1 shapeCasts_S2x9216_S2x3x3x1024) slices_S2x3x3x1024_S2x1x1x1024_0_2_2_0) shapeCasts_S2x1x1x1024_S2x1024)))) (Host.dotGeneral dot_S2x8192x2816_S2816x1024_S2x8192x1024_2_0_01_1_n_n none H (shapeCast _ (extractStridedSlice S1x1x2816x1024 ![1, 1, 0, 0] A5 slices_S2x2x2816x1024_S1x1x2816x1024_1_1_0_0) shapeCasts_S1x1x2816x1024_S2816x1024))))

/-- The rows after the final norm, in one list. -/
def rO (X : FVec Ideal S2x8192x1024 .f32) (A6 : FVec Ideal S1024 .f32) : FVec Ideal S16384x1024 .f32 :=
  shapeCast _ (mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 A6))) shapeCasts_S2x8192x1024_S16384x1024

theorem rU_apply (A0 : FVec Ideal S2x8192x1024 .f32) (A1 : FVec Ideal S2x9216 .f32) (A2 : FVec Ideal S2x3x1024 .f32) (b : Fin 2) (r : Fin 8192) (k : Fin 1024) : rU A0 A1 A2 (ix3 b r k)
    = modRow (fun k => A0 (ix3 b r k)) (fun k => A2 (ix3 1 2 k)) (fun k => A1 (ix2 b (colM 6 k))) (fun k => A1 (ix2 b (colM 7 k))) k := by
  pointwise [rU, modRow]
  rw [show colM 7 k = ⟨7168 + k.val, by omega⟩ from Fin.ext (by simp [colM]), show colM 6 k = ⟨6144 + k.val, by omega⟩ from Fin.ext (by simp [colM])]

theorem rH_apply (U : FVec Ideal S2x8192x1024 .f32) (A3 : FVec Ideal S2x2x1024x2816 .f32) (A4 : FVec Ideal S2x2x1024x2816 .f32) (b : Fin 2) (r : Fin 8192) (f : Fin 2816) : rH U A3 A4 (ix3 b r f)
    = actRow (fun k => U (ix3 b r k)) (fun k f => A3 (ix4 1 1 k f)) (fun k f => A4 (ix4 1 1 k f)) f := by
  pointwise [rH, actRow]
  rfl

theorem seq_lt (R : Fin 16384) : R.val / 8192 < 2 := by omega
theorem pos_lt (R : Fin 16384) : R.val % 8192 < 8192 := by omega

theorem rX_apply (A0 : FVec Ideal S2x8192x1024 .f32) (A1 : FVec Ideal S2x9216 .f32) (H : FVec Ideal S2x8192x2816 .f32) (A5 : FVec Ideal S2x2x2816x1024 .f32) (b : Fin 2) (r : Fin 8192) (y : Fin 1024) : rX A0 A1 H A5 (ix3 b r y)
    = outRow (fun k => A0 (ix3 b r k)) (fun k => A1 (ix2 b (colM 8 k))) (fun f => H (ix3 b r f)) (fun f k => A5 (ix4 1 1 f k)) y := by
  pointwise [rX, outRow]
  rw [show colM 8 y = ⟨8192 + y.val, by omega⟩ from Fin.ext (by simp [colM])]

theorem rO_apply (X : FVec Ideal S2x8192x1024 .f32) (A6 : FVec Ideal S1024 .f32) (R : Fin 16384) (y : Fin 1024) (b : Fin 2) (r : Fin 8192)
    (hb : b.val = R.val / 8192) (hr : r.val = R.val % 8192) : rO X A6 (ix2 R y)
    = normRow (fun k => X (ix3 b r k)) (fun k => A6 (ix1 k)) y := by
  pointwise [rO, normRow]
  obtain rfl : b = ⟨R.val / 8192, seq_lt R⟩ := Fin.ext hb
  obtain rfl : r = ⟨R.val % 8192, pos_lt R⟩ := Fin.ext hr
  rfl

set_option maxHeartbeats 2000000 in
theorem res_eq (m : (ℓ : Loc nD τ sig) → Buf (Elt Ideal) ℓ) (c : Dev nD) :
    res_out0 (F := Ideal) m c = rO (rX (m ((c.tc : Thread nD τ).loc main_arg0)) (m ((c.tc : Thread nD τ).loc main_arg1)) (rH (rU (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4))) (m ((c.tc : Thread nD τ).loc main_arg5))) (m ((c.tc : Thread nD τ).loc main_arg6)) := by
  sl_kernel_rfl

/-- The reference's array. -/
theorem ref_arr (A0 : FVec Ideal S2x8192x1024 .f32) (A1 : FVec Ideal S2x9216 .f32) (A2 : FVec Ideal S2x3x1024 .f32) (A3 : FVec Ideal S2x2x1024x2816 .f32) (A4 : FVec Ideal S2x2x1024x2816 .f32) (A5 : FVec Ideal S2x2x2816x1024 .f32) (A6 : FVec Ideal S1024 .f32) : rO (rX A0 A1 (rH (rU A0 A1 A2) A3 A4) A5) A6 = kArr (spec A0 A1 A2 A3 A4 A5 A6) := by
  funext j
  idx_vars j
  rw [rO_apply _ A6 j0 j1 ⟨j0.val / 8192, by omega⟩ ⟨j0.val % 8192, by omega⟩ rfl rfl]
  have eh : (fun f => rH (rU A0 A1 A2) A3 A4 (ix3 ⟨j0.val / 8192, by omega⟩ ⟨j0.val % 8192, by omega⟩ f)) = actRow _ _ _ :=
    funext fun f => rH_apply (rU A0 A1 A2) A3 A4 _ _ f
  have eu : (fun k => rU A0 A1 A2 (ix3 ⟨j0.val / 8192, by omega⟩ ⟨j0.val % 8192, by omega⟩ k)) = modRow _ _ _ _ :=
    funext fun k => rU_apply A0 A1 A2 _ _ k
  have ex : (fun k => rX A0 A1 (rH (rU A0 A1 A2) A3 A4) A5 (ix3 ⟨j0.val / 8192, by omega⟩ ⟨j0.val % 8192, by omega⟩ k)) = outRow _ _ _ _ :=
    funext fun k => rX_apply A0 A1 _ A5 _ _ k
  rw [eu] at eh
  rw [ex, eh]
  rfl

end Cert.Proof.Last

end
-- ==== Proof.GValue.lean ====
/- The feed-forward step that ends with the final norm: the frames, and the value both programs end with. -/
module

public import proofs.«01_k».proof.Defs
public import proofs.«01_k».proof.Proof.Gen.Kernel3
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.GKArr
public import proofs.«01_k».proof.Proof.GRef
public import Idealize.ShloMosaic.Lib.Quiescent
public import Idealize.ShloMosaic.Lib.Tactic

@[expose] public section

noncomputable section

namespace Cert.Proof.Last

open Idealize.ShloMosaic Idealize.ShloMosaic.Tactic Idealize.SL.Sem

theorem frame_kernel3Ideal : Cert.quiescent_Kernel3Ideal := fun m ρ _ => Cert.Kernel3Ideal.Gen.frame (F := Ideal) m ρ

/-- The frame's statement for the idealized text, read over the machine's own floats. -/
def quiescentBits3 : Prop :=
  ∀ (m : (ℓ : Loc Cert.Kernel3Ideal.nD Cert.Kernel3Ideal.τ Cert.Kernel3Ideal.sig) → Buf (Elt Bits) ℓ) (g : Dev Cert.Kernel3Ideal.nD → PrngReg), True →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

theorem quiescentBits3_holds : quiescentBits3 := fun m ρ _ => Cert.Kernel3Ideal.Gen.frame (F := Bits) m ρ

/-- The two texts are one program over the machine's own floats. -/
theorem texts_same3 : Cert.quiescent_Kernel3 = quiescentBits3 := by sl_kernel_rfl

theorem frame_kernel3 : Cert.quiescent_Kernel3 := texts_same3 ▸ quiescentBits3_holds

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic3 : Cert.algebraic_Kernel3Ideal_Reference3Ideal := fun m g m' g' _ hargs => by
  refine ⟨fun c => kArr (specM m c), ?_, ?_⟩
  · exact (θ_run Cert.Kernel3Ideal.defs _ _).mono (fun r h c => ⟨(h c).1.trans (final m c), (h c).2⟩) (Cert.Kernel3Ideal.Value.run_blocks (F := Ideal) m g)
  · refine (θ_run Cert.Reference3Ideal.defs _ _).mono (fun r h c => ?_) (Cert.Reference3Ideal.Value.run (F := Ideal) m' g')
    obtain ⟨e0, e1, e2, e3, e4, e5, e6⟩ := hargs c
    refine ⟨(h c).1.trans ((res_eq m' c).trans ?_), (h c).2⟩
    rw [e0, e1, e2, e3, e4, e5, e6]
    exact ref_arr _ _ _ _ _ _ _

end Cert.Proof.Last

end
-- ==== Proof.HPay.lean ====
/- What the projection's pure sections compute, entry by entry. -/
module

public import proofs.«01_k».proof.Proof.FPay
public import proofs.«01_k».proof.Proof.Gen.Kernel4Ideal.Frame

@[expose] public section

set_option maxRecDepth 16384

noncomputable section

namespace Cert.Proof.Proj

open Cert.Kernel4Ideal Cert.Kernel4Ideal.Gen
open Cert.Proof.Ffn (modRow)
open Idealize.ShloMosaic Idealize.ShloMosaic.TcCoe Idealize.ShloMosaic.Tactic

/-- One projected column. -/
def projAt (u : Fin 1024 → EReal) (w : Fin 1024 → EReal) : EReal := ∑ k, u k * w k

/-- The rotary embedding of one row of eight heads of 64 columns: the first eight columns of a head are turned with the next eight, the other 48 are kept. -/
def turn (p : Fin 512 → EReal) (cs sn : Fin 8 → EReal) (n : Fin 512) : EReal :=
  if h : n.val % 64 < 8 then p n * cs ⟨n.val % 64, h⟩ - p ⟨n.val + 8, by omega⟩ * sn ⟨n.val % 64, h⟩
  else if h' : n.val % 64 < 16 then p n * cs ⟨n.val % 64 - 8, by omega⟩ + p ⟨n.val - 8, by omega⟩ * sn ⟨n.val % 64 - 8, by omega⟩
  else p n

theorem turn_first (p : Fin 512 → EReal) (cs sn : Fin 8 → EReal) (n m : Fin 512) (e : Fin 8) (hn : n.val % 64 = e.val) (hm : m.val = n.val + 8) :
    turn p cs sn n = p n * cs e - p m * sn e := by
  have h : n.val % 64 < 8 := by omega
  have ee : (⟨n.val % 64, h⟩ : Fin 8) = e := Fin.ext hn
  have em : (⟨n.val + 8, by omega⟩ : Fin 512) = m := Fin.ext hm.symm
  rw [turn, dif_pos h, ee, em]

theorem turn_next (p : Fin 512 → EReal) (cs sn : Fin 8 → EReal) (n m : Fin 512) (e : Fin 8) (hn : n.val % 64 = e.val + 8) (hm : m.val = n.val - 8) :
    turn p cs sn n = p n * cs e + p m * sn e := by
  have h : ¬ n.val % 64 < 8 := by omega
  have h' : n.val % 64 < 16 := by omega
  have ee : (⟨n.val % 64 - 8, by omega⟩ : Fin 8) = e := Fin.ext (by simp only; omega)
  have em : (⟨n.val - 8, by omega⟩ : Fin 512) = m := Fin.ext hm.symm
  rw [turn, dif_neg h, dif_pos h', ee, em]

theorem turn_rest (p : Fin 512 → EReal) (cs sn : Fin 8 → EReal) (n : Fin 512) (hn : 16 ≤ n.val % 64) : turn p cs sn n = p n := by
  rw [turn, dif_neg (by omega), dif_neg (by omega)]

/-- The turned lines, from the projected lines and the two tables. -/
def lines {F : FTy → Type} [FloatOps F] (Y : FVec F S512x512 .f32) (C S : FVec F S8x512 .f32) : FVec F S512x512 .f32 :=
  k0_pay3 Y (k0_pay15 C S (extractStridedSlice S8x512 ![0, 0] Y slices_S512x512_o0_0_S8x512) (extractStridedSlice S8x512 ![8, 0] Y
      slices_S512x512_o8_0_S8x512)) (k0_pay16 C S (extractStridedSlice S8x512 ![0, 0] Y slices_S512x512_o0_0_S8x512) (extractStridedSlice S8x512 ![8, 0] Y
      slices_S512x512_o8_0_S8x512)) (k0_pay17 Y) (k0_pay20 Y C S) (k0_pay21 Y C S) (k0_pay22 Y) (k0_pay25 Y C S) (k0_pay26 Y C S) (k0_pay27 Y) (k0_pay30 Y C
      S) (k0_pay31 Y C S) (k0_pay32 Y) (k0_pay35 Y C S) (k0_pay36 Y C S) (k0_pay37 Y) (k0_pay40 Y C S) (k0_pay41 Y C S) (k0_pay42 Y) (k0_pay45 Y C S)
      (k0_pay46 Y C S) (k0_pay1 C S (extractStridedSlice S8x512 ![448, 0] Y slices_S512x512_o448_0_S8x512) (extractStridedSlice S8x512 ![456, 0] Y
      slices_S512x512_o456_0_S8x512)) (k0_pay2 C S (extractStridedSlice S8x512 ![448, 0] Y slices_S512x512_o448_0_S8x512) (extractStridedSlice S8x512 ![456,
      0] Y slices_S512x512_o456_0_S8x512))

theorem proj_apply (h : FVec Ideal S512x1024 .f32) (g : FVec Ideal S1x1024 .f32) (b a : FVec Ideal S1x1x1024 .f32) (w : FVec Ideal S1024x512 .bf16) (n x : Fin 512) :
    k0_pay10 (F := Ideal) h g a b w (ix2 n x)
      = projAt (modRow (fun k => h (ix2 x k)) (fun k => g (ix2 0 k)) (fun k => a (ix3 0 0 k)) (fun k => b (ix3 0 0 k))) (fun k => w (ix2 k n)) := by
  unfold k0_pay10 k0_pay9 modRow projAt
  pointwise

theorem proj2_apply (h : FVec Ideal S512x1024 .f32) (g : FVec Ideal S1x1024 .f32) (b a : FVec Ideal S1x1x1024 .f32) (w : FVec Ideal S1024x512 .bf16) (n x : Fin 512) :
    k0_pay6 (F := Ideal) (k0_pay9 h g a b) w (ix2 n x)
      = projAt (modRow (fun k => h (ix2 x k)) (fun k => g (ix2 0 k)) (fun k => a (ix3 0 0 k)) (fun k => b (ix3 0 0 k))) (fun k => w (ix2 k n)) := by
  unfold k0_pay6 k0_pay9 modRow projAt
  pointwise

theorem off_axis {w : ℕ} (n x : Fin 512) (e : Fin w) (b : Fin (⟨2, ![w, 512]⟩ : Shape).rank) (hb : b.cast (rfl : (⟨2, ![w, 512]⟩ : Shape).rank = S512x512.rank) ≠ 0) :
    ((ix2 e x : (⟨2, ![w, 512]⟩ : Shape).Idx) b).val = ((ix2 n x : S512x512.Idx) (b.cast rfl)).val := by
  match b, hb with
  | ⟨0, _⟩, hb => exact absurd rfl hb
  | ⟨1, _⟩, _ => rfl

set_option maxHeartbeats 1000000 in
theorem piece0 (Y : FVec Ideal S512x512 .f32) (C S : FVec Ideal S8x512 .f32) (n x : Fin 512) (e : Fin 8) (hn : n.val = 0 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨0 + e.val, hlt⟩ x) 0 (by show 0 < 24; decide) S8x512 _ rfl rfl 0 (by sl_kernel_rfl) (ix2 e x) (off_axis _ _ _) rfl).trans ?_
  rw [turn_first _ _ _ ⟨0 + e.val, hlt⟩ ⟨8 + e.val, by omega⟩ e (by simp only; omega) (by simp only; omega)]
  pointwise [k0_pay15]

set_option maxHeartbeats 1000000 in
theorem piece1 (Y : FVec Ideal S512x512 .f32) (C S : FVec Ideal S8x512 .f32) (n x : Fin 512) (e : Fin 8) (hn : n.val = 8 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨8 + e.val, hlt⟩ x) 1 (by show 1 < 24; decide) S8x512 _ rfl rfl 8 (by sl_kernel_rfl) (ix2 e x) (off_axis _ _ _) rfl).trans ?_
  rw [turn_next _ _ _ ⟨8 + e.val, hlt⟩ ⟨0 + e.val, by omega⟩ e (by simp only; omega) (by simp only; omega)]
  pointwise [k0_pay16]

set_option maxHeartbeats 1000000 in
theorem piece2 (Y : FVec Ideal S512x512 .f32) (C S : FVec Ideal S8x512 .f32) (n x : Fin 512) (e : Fin 48) (hn : n.val = 16 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨16 + e.val, hlt⟩ x) 2 (by show 2 < 24; decide) S48x512 _ rfl rfl 16 (by sl_kernel_rfl) (ix2 e x) (off_axis _ _ _) rfl).trans ?_
  rw [turn_rest _ _ _ ⟨16 + e.val, hlt⟩ (by simp only; omega)]
  pointwise [k0_pay17]

set_option maxHeartbeats 1000000 in
theorem piece3 (Y : FVec Ideal S512x512 .f32) (C S : FVec Ideal S8x512 .f32) (n x : Fin 512) (e : Fin 8) (hn : n.val = 64 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨64 + e.val, hlt⟩ x) 3 (by show 3 < 24; decide) S8x512 _ rfl rfl 64 (by sl_kernel_rfl) (ix2 e x) (off_axis _ _ _) rfl).trans ?_
  rw [turn_first _ _ _ ⟨64 + e.val, hlt⟩ ⟨72 + e.val, by omega⟩ e (by simp only; omega) (by simp only; omega)]
  pointwise [k0_pay20, k0_pay18, k0_pay19]

set_option maxHeartbeats 1000000 in
theorem piece4 (Y : FVec Ideal S512x512 .f32) (C S : FVec Ideal S8x512 .f32) (n x : Fin 512) (e : Fin 8) (hn : n.val = 72 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨72 + e.val, hlt⟩ x) 4 (by show 4 < 24; decide) S8x512 _ rfl rfl 72 (by sl_kernel_rfl) (ix2 e x) (off_axis _ _ _) rfl).trans ?_
  rw [turn_next _ _ _ ⟨72 + e.val, hlt⟩ ⟨64 + e.val, by omega⟩ e (by simp only; omega) (by simp only; omega)]
  pointwise [k0_pay21, k0_pay18, k0_pay19]

set_option maxHeartbeats 1000000 in
theorem piece5 (Y : FVec Ideal S512x512 .f32) (C S : FVec Ideal S8x512 .f32) (n x : Fin 512) (e : Fin 48) (hn : n.val = 80 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨80 + e.val, hlt⟩ x) 5 (by show 5 < 24; decide) S48x512 _ rfl rfl 80 (by sl_kernel_rfl) (ix2 e x) (off_axis _ _ _) rfl).trans ?_
  rw [turn_rest _ _ _ ⟨80 + e.val, hlt⟩ (by simp only; omega)]
  pointwise [k0_pay22]

set_option maxHeartbeats 1000000 in
theorem piece6 (Y : FVec Ideal S512x512 .f32) (C S : FVec Ideal S8x512 .f32) (n x : Fin 512) (e : Fin 8) (hn : n.val = 128 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨128 + e.val, hlt⟩ x) 6 (by show 6 < 24; decide) S8x512 _ rfl rfl 128 (by sl_kernel_rfl) (ix2 e x) (off_axis _ _ _) rfl).trans ?_
  rw [turn_first _ _ _ ⟨128 + e.val, hlt⟩ ⟨136 + e.val, by omega⟩ e (by simp only; omega) (by simp only; omega)]
  pointwise [k0_pay25, k0_pay23, k0_pay24]

set_option maxHeartbeats 1000000 in
theorem piece7 (Y : FVec Ideal S512x512 .f32) (C S : FVec Ideal S8x512 .f32) (n x : Fin 512) (e : Fin 8) (hn : n.val = 136 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨136 + e.val, hlt⟩ x) 7 (by show 7 < 24; decide) S8x512 _ rfl rfl 136 (by sl_kernel_rfl) (ix2 e x) (off_axis _ _ _) rfl).trans ?_
  rw [turn_next _ _ _ ⟨136 + e.val, hlt⟩ ⟨128 + e.val, by omega⟩ e (by simp only; omega) (by simp only; omega)]
  pointwise [k0_pay26, k0_pay23, k0_pay24]

set_option maxHeartbeats 1000000 in
theorem piece8 (Y : FVec Ideal S512x512 .f32) (C S : FVec Ideal S8x512 .f32) (n x : Fin 512) (e : Fin 48) (hn : n.val = 144 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨144 + e.val, hlt⟩ x) 8 (by show 8 < 24; decide) S48x512 _ rfl rfl 144 (by sl_kernel_rfl) (ix2 e x) (off_axis _ _ _) rfl).trans ?_
  rw [turn_rest _ _ _ ⟨144 + e.val, hlt⟩ (by simp only; omega)]
  pointwise [k0_pay27]

set_option maxHeartbeats 1000000 in
theorem piece9 (Y : FVec Ideal S512x512 .f32) (C S : FVec Ideal S8x512 .f32) (n x : Fin 512) (e : Fin 8) (hn : n.val = 192 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨192 + e.val, hlt⟩ x) 9 (by show 9 < 24; decide) S8x512 _ rfl rfl 192 (by sl_kernel_rfl) (ix2 e x) (off_axis _ _ _) rfl).trans ?_
  rw [turn_first _ _ _ ⟨192 + e.val, hlt⟩ ⟨200 + e.val, by omega⟩ e (by simp only; omega) (by simp only; omega)]
  pointwise [k0_pay30, k0_pay28, k0_pay29]

set_option maxHeartbeats 1000000 in
theorem piece10 (Y : FVec Ideal S512x512 .f32) (C S : FVec Ideal S8x512 .f32) (n x : Fin 512) (e : Fin 8) (hn : n.val = 200 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨200 + e.val, hlt⟩ x) 10 (by show 10 < 24; decide) S8x512 _ rfl rfl 200 (by sl_kernel_rfl) (ix2 e x) (off_axis _ _ _) rfl).trans ?_
  rw [turn_next _ _ _ ⟨200 + e.val, hlt⟩ ⟨192 + e.val, by omega⟩ e (by simp only; omega) (by simp only; omega)]
  pointwise [k0_pay31, k0_pay28, k0_pay29]

set_option maxHeartbeats 1000000 in
theorem piece11 (Y : FVec Ideal S512x512 .f32) (C S : FVec Ideal S8x512 .f32) (n x : Fin 512) (e : Fin 48) (hn : n.val = 208 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨208 + e.val, hlt⟩ x) 11 (by show 11 < 24; decide) S48x512 _ rfl rfl 208 (by sl_kernel_rfl) (ix2 e x) (off_axis _ _ _) rfl).trans ?_
  rw [turn_rest _ _ _ ⟨208 + e.val, hlt⟩ (by simp only; omega)]
  pointwise [k0_pay32]

set_option maxHeartbeats 1000000 in
theorem piece12 (Y : FVec Ideal S512x512 .f32) (C S : FVec Ideal S8x512 .f32) (n x : Fin 512) (e : Fin 8) (hn : n.val = 256 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨256 + e.val, hlt⟩ x) 12 (by show 12 < 24; decide) S8x512 _ rfl rfl 256 (by sl_kernel_rfl) (ix2 e x) (off_axis _ _ _) rfl).trans ?_
  rw [turn_first _ _ _ ⟨256 + e.val, hlt⟩ ⟨264 + e.val, by omega⟩ e (by simp only; omega) (by simp only; omega)]
  pointwise [k0_pay35, k0_pay33, k0_pay34]

set_option maxHeartbeats 1000000 in
theorem piece13 (Y : FVec Ideal S512x512 .f32) (C S : FVec Ideal S8x512 .f32) (n x : Fin 512) (e : Fin 8) (hn : n.val = 264 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨264 + e.val, hlt⟩ x) 13 (by show 13 < 24; decide) S8x512 _ rfl rfl 264 (by sl_kernel_rfl) (ix2 e x) (off_axis _ _ _) rfl).trans ?_
  rw [turn_next _ _ _ ⟨264 + e.val, hlt⟩ ⟨256 + e.val, by omega⟩ e (by simp only; omega) (by simp only; omega)]
  pointwise [k0_pay36, k0_pay33, k0_pay34]

set_option maxHeartbeats 1000000 in
theorem piece14 (Y : FVec Ideal S512x512 .f32) (C S : FVec Ideal S8x512 .f32) (n x : Fin 512) (e : Fin 48) (hn : n.val = 272 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨272 + e.val, hlt⟩ x) 14 (by show 14 < 24; decide) S48x512 _ rfl rfl 272 (by sl_kernel_rfl) (ix2 e x) (off_axis _ _ _) rfl).trans ?_
  rw [turn_rest _ _ _ ⟨272 + e.val, hlt⟩ (by simp only; omega)]
  pointwise [k0_pay37]

set_option maxHeartbeats 1000000 in
theorem piece15 (Y : FVec Ideal S512x512 .f32) (C S : FVec Ideal S8x512 .f32) (n x : Fin 512) (e : Fin 8) (hn : n.val = 320 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨320 + e.val, hlt⟩ x) 15 (by show 15 < 24; decide) S8x512 _ rfl rfl 320 (by sl_kernel_rfl) (ix2 e x) (off_axis _ _ _) rfl).trans ?_
  rw [turn_first _ _ _ ⟨320 + e.val, hlt⟩ ⟨328 + e.val, by omega⟩ e (by simp only; omega) (by simp only; omega)]
  pointwise [k0_pay40, k0_pay38, k0_pay39]

set_option maxHeartbeats 1000000 in
theorem piece16 (Y : FVec Ideal S512x512 .f32) (C S : FVec Ideal S8x512 .f32) (n x : Fin 512) (e : Fin 8) (hn : n.val = 328 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨328 + e.val, hlt⟩ x) 16 (by show 16 < 24; decide) S8x512 _ rfl rfl 328 (by sl_kernel_rfl) (ix2 e x) (off_axis _ _ _) rfl).trans ?_
  rw [turn_next _ _ _ ⟨328 + e.val, hlt⟩ ⟨320 + e.val, by omega⟩ e (by simp only; omega) (by simp only; omega)]
  pointwise [k0_pay41, k0_pay38, k0_pay39]

set_option maxHeartbeats 1000000 in
theorem piece17 (Y : FVec Ideal S512x512 .f32) (C S : FVec Ideal S8x512 .f32) (n x : Fin 512) (e : Fin 48) (hn : n.val = 336 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨336 + e.val, hlt⟩ x) 17 (by show 17 < 24; decide) S48x512 _ rfl rfl 336 (by sl_kernel_rfl) (ix2 e x) (off_axis _ _ _) rfl).trans ?_
  rw [turn_rest _ _ _ ⟨336 + e.val, hlt⟩ (by simp only; omega)]
  pointwise [k0_pay42]

set_option maxHeartbeats 1000000 in
theorem piece18 (Y : FVec Ideal S512x512 .f32) (C S : FVec Ideal S8x512 .f32) (n x : Fin 512) (e : Fin 8) (hn : n.val = 384 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨384 + e.val, hlt⟩ x) 18 (by show 18 < 24; decide) S8x512 _ rfl rfl 384 (by sl_kernel_rfl) (ix2 e x) (off_axis _ _ _) rfl).trans ?_
  rw [turn_first _ _ _ ⟨384 + e.val, hlt⟩ ⟨392 + e.val, by omega⟩ e (by simp only; omega) (by simp only; omega)]
  pointwise [k0_pay45, k0_pay43, k0_pay44]

set_option maxHeartbeats 1000000 in
theorem piece19 (Y : FVec Ideal S512x512 .f32) (C S : FVec Ideal S8x512 .f32) (n x : Fin 512) (e : Fin 8) (hn : n.val = 392 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨392 + e.val, hlt⟩ x) 19 (by show 19 < 24; decide) S8x512 _ rfl rfl 392 (by sl_kernel_rfl) (ix2 e x) (off_axis _ _ _) rfl).trans ?_
  rw [turn_next _ _ _ ⟨392 + e.val, hlt⟩ ⟨384 + e.val, by omega⟩ e (by simp only; omega) (by simp only; omega)]
  pointwise [k0_pay46, k0_pay43, k0_pay44]

set_option maxHeartbeats 1000000 in
theorem piece20 (Y : FVec Ideal S512x512 .f32) (C S : FVec Ideal S8x512 .f32) (n x : Fin 512) (e : Fin 48) (hn : n.val = 400 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨400 + e.val, hlt⟩ x) 20 (by show 20 < 24; decide) S48x512 _ rfl rfl 400 (by sl_kernel_rfl) (ix2 e x) (off_axis _ _ _) rfl).trans ?_
  rw [turn_rest _ _ _ ⟨400 + e.val, hlt⟩ (by simp only; omega)]
  pointwise

set_option maxHeartbeats 1000000 in
theorem piece21 (Y : FVec Ideal S512x512 .f32) (C S : FVec Ideal S8x512 .f32) (n x : Fin 512) (e : Fin 8) (hn : n.val = 448 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨448 + e.val, hlt⟩ x) 21 (by show 21 < 24; decide) S8x512 _ rfl rfl 448 (by sl_kernel_rfl) (ix2 e x) (off_axis _ _ _) rfl).trans ?_
  rw [turn_first _ _ _ ⟨448 + e.val, hlt⟩ ⟨456 + e.val, by omega⟩ e (by simp only; omega) (by simp only; omega)]
  pointwise [k0_pay1]

set_option maxHeartbeats 1000000 in
theorem piece22 (Y : FVec Ideal S512x512 .f32) (C S : FVec Ideal S8x512 .f32) (n x : Fin 512) (e : Fin 8) (hn : n.val = 456 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨456 + e.val, hlt⟩ x) 22 (by show 22 < 24; decide) S8x512 _ rfl rfl 456 (by sl_kernel_rfl) (ix2 e x) (off_axis _ _ _) rfl).trans ?_
  rw [turn_next _ _ _ ⟨456 + e.val, hlt⟩ ⟨448 + e.val, by omega⟩ e (by simp only; omega) (by simp only; omega)]
  pointwise [k0_pay2]

set_option maxHeartbeats 1000000 in
theorem piece23 (Y : FVec Ideal S512x512 .f32) (C S : FVec Ideal S8x512 .f32) (n x : Fin 512) (e : Fin 48) (hn : n.val = 464 + e.val) :
    lines Y C S (ix2 n x) = turn (fun n => Y (ix2 n x)) (fun e => C (ix2 e x)) (fun e => S (ix2 e x)) n := by
  obtain ⟨n, hlt⟩ := n
  simp only at hn
  subst hn
  unfold lines k0_pay3
  refine (concatenate_apply_piece (t := S512x512) 0 _ _ (ix2 ⟨464 + e.val, hlt⟩ x) 23 (by show 23 < 24; decide) S48x512 _ rfl rfl 464 (by sl_kernel_rfl) (ix2 e x) (off_axis _ _ _) rfl).trans ?_
  rw [turn_rest _ _ _ ⟨464 + e.val, hlt⟩ (by simp only; omega)]
  pointwise

theorem lines_apply (Y : FVec Ideal S512x512 .f32) (C S : FVec Ideal S8x512 .f32) (n x : Fin 512) :
    lines Y C S (ix2 n x) = turn (fun n => Y (ix2 n x)) (fun e => C (ix2 e x)) (fun e => S (ix2 e x)) n := by
  have hn := n.isLt
  by_cases h0 : n.val < 8
  · exact piece0 Y C S n x ⟨n.val - 0, by omega⟩ (by simp only; omega)
  by_cases h1 : n.val < 16
  · exact piece1 Y C S n x ⟨n.val - 8, by omega⟩ (by simp only; omega)
  by_cases h2 : n.val < 64
  · exact piece2 Y C S n x ⟨n.val - 16, by omega⟩ (by simp only; omega)
  by_cases h3 : n.val < 72
  · exact piece3 Y C S n x ⟨n.val - 64, by omega⟩ (by simp only; omega)
  by_cases h4 : n.val < 80
  · exact piece4 Y C S n x ⟨n.val - 72, by omega⟩ (by simp only; omega)
  by_cases h5 : n.val < 128
  · exact piece5 Y C S n x ⟨n.val - 80, by omega⟩ (by simp only; omega)
  by_cases h6 : n.val < 136
  · exact piece6 Y C S n x ⟨n.val - 128, by omega⟩ (by simp only; omega)
  by_cases h7 : n.val < 144
  · exact piece7 Y C S n x ⟨n.val - 136, by omega⟩ (by simp only; omega)
  by_cases h8 : n.val < 192
  · exact piece8 Y C S n x ⟨n.val - 144, by omega⟩ (by simp only; omega)
  by_cases h9 : n.val < 200
  · exact piece9 Y C S n x ⟨n.val - 192, by omega⟩ (by simp only; omega)
  by_cases h10 : n.val < 208
  · exact piece10 Y C S n x ⟨n.val - 200, by omega⟩ (by simp only; omega)
  by_cases h11 : n.val < 256
  · exact piece11 Y C S n x ⟨n.val - 208, by omega⟩ (by simp only; omega)
  by_cases h12 : n.val < 264
  · exact piece12 Y C S n x ⟨n.val - 256, by omega⟩ (by simp only; omega)
  by_cases h13 : n.val < 272
  · exact piece13 Y C S n x ⟨n.val - 264, by omega⟩ (by simp only; omega)
  by_cases h14 : n.val < 320
  · exact piece14 Y C S n x ⟨n.val - 272, by omega⟩ (by simp only; omega)
  by_cases h15 : n.val < 328
  · exact piece15 Y C S n x ⟨n.val - 320, by omega⟩ (by simp only; omega)
  by_cases h16 : n.val < 336
  · exact piece16 Y C S n x ⟨n.val - 328, by omega⟩ (by simp only; omega)
  by_cases h17 : n.val < 384
  · exact piece17 Y C S n x ⟨n.val - 336, by omega⟩ (by simp only; omega)
  by_cases h18 : n.val < 392
  · exact piece18 Y C S n x ⟨n.val - 384, by omega⟩ (by simp only; omega)
  by_cases h19 : n.val < 400
  · exact piece19 Y C S n x ⟨n.val - 392, by omega⟩ (by simp only; omega)
  by_cases h20 : n.val < 448
  · exact piece20 Y C S n x ⟨n.val - 400, by omega⟩ (by simp only; omega)
  by_cases h21 : n.val < 456
  · exact piece21 Y C S n x ⟨n.val - 448, by omega⟩ (by simp only; omega)
  by_cases h22 : n.val < 464
  · exact piece22 Y C S n x ⟨n.val - 456, by omega⟩ (by simp only; omega)
  exact piece23 Y C S n x ⟨n.val - 464, by omega⟩ (by simp only; omega)

end Cert.Proof.Proj

end
-- ==== Proof.HBlk.lean ====
/- The blocks the projection stores at a grid point, and its operands' blocks read in the arguments. -/
module

public import proofs.«01_k».proof.Proof.HPay
public import proofs.«01_k».proof.Proof.FBlk

@[expose] public section

set_option maxRecDepth 16384

noncomputable section

namespace Cert.Proof.Proj

open Cert.Kernel4Ideal Cert.Kernel4Ideal.Gen
open Cert.Proof.Ffn (modRow zero2 zero3)
open Idealize.ShloMosaic Idealize.ShloMosaic.TcCoe Idealize.ShloMosaic.Tactic Idealize.SL.Sem

theorem ld_x (X : S512x1024.Idx → Elt Ideal .f32) : View.ld X r0_0 = X := View.ld_unit_zero (S := S512x1024) zero2 inb_S512x1024_S512x1024_0_0 X
theorem ld_g (X : S1x1024.Idx → Elt Ideal .f32) : View.ld X r0_1 = X := View.ld_unit_zero (S := S1x1024) zero2 inb_S1x1024_S1x1024_0_0 X
theorem ld_m (X : S1x1x1024.Idx → Elt Ideal .f32) : View.ld X r0_2 = X := View.ld_unit_zero (S := S1x1x1024) zero3 inb_S1x1x1024_S1x1x1024_0_0_0 X
theorem ld_t (X : S8x512.Idx → Elt Ideal .f32) : View.ld X r0_4 = X := View.ld_unit_zero (S := S8x512) zero2 inb_S8x512_S8x512_0_0 X

/-- Column `n` of half `o` of the weights. -/
def colW (o : Fin 2) (n : Fin 512) : Fin 1024 := ⟨512 * o.val + n.val, by omega⟩

theorem ld_w0 (W : FVec Ideal S1024x1024 .bf16) (k : Fin 1024) (n : Fin 512) : View.ld (Val := Elt Ideal) (e' := .bf16) W r0_3 (ix2 k n) = W (ix2 k (colW 0 n)) := by
  refine congrArg W (funext fun a => Fin.ext ?_)
  match a with
  | ⟨0, _⟩ => exact (Nat.zero_add _).trans (Nat.one_mul _)
  | ⟨1, _⟩ => exact congrArg (0 + ·) (Nat.one_mul _)

theorem ld_w1 (W : FVec Ideal S1024x1024 .bf16) (k : Fin 1024) (n : Fin 512) : View.ld (Val := Elt Ideal) (e' := .bf16) W r0_7 (ix2 k n) = W (ix2 k (colW 1 n)) := by
  refine congrArg W (funext fun a => Fin.ext ?_)
  match a with
  | ⟨0, _⟩ => exact (Nat.zero_add _).trans (Nat.one_mul _)
  | ⟨1, _⟩ => exact congrArg (512 + ·) (Nat.one_mul _)

section
variable (x0 : FVec Ideal S512x1024 .f32) (x1 x2 : FVec Ideal S1x1x1024 .f32) (x3 : FVec Ideal S1x1024 .f32) (x4 : FVec Ideal S1024x1024 .bf16)
  (x5 x6 x7 : FVec Ideal S512x128 .f32) (x8 x9 : FVec Ideal S8x512 .f32)

/-- Row `x` of the tile, normalised and modulated. -/
def rowAt (x : Fin 512) : Fin 1024 → EReal := modRow (fun k => x0 (ix2 x k)) (fun k => x3 (ix2 0 k)) (fun k => x1 (ix3 0 0 k)) (fun k => x2 (ix3 0 0 k))

/-- A turned entry of the tile. -/
def kAt (x n : Fin 512) : EReal :=
  turn (fun n => projAt (rowAt x0 x1 x2 x3 x) (fun k => x4 (ix2 k (colW 0 n)))) (fun e => x8 (ix2 e x)) (fun e => x9 (ix2 e x)) n

/-- An entry of the tile's second half. -/
def vAt (x n : Fin 512) : EReal := projAt (rowAt x0 x1 x2 x3 x) (fun k => x4 (ix2 k (colW 1 n)))

theorem lines_eq : k0_pay55 (F := Ideal) x0 x1 x2 x3 x4 x5 x6 x7 x8 x9
    = lines (k0_pay10 (F := Ideal) (View.ld x0 r0_0) (View.ld x3 r0_1) (View.ld x1 r0_2) (View.ld x2 r0_2) (View.ld x4 r0_3)) (k0_pay11 (F := Ideal) (View.ld x8 r0_4)) (k0_pay12 (F := Ideal) (View.ld x9 r0_4)) := by
  sl_kernel_rfl

theorem tab_cos (X : FVec Ideal S8x512 .f32) (e : Fin 8) (x : Fin 512) : k0_pay11 (F := Ideal) X (ix2 e x) = X (ix2 e x) := by
  pointwise [k0_pay11]

theorem tab_sin (X : FVec Ideal S8x512 .f32) (e : Fin 8) (x : Fin 512) : k0_pay12 (F := Ideal) X (ix2 e x) = X (ix2 e x) := by
  pointwise [k0_pay12]

theorem line_apply (n x : Fin 512) : k0_pay55 (F := Ideal) x0 x1 x2 x3 x4 x5 x6 x7 x8 x9 (ix2 n x) = kAt x0 x1 x2 x3 x4 x8 x9 x n := by
  rw [lines_eq, lines_apply, ld_x, ld_g, ld_m, ld_m, ld_t, ld_t]
  have e1 : (fun n => k0_pay10 (F := Ideal) x0 x3 x1 x2 (View.ld x4 r0_3) (ix2 n x)) = fun n => projAt (rowAt x0 x1 x2 x3 x) (fun k => x4 (ix2 k (colW 0 n))) :=
    funext fun n => (proj_apply x0 x3 x2 x1 _ n x).trans (congrArg (projAt _) (funext fun k => ld_w0 x4 k n))
  have e2 : (fun e => k0_pay11 (F := Ideal) x8 (ix2 e x)) = fun e => x8 (ix2 e x) := funext fun e => tab_cos x8 e x
  have e3 : (fun e => k0_pay12 (F := Ideal) x9 (ix2 e x)) = fun e => x9 (ix2 e x) := funext fun e => tab_sin x9 e x
  rw [e1, e2, e3]
  rfl

theorem line2_apply (n x : Fin 512) : k0_pay6 (F := Ideal) (k0_pay47 (F := Ideal) x0 x1 x2 x3 x4 x5 x6 x7 x8 x9) (View.ld x4 r0_7) (ix2 n x) = vAt x0 x1 x2 x3 x4 x n := by
  unfold k0_pay47
  rw [ld_x, ld_g, ld_m, ld_m]
  exact (proj2_apply x0 x3 x2 x1 _ n x).trans (congrArg (projAt _) (funext fun k => ld_w1 x4 k n))

theorem pay4_apply (L : FVec Ideal S512x512 .f32) (x n : Fin 512) : k0_pay4 (F := Ideal) L (ix2 x n) = L (ix2 n x) := by
  pointwise [k0_pay4]

theorem pay5_apply (L : FVec Ideal S512x512 .f32) (x n : Fin 512) : k0_pay5 (F := Ideal) L (ix3 0 n x) = L (ix2 n x) := by
  pointwise [k0_pay5]

theorem pay7_eq (U : FVec Ideal S512x1024 .bf16) (W : FVec Ideal S1024x512 .bf16) : k0_pay7 (F := Ideal) U W = k0_pay4 (k0_pay6 U W) := rfl
theorem pay8_eq (U : FVec Ideal S512x1024 .bf16) (W : FVec Ideal S1024x512 .bf16) : k0_pay8 (F := Ideal) U W = k0_pay5 (k0_pay6 U W) := rfl

theorem canon5 (w : S512x512.Idx → Elt Ideal .f32) : View.canon [(⟨r0_5, w⟩ : View.Piece (Elt Ideal) S512x512 .f32)] = w :=
  View.canon_cons_unit_zero (S := S512x512) zero2 inb_S512x512_S512x512_0_0 w []
theorem canon6 (w : S1x512x512.Idx → Elt Ideal .f32) : View.canon [(⟨r0_6, w⟩ : View.Piece (Elt Ideal) S1x512x512 .f32)] = w :=
  View.canon_cons_unit_zero (S := S1x512x512) zero3 inb_S1x512x512_S1x512x512_0_0_0 w []

theorem out10 (x n : Fin 512) : out0_10 (F := Ideal) x0 x1 x2 x3 x4 x5 x6 x7 x8 x9 (ix2 x n) = kAt x0 x1 x2 x3 x4 x8 x9 x n := by
  unfold out0_10
  rw [canon5, pay4_apply, line_apply]

theorem out11 (x n : Fin 512) : out0_11 (F := Ideal) x0 x1 x2 x3 x4 x5 x6 x7 x8 x9 (ix3 0 n x) = kAt x0 x1 x2 x3 x4 x8 x9 x n := by
  unfold out0_11
  rw [canon6, pay5_apply, line_apply]

theorem out12 (x n : Fin 512) : out0_12 (F := Ideal) x0 x1 x2 x3 x4 x5 x6 x7 x8 x9 (ix2 x n) = vAt x0 x1 x2 x3 x4 x n := by
  unfold out0_12
  rw [canon5, pay7_eq, pay4_apply, line2_apply]

theorem out13 (x n : Fin 512) : out0_13 (F := Ideal) x0 x1 x2 x3 x4 x5 x6 x7 x8 x9 (ix3 0 n x) = vAt x0 x1 x2 x3 x4 x n := by
  unfold out0_13
  rw [canon6, pay8_eq, pay5_apply, line2_apply]

end

end Cert.Proof.Proj

end
-- ==== Proof.HBlocks.lean ====
/- The operands' blocks of a grid point of the projection, read at their entries in the arguments. -/
module

public import proofs.«01_k».proof.Proof.HBlk
public import proofs.«01_k».proof.Proof.Gen.Kernel4Ideal.Value

@[expose] public section

set_option maxRecDepth 16384

noncomputable section

namespace Cert.Proof.Proj

open Cert.Kernel4Ideal Cert.Kernel4Ideal.Gen
open Idealize.ShloMosaic Idealize.ShloMosaic.TcCoe Idealize.SL.Sem
open Idealize.ShloMosaic.Pipeline (Dat)

variable (m : (ℓ : Loc nD τ sig) → Buf (Elt Ideal) ℓ)

/-- The blocks' indices at a grid point. -/
theorem idx : ∀ t : Fin cfg0.N,
    win0_0.index t = ![(grid0.coords t 0).val, 0]
    ∧ win0_1.index t = ![(grid0.coords t 0).val / 16, 0, 0]
    ∧ win0_2.index t = ![(grid0.coords t 0).val / 16, 0, 1]
    ∧ win0_3.index t = ![0, 0]
    ∧ win0_4.index t = ![0, 0]
    ∧ win0_8.index t = ![0, (grid0.coords t 0).val % 16]
    ∧ win0_9.index t = ![0, (grid0.coords t 0).val % 16]
    ∧ win0_10.index t = ![(grid0.coords t 0).val, 0]
    ∧ win0_11.index t = ![(grid0.coords t 0).val / 16, 0, (grid0.coords t 0).val % 16]
    ∧ win0_12.index t = ![(grid0.coords t 0).val, 0]
    ∧ win0_13.index t = ![(grid0.coords t 0).val / 16, 0, (grid0.coords t 0).val % 16]
    ∧ (grid0.coords t 0).val < 32 :=
  (by decide +kernel : ∀ t : Fin grid0.N, _)

/-- Column `k` of half `n` of the modulation. -/
def colK (n : Fin 2) (k : Fin 1024) : Fin 2048 := ⟨1024 * n.val + k.val, by omega⟩

/-- The angle of frequency `e` at position `r`. -/
def angle (r : Fin 8192) (e : Fin 8) : EReal :=
  (FloatOps.sitofp (F := Ideal) (w := 32) FTy.f32 (BitVec.ofNat 32 r.val) : EReal) * Ideal.pow (Ideal.ofBits FTy.f32 1223959552#32)
    (Ideal.div (-(FloatOps.sitofp (F := Ideal) (w := 32) FTy.f32 (BitVec.ofNat 32 e.val) : EReal)) (Ideal.ofBits FTy.f32 1090519040#32))

theorem blk0 (c : Dev nD) (t : Fin cfg0.N) (x : Fin 512) (k : Fin 1024) (b : Fin 2) (r : Fin 8192)
    (hb : 8192 * b.val + r.val = 512 * (grid0.coords t 0).val + x.val) :
    (iblk m c 0 t : FVec Ideal S512x1024 .f32) (ix2 x k) = (m ((c : Thread nD τ).loc main_arg0) : FVec Ideal S2x8192x1024 .f32) (ix3 b r k) := by
  blk_simp [iblk, idx t]
  entry_read
  pointwise
  blk_ext [idx t]

theorem blk1 (c : Dev nD) (t : Fin cfg0.N) (k : Fin 1024) (b : Fin 2) (hb : b.val = (grid0.coords t 0).val / 16) :
    (iblk m c 1 t : FVec Ideal S1x1x1024 .f32) (ix3 0 0 k) = (m ((c : Thread nD τ).loc main_arg1) : FVec Ideal S2x2048 .f32) (ix2 b (colK 0 k)) := by
  blk_simp [iblk, idx t]
  entry_read
  pointwise
  blk_ext [idx t, colK]

theorem blk2 (c : Dev nD) (t : Fin cfg0.N) (k : Fin 1024) (b : Fin 2) (hb : b.val = (grid0.coords t 0).val / 16) :
    (iblk m c 2 t : FVec Ideal S1x1x1024 .f32) (ix3 0 0 k) = (m ((c : Thread nD τ).loc main_arg1) : FVec Ideal S2x2048 .f32) (ix2 b (colK 1 k)) := by
  blk_simp [iblk, idx t]
  entry_read
  pointwise
  blk_ext [idx t, colK]

theorem blk3 (c : Dev nD) (t : Fin cfg0.N) (k : Fin 1024) :
    (iblk m c 3 t : FVec Ideal S1x1024 .f32) (ix2 0 k) = (m ((c : Thread nD τ).loc main_arg2) : FVec Ideal S1024 .f32) (ix1 k) := by
  blk_simp [iblk, idx t]
  entry_read
  pointwise
  blk_ext [idx t]

theorem blk4 (c : Dev nD) (t : Fin cfg0.N) (k n : Fin 1024) :
    (iblk m c 4 t : FVec Ideal S1024x1024 .bf16) (ix2 k n) = (m ((c : Thread nD τ).loc main_arg3) : FVec Ideal S1024x1024 .f32) (ix2 k n) := by
  blk_simp [iblk, idx t]
  entry_read
  pointwise
  blk_ext [idx t]

theorem blk8 (c : Dev nD) (t : Fin cfg0.N) (e : Fin 8) (x : Fin 512) (r : Fin 8192) (hr : r.val = (grid0.coords t 0).val % 16 * 512 + x.val) :
    (iblk m c 8 t : FVec Ideal S8x512 .f32) (ix2 e x) = (Ideal.cos (angle r e) : EReal) := by
  blk_simp [iblk, idx t]
  entry_read
  pointwise
  blk_simp [idx t]
  rw [angle, hr]

theorem blk9 (c : Dev nD) (t : Fin cfg0.N) (e : Fin 8) (x : Fin 512) (r : Fin 8192) (hr : r.val = (grid0.coords t 0).val % 16 * 512 + x.val) :
    (iblk m c 9 t : FVec Ideal S8x512 .f32) (ix2 e x) = (Ideal.sin (angle r e) : EReal) := by
  blk_simp [iblk, idx t]
  entry_read
  pointwise
  blk_simp [idx t]
  rw [angle, hr]

end Cert.Proof.Proj

end
-- ==== Proof.HKArr.lean ====
/- The four arrays the projection leaves. -/
module

public import proofs.«01_k».proof.Proof.HBlocks

@[expose] public section

set_option maxRecDepth 16384

noncomputable section

namespace Cert.Proof.Proj

open Idealize.ShloMosaic Idealize.ShloMosaic.TcCoe Idealize.SL.Sem
open Idealize.ShloMosaic.Pipeline (Dat)
open Cert.Proof.Ffn (modRow)

/-- One row of the input, normalised and modulated. -/
def rowOf (x : FVec Ideal ⟨3, ![2, 8192, 1024]⟩ .f32) (md : FVec Ideal ⟨2, ![2, 2048]⟩ .f32) (g : FVec Ideal ⟨1, ![1024]⟩ .f32) (b : Fin 2) (r : Fin 8192) : Fin 1024 → EReal :=
  modRow (fun k => x (ix3 b r k)) (fun k => g (ix1 k)) (fun k => md (ix2 b (colK 0 k))) (fun k => md (ix2 b (colK 1 k)))

/-- The keys: the first half of the projection, turned by position. -/
def specK (x : FVec Ideal ⟨3, ![2, 8192, 1024]⟩ .f32) (md : FVec Ideal ⟨2, ![2, 2048]⟩ .f32) (g : FVec Ideal ⟨1, ![1024]⟩ .f32) (w : FVec Ideal ⟨2, ![1024, 1024]⟩ .f32)
    (b : Fin 2) (r : Fin 8192) (n : Fin 512) : EReal :=
  turn (fun n => projAt (rowOf x md g b r) (fun k => w (ix2 k (colW 0 n)))) (fun e => Ideal.cos (angle r e)) (fun e => Ideal.sin (angle r e)) n

/-- The values: the second half of the projection. -/
def specV (x : FVec Ideal ⟨3, ![2, 8192, 1024]⟩ .f32) (md : FVec Ideal ⟨2, ![2, 2048]⟩ .f32) (g : FVec Ideal ⟨1, ![1024]⟩ .f32) (w : FVec Ideal ⟨2, ![1024, 1024]⟩ .f32)
    (b : Fin 2) (r : Fin 8192) (n : Fin 512) : EReal :=
  projAt (rowOf x md g b r) (fun k => w (ix2 k (colW 1 n)))

/-- A result laid out by rows. -/
def rowsArr (S : Fin 2 → Fin 8192 → Fin 512 → EReal) : FVec Ideal ⟨2, ![16384, 512]⟩ .f32 := fun j =>
  S ⟨(j 0).val / 8192, by have := (j 0).isLt; change _ < 16384 at this; omega⟩ ⟨(j 0).val % 8192, by omega⟩ (j 1)

/-- A result laid out by columns. -/
def colsArr (S : Fin 2 → Fin 8192 → Fin 512 → EReal) : FVec Ideal ⟨3, ![2, 512, 8192]⟩ .f32 := fun j => S (j 0) (j 2) (j 1)

open Cert.Kernel4Ideal Cert.Kernel4Ideal.Gen

variable (m : (ℓ : Loc nD τ sig) → Buf (Elt Ideal) ℓ)

/-- The keys over the launch contents. -/
def specKM (c : Dev nD) : Fin 2 → Fin 8192 → Fin 512 → EReal :=
  specK (m ((c : Thread nD τ).loc main_arg0)) (m ((c : Thread nD τ).loc main_arg1)) (m ((c : Thread nD τ).loc main_arg2)) (m ((c : Thread nD τ).loc main_arg3))

/-- The values over the launch contents. -/
def specVM (c : Dev nD) : Fin 2 → Fin 8192 → Fin 512 → EReal :=
  specV (m ((c : Thread nD τ).loc main_arg0)) (m ((c : Thread nD τ).loc main_arg1)) (m ((c : Thread nD τ).loc main_arg2)) (m ((c : Thread nD τ).loc main_arg3))

theorem row_entry (c : Dev nD) (t : Fin cfg0.N) (x : Fin 512) (b : Fin 2) (r : Fin 8192)
    (hb : b.val = (grid0.coords t 0).val / 16) (hr : r.val = (grid0.coords t 0).val % 16 * 512 + x.val) :
    rowAt (iblk m c 0 t) (iblk m c 1 t) (iblk m c 2 t) (iblk m c 3 t) x
      = rowOf (m ((c : Thread nD τ).loc main_arg0)) (m ((c : Thread nD τ).loc main_arg1)) (m ((c : Thread nD τ).loc main_arg2)) b r := by
  have e0 := funext fun k => blk0 m c t x k b r (by omega)
  have e1 := funext fun k => blk1 m c t k b hb
  have e2 := funext fun k => blk2 m c t k b hb
  have e3 := funext fun k => blk3 m c t k
  unfold rowAt rowOf
  rw [e0, e1, e2, e3]

theorem k_entry (c : Dev nD) (t : Fin cfg0.N) (x n : Fin 512) (b : Fin 2) (r : Fin 8192)
    (hb : b.val = (grid0.coords t 0).val / 16) (hr : r.val = (grid0.coords t 0).val % 16 * 512 + x.val) :
    kAt (iblk m c 0 t) (iblk m c 1 t) (iblk m c 2 t) (iblk m c 3 t) (iblk m c 4 t) (iblk m c 8 t) (iblk m c 9 t) x n = specKM m c b r n := by
  have e4 : (fun n : Fin 512 => fun k => (iblk m c 4 t : FVec Ideal S1024x1024 .bf16) (ix2 k (colW 0 n))) = _ := funext fun n => funext fun k => blk4 m c t k (colW 0 n)
  have e8 := funext fun e => blk8 m c t e x r hr
  have e9 := funext fun e => blk9 m c t e x r hr
  unfold kAt specKM specK
  rw [row_entry m c t x b r hb hr, e8, e9]
  exact congrArg (fun W : Fin 512 → Fin 1024 → EReal => turn (fun n => projAt (rowOf _ _ _ b r) (W n)) _ _ n) e4

theorem v_entry (c : Dev nD) (t : Fin cfg0.N) (x n : Fin 512) (b : Fin 2) (r : Fin 8192)
    (hb : b.val = (grid0.coords t 0).val / 16) (hr : r.val = (grid0.coords t 0).val % 16 * 512 + x.val) :
    vAt (iblk m c 0 t) (iblk m c 1 t) (iblk m c 2 t) (iblk m c 3 t) (iblk m c 4 t) x n = specVM m c b r n := by
  unfold vAt specVM specV
  rw [row_entry m c t x b r hb hr]
  exact congrArg (projAt _) (funext fun k => blk4 m c t k (colW 1 n))

theorem arg_eq (S : Fin 2 → Fin 8192 → Fin 512 → EReal) : ∀ b b' r r' n n', b = b' → r = r' → n = n' → S b r n = S b' r' n' := by
  rintro b b' r r' n n' rfl rfl rfl; rfl

theorem final10 (c : Dev nD) : (dats m 0 c).arrAt 10 cfg0.N = rowsArr (specKM m c) := by
  refine (dats m 0 c).arrAt_eq_of_covers 10 _ (by decide +kernel) fun t _ y => ?_
  blk_simp
  rw [after0_10]
  idx_vars y
  obtain ⟨-, -, -, -, -, -, -, i10, -, -, -, hc0⟩ := idx t
  have e0 : ((((View.whole main_v38_0).slice (win0_10.rect t)).emb (ix2 y0 y1)) 0).val = (grid0.coords t 0).val * 512 + y0.val := by blk_simp [i10]
  have e1 : ((((View.whole main_v38_0).slice (win0_10.rect t)).emb (ix2 y0 y1)) 1).val = y1.val := by blk_simp [i10]
  refine (out10 _ _ _ _ _ _ _ _ _ _ y0 y1).trans ((k_entry m c t y0 y1 ⟨(grid0.coords t 0).val / 16, by omega⟩ ⟨(grid0.coords t 0).val % 16 * 512 + y0.val, by omega⟩ rfl rfl).trans ?_)
  unfold rowsArr
  refine arg_eq _ _ _ _ _ _ _ (Fin.ext ?_) (Fin.ext ?_) (Fin.ext e1.symm)
  · simp only [e0]; omega
  · simp only [e0]; omega

theorem final12 (c : Dev nD) : (dats m 0 c).arrAt 12 cfg0.N = rowsArr (specVM m c) := by
  refine (dats m 0 c).arrAt_eq_of_covers 12 _ (by decide +kernel) fun t _ y => ?_
  blk_simp
  rw [after0_12]
  idx_vars y
  obtain ⟨-, -, -, -, -, -, -, -, -, i12, -, hc0⟩ := idx t
  have e0 : ((((View.whole main_v38_2).slice (win0_12.rect t)).emb (ix2 y0 y1)) 0).val = (grid0.coords t 0).val * 512 + y0.val := by blk_simp [i12]
  have e1 : ((((View.whole main_v38_2).slice (win0_12.rect t)).emb (ix2 y0 y1)) 1).val = y1.val := by blk_simp [i12]
  refine (out12 _ _ _ _ _ _ _ _ _ _ y0 y1).trans ((v_entry m c t y0 y1 ⟨(grid0.coords t 0).val / 16, by omega⟩ ⟨(grid0.coords t 0).val % 16 * 512 + y0.val, by omega⟩ rfl rfl).trans ?_)
  unfold rowsArr
  refine arg_eq _ _ _ _ _ _ _ (Fin.ext ?_) (Fin.ext ?_) (Fin.ext e1.symm)
  · simp only [e0]; omega
  · simp only [e0]; omega

theorem final11 (c : Dev nD) : (dats m 0 c).arrAt 11 cfg0.N = colsArr (specKM m c) := by
  refine (dats m 0 c).arrAt_eq_of_covers 11 _ (by decide +kernel) fun t _ y => ?_
  blk_simp
  rw [after0_11]
  idx_vars y
  obtain rfl : y0 = 0 := Subsingleton.elim _ _
  obtain ⟨-, -, -, -, -, -, -, -, i11, -, -, hc0⟩ := idx t
  have e0 : ((((View.whole main_v38_1).slice (win0_11.rect t)).emb (ix3 0 y1 y2)) 0).val = (grid0.coords t 0).val / 16 := by blk_simp [i11]; rfl
  have e1 : ((((View.whole main_v38_1).slice (win0_11.rect t)).emb (ix3 0 y1 y2)) 1).val = y1.val := by blk_simp [i11]
  have e2 : ((((View.whole main_v38_1).slice (win0_11.rect t)).emb (ix3 0 y1 y2)) 2).val = (grid0.coords t 0).val % 16 * 512 + y2.val := by blk_simp [i11]
  refine (out11 _ _ _ _ _ _ _ _ _ _ y2 y1).trans ((k_entry m c t y2 y1 ⟨(grid0.coords t 0).val / 16, by omega⟩ ⟨(grid0.coords t 0).val % 16 * 512 + y2.val, by omega⟩ rfl rfl).trans ?_)
  unfold colsArr
  exact arg_eq _ _ _ _ _ _ _ (Fin.ext e0.symm) (Fin.ext e2.symm) (Fin.ext e1.symm)

theorem final13 (c : Dev nD) : (dats m 0 c).arrAt 13 cfg0.N = colsArr (specVM m c) := by
  refine (dats m 0 c).arrAt_eq_of_covers 13 _ (by decide +kernel) fun t _ y => ?_
  blk_simp
  rw [after0_13]
  idx_vars y
  obtain rfl : y0 = 0 := Subsingleton.elim _ _
  obtain ⟨-, -, -, -, -, -, -, -, -, -, i13, hc0⟩ := idx t
  have e0 : ((((View.whole main_v38_3).slice (win0_13.rect t)).emb (ix3 0 y1 y2)) 0).val = (grid0.coords t 0).val / 16 := by blk_simp [i13]; rfl
  have e1 : ((((View.whole main_v38_3).slice (win0_13.rect t)).emb (ix3 0 y1 y2)) 1).val = y1.val := by blk_simp [i13]
  have e2 : ((((View.whole main_v38_3).slice (win0_13.rect t)).emb (ix3 0 y1 y2)) 2).val = (grid0.coords t 0).val % 16 * 512 + y2.val := by blk_simp [i13]
  refine (out13 _ _ _ _ _ _ _ _ _ _ y2 y1).trans ((v_entry m c t y2 y1 ⟨(grid0.coords t 0).val / 16, by omega⟩ ⟨(grid0.coords t 0).val % 16 * 512 + y2.val, by omega⟩ rfl rfl).trans ?_)
  unfold colsArr
  exact arg_eq _ _ _ _ _ _ _ (Fin.ext e0.symm) (Fin.ext e2.symm) (Fin.ext e1.symm)

end Cert.Proof.Proj

end
-- ==== Proof.HRef.lean ====
/- The reference of the projection, entry by entry. -/
module

public import proofs.«01_k».proof.Proof.HKArr
public import proofs.«01_k».proof.Proof.Gen.Reference4Ideal.Run
public import Idealize.ShloMosaic.Lib.Tactic

@[expose] public section

set_option maxRecDepth 16384

noncomputable section

namespace Cert.Proof.Proj

open Cert.Reference4Ideal Cert.Reference4Ideal.Gen Cert.Reference4Ideal.Value
open Idealize.ShloMosaic Idealize.ShloMosaic.TcCoe Idealize.ShloMosaic.Tactic
open Cert.Proof.Ffn (modRow)

/-- The normalised and modulated rows. -/
def rU (A0 : FVec Ideal S2x8192x1024 .f32) (A1 : FVec Ideal S2x2048 .f32) (A2 : FVec Ideal S1024 .f32) : FVec Ideal S2x8192x1024 .f32 :=
  (addf (mulf (mulf (mulf A0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf A0 A0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 A2))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (shapeCast _ (extractStridedSlice S2x1x1024 ![0, 1, 0] (shapeCast _ A1 shapeCasts_S2x2048_S2x2x1024) slices_S2x2x1024_S2x1x1024_0_1_0) shapeCasts_S2x1x1024_S2x1024))))) (broadcastInDim S2x8192x1024 ![0, 1, 2] bcast_S2x1x1024_S2x8192x1024_0_1_2 (broadcastInDim S2x1x1024 ![0, 2] bcast_S2x1024_S2x1x1024_0_2 (shapeCast _ (extractStridedSlice S2x1x1024 ![0, 0, 0] (shapeCast _ A1 shapeCasts_S2x2048_S2x2x1024) slices_S2x2x1024_S2x1x1024_0_0_0) shapeCasts_S2x1x1024_S2x1024))))

/-- Their projection. -/
def rP (U : FVec Ideal S2x8192x1024 .f32) (A3 : FVec Ideal S1024x1024 .f32) : FVec Ideal S2x8192x1024 .f32 :=
  (Host.dotGeneral dot_S2x8192x1024_S1024x1024_S2x8192x1024_2_0_01_1_n_n none U A3)

/-- The cosines of the angles. -/
def rC : FVec Ideal S1x8192x1x8 .f32 :=
  (shapeCast _ (Host.cos (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))) shapeCasts_S8192x8_S1x8192x1x8)

/-- The sines of the angles. -/
def rS : FVec Ideal S1x8192x1x8 .f32 :=
  (shapeCast _ (Host.sin (mulf (broadcastInDim S8192x8 ![0, 1] bcast_S8192x1_S8192x8_0_1 (broadcastInDim S8192x1 ![0] bcast_S8192_S8192x1_0 (sitofp .f32 (iotaInDim S8192 32 0)))) (broadcastInDim S8192x8 ![0, 1] bcast_S1x8_S8192x8_0_1 (broadcastInDim S1x8 ![1] bcast_S8_S1x8_1 (Host.powf (broadcastInDim S8 ![] bcast_S_S8 (constant S_ .f32 0x48F42400#32)) (Host.divf (Host.negf (sitofp .f32 (iotaInDim S8 32 0))) (broadcastInDim S8 ![] bcast_S_S8 (constant S_ .f32 0x41000000#32)))))))) shapeCasts_S8192x8_S1x8192x1x8)

/-- The key heads of the projection. -/
def rHead0 (P : FVec Ideal S2x8192x1024 .f32) : FVec Ideal S2x8192x8x64 .f32 :=
  (shapeCast _ (extractStridedSlice S2x8192x1x8x64 ![0, 0, 0, 0, 0] (shapeCast _ P shapeCasts_S2x8192x1024_S2x8192x2x8x64) slices_S2x8192x2x8x64_S2x8192x1x8x64_0_0_0_0_0) shapeCasts_S2x8192x1x8x64_S2x8192x8x64)

/-- The value heads of the projection. -/
def rHead1 (P : FVec Ideal S2x8192x1024 .f32) : FVec Ideal S2x8192x8x64 .f32 :=
  (shapeCast _ (extractStridedSlice S2x8192x1x8x64 ![0, 0, 1, 0, 0] (shapeCast _ P shapeCasts_S2x8192x1024_S2x8192x2x8x64) slices_S2x8192x2x8x64_S2x8192x1x8x64_0_0_1_0_0) shapeCasts_S2x8192x1x8x64_S2x8192x8x64)

/-- The turned first numbers of the heads. -/
def rFirst (X : FVec Ideal S2x8192x8x64 .f32) (C S : FVec Ideal S1x8192x1x8 .f32) : FVec Ideal S2x8192x8x8 .f32 :=
  (subf (mulf (extractStridedSlice S2x8192x8x8 ![0, 0, 0, 0] X slices_S2x8192x8x64_S2x8192x8x8_0_0_0_0) (broadcastInDim S2x8192x8x8 ![0, 1, 2, 3] bcast_S1x8192x1x8_S2x8192x8x8_0_1_2_3 C)) (mulf (extractStridedSlice S2x8192x8x8 ![0, 0, 0, 8] X slices_S2x8192x8x64_S2x8192x8x8_0_0_0_8) (broadcastInDim S2x8192x8x8 ![0, 1, 2, 3] bcast_S1x8192x1x8_S2x8192x8x8_0_1_2_3 S)))

/-- The turned next numbers of the heads. -/
def rNext (X : FVec Ideal S2x8192x8x64 .f32) (C S : FVec Ideal S1x8192x1x8 .f32) : FVec Ideal S2x8192x8x8 .f32 :=
  (addf (mulf (extractStridedSlice S2x8192x8x8 ![0, 0, 0, 8] X slices_S2x8192x8x64_S2x8192x8x8_0_0_0_8) (broadcastInDim S2x8192x8x8 ![0, 1, 2, 3] bcast_S1x8192x1x8_S2x8192x8x8_0_1_2_3 C)) (mulf (extractStridedSlice S2x8192x8x8 ![0, 0, 0, 0] X slices_S2x8192x8x64_S2x8192x8x8_0_0_0_0) (broadcastInDim S2x8192x8x8 ![0, 1, 2, 3] bcast_S1x8192x1x8_S2x8192x8x8_0_1_2_3 S)))

/-- The other numbers of the heads. -/
def rRest (X : FVec Ideal S2x8192x8x64 .f32) : FVec Ideal S2x8192x8x48 .f32 :=
  (extractStridedSlice S2x8192x8x48 ![0, 0, 0, 16] X slices_S2x8192x8x64_S2x8192x8x48_0_0_0_16)

/-- The turned heads. -/
def rTurn (X : FVec Ideal S2x8192x8x64 .f32) (C S : FVec Ideal S1x8192x1x8 .f32) : FVec Ideal S2x8192x8x64 .f32 :=
  concatenate S2x8192x8x64 3 [⟨S2x8192x8x8, rFirst X C S⟩, ⟨S2x8192x8x8, rNext X C S⟩, ⟨S2x8192x8x48, rRest X⟩] concatenates_S2x8192x8x8_S2x8192x8x8_S2x8192x8x48_S2x8192x8x64_d3

/-- Heads laid out by rows. -/
def rRows (X : FVec Ideal S2x8192x8x64 .f32) : FVec Ideal S16384x512 .f32 := shapeCast _ X shapeCasts_S2x8192x8x64_S16384x512

/-- Heads laid out by columns. -/
def rCols (X : FVec Ideal S2x8192x8x64 .f32) : FVec Ideal S2x512x8192 .f32 :=
  shapeCast _ (transpose S2x8x64x8192 [0, 2, 3, 1] X transposes_S2x8192x8x64_S2x8x64x8192_0_2_3_1) shapeCasts_S2x8x64x8192_S2x512x8192

theorem rU_apply (A0 : FVec Ideal S2x8192x1024 .f32) (A1 : FVec Ideal S2x2048 .f32) (A2 : FVec Ideal S1024 .f32) (b : Fin 2) (r : Fin 8192) (k : Fin 1024) :
    rU A0 A1 A2 (ix3 b r k) = rowOf A0 A1 A2 b r k := by
  pointwise [rU, rowOf, modRow]
  rw [show colK 1 k = ⟨1024 + k.val, by omega⟩ from Fin.ext (by simp [colK]), show colK 0 k = ⟨k.val, by omega⟩ from Fin.ext (by simp [colK])]

theorem rP_apply (U : FVec Ideal S2x8192x1024 .f32) (A3 : FVec Ideal S1024x1024 .f32) (b : Fin 2) (r : Fin 8192) (n : Fin 1024) :
    rP U A3 (ix3 b r n) = projAt (fun k => U (ix3 b r k)) (fun k => A3 (ix2 k n)) := by
  pointwise [rP, projAt]

theorem rC_apply (r : Fin 8192) (e : Fin 8) : rC (ix4 0 r 0 e) = Ideal.cos (angle r e) := by
  pointwise [rC, angle]

theorem rS_apply (r : Fin 8192) (e : Fin 8) : rS (ix4 0 r 0 e) = Ideal.sin (angle r e) := by
  pointwise [rS, angle]

/-- A number of a head, among the numbers of all heads. -/
def ofHead (h : Fin 8) (d : Fin 64) : Fin 512 := ⟨64 * h.val + d.val, by omega⟩

theorem rHead0_apply (P : FVec Ideal S2x8192x1024 .f32) (b : Fin 2) (r : Fin 8192) (h : Fin 8) (d : Fin 64) :
    rHead0 P (ix4 b r h d) = P (ix3 b r (colW 0 (ofHead h d))) := by
  pointwise [rHead0]
  refine congrArg (fun n => P (ix3 b r n)) (Fin.ext ?_)
  simp [colW, ofHead]
  try omega

theorem rHead1_apply (P : FVec Ideal S2x8192x1024 .f32) (b : Fin 2) (r : Fin 8192) (h : Fin 8) (d : Fin 64) :
    rHead1 P (ix4 b r h d) = P (ix3 b r (colW 1 (ofHead h d))) := by
  pointwise [rHead1]
  refine congrArg (fun n => P (ix3 b r n)) (Fin.ext ?_)
  simp [colW, ofHead]
  try omega

theorem rRows_apply (X : FVec Ideal S2x8192x8x64 .f32) (R : Fin 16384) (n : Fin 512) (b : Fin 2) (r : Fin 8192) (h : Fin 8) (d : Fin 64)
    (hb : b.val = R.val / 8192) (hr : r.val = R.val % 8192) (hh : h.val = n.val / 64) (hd : d.val = n.val % 64) : rRows X (ix2 R n) = X (ix4 b r h d) := by
  pointwise [rRows]
  refine congrArg X ?_
  congr 1 <;> refine Fin.ext ?_ <;> simp only <;> omega

theorem rCols_apply (X : FVec Ideal S2x8192x8x64 .f32) (b : Fin 2) (n : Fin 512) (r : Fin 8192) (h : Fin 8) (d : Fin 64)
    (hh : h.val = n.val / 64) (hd : d.val = n.val % 64) : rCols X (ix3 b n r) = X (ix4 b r h d) := by
  pointwise [rCols]
  refine congrArg X ?_
  congr 1 <;> refine Fin.ext ?_ <;> simp only <;> omega

theorem off_last {w : ℕ} (b : Fin 2) (r : Fin 8192) (h : Fin 8) (d : Fin 64) (e : Fin w) (a : Fin (⟨4, ![2, 8192, 8, w]⟩ : Shape).rank)
    (ha : a.cast (rfl : (⟨4, ![2, 8192, 8, w]⟩ : Shape).rank = S2x8192x8x64.rank) ≠ 3) :
    ((ix4 b r h e : (⟨4, ![2, 8192, 8, w]⟩ : Shape).Idx) a).val = ((ix4 b r h d : S2x8192x8x64.Idx) (a.cast rfl)).val := by
  match a, ha with
  | ⟨0, _⟩, _ => rfl
  | ⟨1, _⟩, _ => rfl
  | ⟨2, _⟩, _ => rfl
  | ⟨3, _⟩, ha => exact absurd rfl ha

theorem rTurn_apply (X : FVec Ideal S2x8192x8x64 .f32) (C S : FVec Ideal S1x8192x1x8 .f32) (p : Fin 512 → EReal) (b : Fin 2) (r : Fin 8192) (h : Fin 8) (d : Fin 64)
    (hp : ∀ d, X (ix4 b r h d) = p (ofHead h d)) :
    rTurn X C S (ix4 b r h d) = turn p (fun e => C (ix4 0 r 0 e)) (fun e => S (ix4 0 r 0 e)) (ofHead h d) := by
  rcases Nat.lt_or_ge d.val 8 with h8 | h8
  · obtain ⟨e, he⟩ : ∃ e : Fin 8, d.val = 0 + e.val := ⟨⟨d.val, h8⟩, by simp only; omega⟩
    obtain ⟨d, hlt⟩ := d
    simp only at he
    subst he
    refine (concatenate_apply_piece (t := S2x8192x8x64) 3 _ _ (ix4 b r h ⟨0 + e.val, by omega⟩) 0 (by show 0 < 3; decide) S2x8192x8x8 _ rfl rfl 0 (by sl_kernel_rfl) (ix4 b r h e) (off_last _ _ _ _ _) rfl).trans ?_
    rw [turn_first p _ _ (ofHead h ⟨0 + e.val, by omega⟩) (ofHead h ⟨8 + e.val, by omega⟩) e (by simp only [ofHead]; omega) (by simp only [ofHead]; omega), ← hp, ← hp]
    pointwise [rFirst]
  rcases Nat.lt_or_ge d.val 16 with h16 | h16
  · obtain ⟨e, he⟩ : ∃ e : Fin 8, d.val = 8 + e.val := ⟨⟨d.val - 8, by omega⟩, by simp only; omega⟩
    obtain ⟨d, hlt⟩ := d
    simp only at he
    subst he
    refine (concatenate_apply_piece (t := S2x8192x8x64) 3 _ _ (ix4 b r h ⟨8 + e.val, by omega⟩) 1 (by show 1 < 3; decide) S2x8192x8x8 _ rfl rfl 8 (by sl_kernel_rfl) (ix4 b r h e) (off_last _ _ _ _ _) rfl).trans ?_
    rw [turn_next p _ _ (ofHead h ⟨8 + e.val, by omega⟩) (ofHead h ⟨0 + e.val, by omega⟩) e (by simp only [ofHead]; omega) (by simp only [ofHead]; omega), ← hp, ← hp]
    pointwise [rNext]
  · obtain ⟨e, he⟩ : ∃ e : Fin 48, d.val = 16 + e.val := ⟨⟨d.val - 16, by omega⟩, by simp only; omega⟩
    obtain ⟨d, hlt⟩ := d
    simp only at he
    subst he
    refine (concatenate_apply_piece (t := S2x8192x8x64) 3 _ _ (ix4 b r h ⟨16 + e.val, by omega⟩) 2 (by show 2 < 3; decide) S2x8192x8x48 _ rfl rfl 16 (by sl_kernel_rfl) (ix4 b r h e) (off_last _ _ _ _ _) rfl).trans ?_
    rw [turn_rest p _ _ (ofHead h ⟨16 + e.val, by omega⟩) (by simp only [ofHead]; omega), ← hp]
    pointwise [rRest]

theorem rK_entry (A0 : FVec Ideal S2x8192x1024 .f32) (A1 : FVec Ideal S2x2048 .f32) (A2 : FVec Ideal S1024 .f32) (A3 : FVec Ideal S1024x1024 .f32) (b : Fin 2) (r : Fin 8192) (h : Fin 8) (d : Fin 64) :
    rTurn (rHead0 (rP (rU A0 A1 A2) A3)) rC rS (ix4 b r h d) = specK A0 A1 A2 A3 b r (ofHead h d) := by
  have eU : (fun k => rU A0 A1 A2 (ix3 b r k)) = rowOf A0 A1 A2 b r := funext fun k => rU_apply A0 A1 A2 b r k
  have eC : (fun e => rC (ix4 0 r 0 e)) = _ := funext fun e => rC_apply r e
  have eS : (fun e => rS (ix4 0 r 0 e)) = _ := funext fun e => rS_apply r e
  rw [rTurn_apply _ rC rS (fun n => projAt (rowOf A0 A1 A2 b r) (fun k => A3 (ix2 k (colW 0 n)))) b r h d
    (fun d => (rHead0_apply _ b r h d).trans ((rP_apply _ A3 b r _).trans (by rw [eU]))), eC, eS]
  rfl

theorem rV_entry (A0 : FVec Ideal S2x8192x1024 .f32) (A1 : FVec Ideal S2x2048 .f32) (A2 : FVec Ideal S1024 .f32) (A3 : FVec Ideal S1024x1024 .f32) (b : Fin 2) (r : Fin 8192) (h : Fin 8) (d : Fin 64) :
    rHead1 (rP (rU A0 A1 A2) A3) (ix4 b r h d) = specV A0 A1 A2 A3 b r (ofHead h d) := by
  have eU : (fun k => rU A0 A1 A2 (ix3 b r k)) = rowOf A0 A1 A2 b r := funext fun k => rU_apply A0 A1 A2 b r k
  rw [rHead1_apply, rP_apply, eU]
  rfl

theorem head_of (n : Fin 512) : ofHead ⟨n.val / 64, by omega⟩ ⟨n.val % 64, by omega⟩ = n := Fin.ext (by simp only [ofHead]; omega)

theorem rows_eq (X : FVec Ideal S2x8192x8x64 .f32) (V : Fin 2 → Fin 8192 → Fin 512 → EReal) (hX : ∀ b r h d, X (ix4 b r h d) = V b r (ofHead h d)) : rRows X = rowsArr V := by
  funext j
  idx_vars j
  rw [rRows_apply X j0 j1 ⟨j0.val / 8192, by omega⟩ ⟨j0.val % 8192, by omega⟩ ⟨j1.val / 64, by omega⟩ ⟨j1.val % 64, by omega⟩ rfl rfl rfl rfl, hX, head_of]
  rfl

theorem cols_eq (X : FVec Ideal S2x8192x8x64 .f32) (V : Fin 2 → Fin 8192 → Fin 512 → EReal) (hX : ∀ b r h d, X (ix4 b r h d) = V b r (ofHead h d)) : rCols X = colsArr V := by
  funext j
  idx_vars j
  rw [rCols_apply X j0 j1 j2 ⟨j1.val / 64, by omega⟩ ⟨j1.val % 64, by omega⟩ rfl rfl, hX, head_of]
  rfl

/-- The reference's projection over the launch contents. -/
def rPm (m : (ℓ : Loc nD τ sig) → Buf (Elt Ideal) ℓ) (c : Dev nD) : FVec Ideal S2x8192x1024 .f32 :=
  rP (rU (m ((c.tc : Thread nD τ).loc main_arg0)) (m ((c.tc : Thread nD τ).loc main_arg1)) (m ((c.tc : Thread nD τ).loc main_arg2))) (m ((c.tc : Thread nD τ).loc main_arg3))

set_option maxHeartbeats 2000000 in
theorem res_rows (m : (ℓ : Loc nD τ sig) → Buf (Elt Ideal) ℓ) (c : Dev nD) :
    res_main_v63 (F := Ideal) m c = rRows (rTurn (rHead0 (rPm m c)) rC rS) := by
  sl_kernel_rfl

set_option maxHeartbeats 2000000 in
theorem res_cols (m : (ℓ : Loc nD τ sig) → Buf (Elt Ideal) ℓ) (c : Dev nD) :
    res_main_v65 (F := Ideal) m c = rCols (rTurn (rHead0 (rPm m c)) rC rS) := by
  sl_kernel_rfl

end Cert.Proof.Proj

end
-- ==== Proof.HValue.lean ====
/- The projection: the frames, and the value both programs end with. -/
module

public import proofs.«01_k».proof.Defs
public import proofs.«01_k».proof.Proof.Gen.Kernel4
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.HKArr
public import proofs.«01_k».proof.Proof.HRef
public import Idealize.ShloMosaic.Lib.Quiescent
public import Idealize.ShloMosaic.Lib.Tactic

@[expose] public section

noncomputable section

namespace Cert.Proof.Proj

open Idealize.ShloMosaic Idealize.ShloMosaic.Tactic Idealize.SL.Sem

theorem frame_kernel4Ideal : Cert.quiescent_Kernel4Ideal := fun m ρ _ => Cert.Kernel4Ideal.Gen.frame (F := Ideal) m ρ

/-- The frame's statement for the idealized text, read over the machine's own floats. -/
def quiescentBits4 : Prop :=
  ∀ (m : (ℓ : Loc Cert.Kernel4Ideal.nD Cert.Kernel4Ideal.τ Cert.Kernel4Ideal.sig) → Buf (Elt Bits) ℓ) (g : Dev Cert.Kernel4Ideal.nD → PrngReg), True →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

theorem quiescentBits4_holds : quiescentBits4 := fun m ρ _ => Cert.Kernel4Ideal.Gen.frame (F := Bits) m ρ

/-- The two texts are one program over the machine's own floats. -/
theorem texts_same4 : Cert.quiescent_Kernel4 = quiescentBits4 := by sl_kernel_rfl

theorem frame_kernel4 : Cert.quiescent_Kernel4 := texts_same4 ▸ quiescentBits4_holds

theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

theorem algebraic4 : Cert.algebraic_Kernel4Ideal_Reference4Ideal := fun m g m' g' _ hargs => by
  refine ⟨fun c => rowsArr (specKM m c), fun c => colsArr (specKM m c), fun c => rowsArr (specVM m c), fun c => colsArr (specVM m c), ?_, ?_⟩
  · refine (θ_run Cert.Kernel4Ideal.defs _ _).mono (fun r h c => ?_) (Cert.Kernel4Ideal.Value.run_blocks (F := Ideal) m g)
    obtain ⟨h0, h1, h2, h3, hk⟩ := h c
    exact ⟨h0.trans (final10 m c), h1.trans (final11 m c), h2.trans (final12 m c), h3.trans (final13 m c), hk⟩
  · refine (θ_run Cert.Reference4Ideal.defs _ _).mono (fun r h c => ?_) (Cert.Reference4Ideal.Value.run (F := Ideal) m' g')
    obtain ⟨e0, e1, e2, e3⟩ := hargs c
    obtain ⟨h0, h1, h2, h3, hk⟩ := h c
    have hK : ∀ b r h d, rTurn (rHead0 (rPm m' c)) rC rS (ix4 b r h d) = specKM m c b r (ofHead h d) := by
      intro b r h d
      unfold rPm
      rw [e0, e1, e2, e3]
      exact rK_entry _ _ _ _ b r h d
    have hV : ∀ b r h d, rHead1 (rPm m' c) (ix4 b r h d) = specVM m c b r (ofHead h d) := by
      intro b r h d
      unfold rPm
      rw [e0, e1, e2, e3]
      exact rV_entry _ _ _ _ b r h d
    exact ⟨h0.trans ((res_rows m' c).trans (rows_eq _ _ hK)), h1.trans ((res_cols m' c).trans (cols_eq _ _ hK)),
      h2.trans (rows_eq (rHead1 (rPm m' c)) _ hV), h3.trans (cols_eq (rHead1 (rPm m' c)) _ hV), hk⟩

end Cert.Proof.Proj

end
-- ==== Proof.lean ====
/- The certificate's claims, assembled. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Frames
public import proofs.«01_k».proof.Proof.Value
public import proofs.«01_k».proof.Proof.FValue
public import proofs.«01_k».proof.Proof.GValue
public import proofs.«01_k».proof.Proof.HValue

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, preFacts,
    frame_kernel, frame_kernelIdeal, fun m ρ _ => frame_kernelIdeal m ρ trivial,
    frame_reference, fun m ρ _ => frame_reference m ρ trivial,
    Ffn.frame_kernel2, Ffn.frame_kernel2Ideal, Ffn.frame_reference2,
    Last.frame_kernel3, Last.frame_kernel3Ideal, Last.frame_reference3,
    Proj.frame_kernel4, Proj.frame_kernel4Ideal, Proj.frame_reference4, preserves,
    (letI := preFacts; algebraic), trivial, Ffn.algebraic2, trivial, Last.algebraic3, trivial, Proj.algebraic4⟩

end Cert.Proof

end
